-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_packed [hPre_packed : Cert.Pre_packed.Facts] (m : (ℓ : Loc Cert.KernelIdeal.nD Cert.KernelIdeal.τ Cert.KernelIdeal.sig) → Buf (Elt Ideal) ℓ) : Prop :=
  ∀ c : Dev Cert.KernelIdeal.nD,
    (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.2.2.1 = (fun _ => 1#1)
    ∧ (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_packed [hPre_packed : Cert.Pre_packed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.2.2.1 = (fun _ => 1#1)
    ∧ (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.2.2.2 = (fun _ => 1#1)

def Pre_Kernel2 [hPre_experts_exist : Cert.Pre_experts_exist.Facts] (m : (ℓ : Loc Cert.Kernel2.nD Cert.Kernel2.τ Cert.Kernel2.sig) → Buf (Elt Bits) ℓ) : Prop :=
  ∀ c : Dev Cert.Kernel2.nD,
    (Cert.Pre_experts_exist.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))) = (fun _ => 1#1)

def Pre_Kernel2Ideal [hPre_experts_exist : Cert.Pre_experts_exist.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_exist.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_exist [hPre_experts_exist : Cert.Pre_experts_exist.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_exist.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_packed [hKernelIdeal : Cert.KernelIdeal.Facts] [hPre_packed : Cert.Pre_packed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_packed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_packed [hReferenceIdeal : Cert.ReferenceIdeal.Facts] [hPre_packed : Cert.Pre_packed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_packed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_experts_exist : Cert.Pre_experts_exist.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] [hPre_experts_exist : Cert.Pre_experts_exist.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_experts_exist [hReference2Ideal : Cert.Reference2Ideal.Facts] [hPre_experts_exist : Cert.Pre_experts_exist.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_exist m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def preserves_Kernel_KernelIdeal : Prop :=
  True

def algebraic_KernelIdeal_ReferenceIdeal_pre_packed [hKernelIdeal : Cert.KernelIdeal.Facts] [hReferenceIdeal : Cert.ReferenceIdeal.Facts] [hPre_packed : Cert.Pre_packed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_packed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] [hPre_experts_exist : Cert.Pre_experts_exist.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_packed : Cert.Pre_packed.Facts) (hPre_experts_exist : Cert.Pre_experts_exist.Facts),
    quiescent_Kernel (hKernel := hKernel)
    ∧ quiescent_KernelIdeal (hKernelIdeal := hKernelIdeal)
    ∧ quiescent_KernelIdeal_pre_packed (hKernelIdeal := hKernelIdeal) (hPre_packed := hPre_packed)
    ∧ quiescent_ReferenceIdeal (hReferenceIdeal := hReferenceIdeal)
    ∧ quiescent_ReferenceIdeal_pre_packed (hReferenceIdeal := hReferenceIdeal) (hPre_packed := hPre_packed)
    ∧ quiescent_Kernel2 (hKernel2 := hKernel2) (hPre_experts_exist := hPre_experts_exist)
    ∧ quiescent_Kernel2Ideal (hKernel2Ideal := hKernel2Ideal) (hPre_experts_exist := hPre_experts_exist)
    ∧ quiescent_Reference2Ideal (hReference2Ideal := hReference2Ideal)
    ∧ quiescent_Reference2Ideal_pre_experts_exist (hReference2Ideal := hReference2Ideal) (hPre_experts_exist := hPre_experts_exist)
    ∧ preserves_Kernel_KernelIdeal
    ∧ algebraic_KernelIdeal_ReferenceIdeal_pre_packed (hKernelIdeal := hKernelIdeal) (hReferenceIdeal := hReferenceIdeal) (hPre_packed := hPre_packed)
    ∧ preserves_Kernel2_Kernel2Ideal
    ∧ algebraic_Kernel2Ideal_Reference2Ideal (hKernel2Ideal := hKernel2Ideal) (hReference2Ideal := hReference2Ideal) (hPre_experts_exist := hPre_experts_exist)
-- ==== Pre_experts_exist.lean ====
abbrev S163840x1024 : Shape := ⟨2, ![163840, 1024]⟩
abbrev S160 : Shape := ⟨1, ![160]⟩
abbrev S1 : Shape := ⟨1, ![1]⟩
abbrev S32x1024x1024 : Shape := ⟨3, ![32, 1024, 1024]⟩
abbrev S32x1024 : Shape := ⟨2, ![32, 1024]⟩
abbrev S_ : Shape := ⟨0, ![]⟩

class Facts : Prop where
  shapeCasts_S1_S_ : S1.ShapeCasts S_
  bcast_S_S160 : S_.BroadcastsInDim S160 (![] : Fin 0 → Fin S160.rank)

variable [Facts]

def fn {F : FTy → Type} [FloatOps F] (main_arg0 : FVec F S163840x1024 .f32) (main_arg1 : IVec S160 32) (main_arg2 : IVec S1 32) (main_arg3 : FVec F S32x1024x1024 .f32) (main_arg4 : FVec F S32x1024 .f32) (main_arg5 : FVec F S32x1024x1024 .f32) (main_arg6 : FVec F S32x1024 .f32) (main_arg7 : FVec F S32x1024x1024 .f32) (main_arg8 : FVec F S32x1024 .f32) : IVec S160 1 :=
  let main_v0 : IVec S160 32 := iotaInDim S160 32 0
  let main_v1 : IVec S_ 32 := shapeCast S_ main_arg2 shapeCasts_S1_S_
  let main_c : IVec S_ 32 := constantI S_ 32 1#32
  let main_v2 : IVec S_ 32 := subi main_v1 main_c
  let main_c_0 : IVec S_ 32 := constantI S_ 32 0#32
  let main_v3 : IVec S_ 32 := maxsi main_v2 main_c_0
  let main_v4 : IVec S160 32 := broadcastInDim S160 ![] bcast_S_S160 main_v3
  let main_v5 : IVec S160 1 := cmpi .sgt main_v0 main_v4
  let main_c_1 : IVec S_ 32 := constantI S_ 32 0#32
  let main_v6 : IVec S160 32 := broadcastInDim S160 ![] bcast_S_S160 main_c_1
  let main_v7 : IVec S160 1 := cmpi .sge main_arg1 main_v6
  let main_c_2 : IVec S_ 32 := constantI S_ 32 32#32
  let main_v8 : IVec S160 32 := broadcastInDim S160 ![] bcast_S_S160 main_c_2
  let main_v9 : IVec S160 1 := cmpi .slt main_arg1 main_v8
  let main_v10 : IVec S160 1 := andi main_v7 main_v9
  let main_v11 : IVec S160 1 := ori main_v5 main_v10
  main_v11
-- ==== Pre_packed.lean ====
abbrev S1 : Shape := ⟨1, ![1]⟩
abbrev S8x4x4096x128 : Shape := ⟨4, ![8, 4, 4096, 128]⟩
abbrev S8x4x4096x256 : Shape := ⟨4, ![8, 4, 4096, 256]⟩
abbrev S4x64 : Shape := ⟨2, ![4, 64]⟩
abbrev S128 : Shape := ⟨1, ![128]⟩
abbrev S8x4x4096x65 : Shape := ⟨4, ![8, 4, 4096, 65]⟩
abbrev S_ : Shape := ⟨0, ![]⟩
abbrev S8x4x4096x1 : Shape := ⟨4, ![8, 4, 4096, 1]⟩
abbrev S8x4x4096x63 : Shape := ⟨4, ![8, 4, 4096, 63]⟩

class Facts : Prop where
  bitsLt_bf16_f32 : FTy.bits .bf16 < FTy.bits .f32
  slices_S8x4x4096x128_S8x4x4096x65_0_0_0_0 : S8x4x4096x128.Slices ![0, 0, 0, 0] S8x4x4096x65
  bcast_S_S8x4x4096x65 : S_.BroadcastsInDim S8x4x4096x65 (![] : Fin 0 → Fin S8x4x4096x65.rank)
  bcast_S_S8x4x4096x128 : S_.BroadcastsInDim S8x4x4096x128 (![] : Fin 0 → Fin S8x4x4096x128.rank)
  slices_S8x4x4096x256_S8x4x4096x128_0_0_0_0 : S8x4x4096x256.Slices ![0, 0, 0, 0] S8x4x4096x128
  bcast_S_S4x64 : S_.BroadcastsInDim S4x64 (![] : Fin 0 → Fin S4x64.rank)
  slices_S8x4x4096x128_S8x4x4096x1_0_0_0_64 : S8x4x4096x128.Slices ![0, 0, 0, 64] S8x4x4096x1
  bcast_S_S8x4x4096x1 : S_.BroadcastsInDim S8x4x4096x1 (![] : Fin 0 → Fin S8x4x4096x1.rank)
  slices_S8x4x4096x128_S8x4x4096x63_0_0_0_65 : S8x4x4096x128.Slices ![0, 0, 0, 65] S8x4x4096x63
  bcast_S_S8x4x4096x63 : S_.BroadcastsInDim S8x4x4096x63 (![] : Fin 0 → Fin S8x4x4096x63.rank)
  slices_S8x4x4096x256_S8x4x4096x1_0_0_0_128 : S8x4x4096x256.Slices ![0, 0, 0, 128] S8x4x4096x1

variable [Facts]

def fn_part2 {F : FTy → Type} [FloatOps F] (main_v4 : FVec F S8x4x4096x256 .f32) (main_v8 : IVec S8x4x4096x65 1) (main_v12 : IVec S8x4x4096x65 1) (main_v15 : IVec S8x4x4096x128 1) (main_v18 : IVec S8x4x4096x128 1) (main_v22 : IVec S8x4x4096x128 1) (main_v25 : IVec S4x64 1) (main_v28 : IVec S8x4x4096x1 1) (main_v31 : IVec S8x4x4096x1 1) (main_v34 : IVec S8x4x4096x63 1) (main_v37 : IVec S8x4x4096x63 1) : IVec S8x4x4096x65 1 × IVec S8x4x4096x65 1 × IVec S8x4x4096x128 1 × IVec S8x4x4096x128 1 × IVec S8x4x4096x128 1 × IVec S4x64 1 × IVec S8x4x4096x1 1 × IVec S8x4x4096x1 1 × IVec S8x4x4096x63 1 × IVec S8x4x4096x63 1 × IVec S8x4x4096x1 1 :=
  let main_v38 : FVec F S8x4x4096x1 .f32 := (extractStridedSlice S8x4x4096x1 ![0, 0, 0, 128] · slices_S8x4x4096x256_S8x4x4096x1_0_0_0_128) main_v4
  let main_cst_9 : FVec F S_ .f32 := constant S_ .f32 0x3F800000#32
  let main_v39 : FVec F S8x4x4096x1 .f32 := broadcastInDim S8x4x4096x1 ![] bcast_S_S8x4x4096x1 main_cst_9
  let main_v40 : IVec S8x4x4096x1 1 := cmpf .oeq main_v38 main_v39
  (main_v8, main_v12, main_v15, main_v18, main_v22, main_v25, main_v28, main_v31, main_v34, main_v37, main_v40)

def fn_part1 {F : FTy → Type} [FloatOps F] (main_arg6 : FVec F S4x64 .f32) (main_v2 : FVec F S8x4x4096x128 .f32) (main_v3 : FVec F S8x4x4096x128 .f32) (main_v4 : FVec F S8x4x4096x256 .f32) (main_v8 : IVec S8x4x4096x65 1) (main_v12 : IVec S8x4x4096x65 1) (main_v15 : IVec S8x4x4096x128 1) (main_v18 : IVec S8x4x4096x128 1) (main_v19 : FVec F S8x4x4096x128 .f32) : IVec S8x4x4096x65 1 × IVec S8x4x4096x65 1 × IVec S8x4x4096x128 1 × IVec S8x4x4096x128 1 × IVec S8x4x4096x128 1 × IVec S4x64 1 × IVec S8x4x4096x1 1 × IVec S8x4x4096x1 1 × IVec S8x4x4096x63 1 × IVec S8x4x4096x63 1 × IVec S8x4x4096x1 1 :=
  let main_v20 : FVec F S8x4x4096x128 .f32 := Host.absf main_v19
  let main_cst_3 : FVec F S_ .f32 := constant S_ .f32 0x7F800000#32
  let main_v21 : FVec F S8x4x4096x128 .f32 := broadcastInDim S8x4x4096x128 ![] bcast_S_S8x4x4096x128 main_cst_3
  let main_v22 : IVec S8x4x4096x128 1 := cmpf .olt main_v20 main_v21
  let main_v23 : FVec F S4x64 .f32 := Host.absf main_arg6
  let main_cst_4 : FVec F S_ .f32 := constant S_ .f32 0x7F800000#32
  let main_v24 : FVec F S4x64 .f32 := broadcastInDim S4x64 ![] bcast_S_S4x64 main_cst_4
  let main_v25 : IVec S4x64 1 := cmpf .olt main_v23 main_v24
  let main_v26 : FVec F S8x4x4096x1 .f32 := (extractStridedSlice S8x4x4096x1 ![0, 0, 0, 64] · slices_S8x4x4096x128_S8x4x4096x1_0_0_0_64) main_v2
  let main_cst_5 : FVec F S_ .f32 := constant S_ .f32 0x3F800000#32
  let main_v27 : FVec F S8x4x4096x1 .f32 := broadcastInDim S8x4x4096x1 ![] bcast_S_S8x4x4096x1 main_cst_5
  let main_v28 : IVec S8x4x4096x1 1 := cmpf .oeq main_v26 main_v27
  let main_v29 : FVec F S8x4x4096x1 .f32 := (extractStridedSlice S8x4x4096x1 ![0, 0, 0, 64] · slices_S8x4x4096x128_S8x4x4096x1_0_0_0_64) main_v3
  let main_cst_6 : FVec F S_ .f32 := constant S_ .f32 0x3F800000#32
  let main_v30 : FVec F S8x4x4096x1 .f32 := broadcastInDim S8x4x4096x1 ![] bcast_S_S8x4x4096x1 main_cst_6
  let main_v31 : IVec S8x4x4096x1 1 := cmpf .oeq main_v29 main_v30
  let main_v32 : FVec F S8x4x4096x63 .f32 := (extractStridedSlice S8x4x4096x63 ![0, 0, 0, 65] · slices_S8x4x4096x128_S8x4x4096x63_0_0_0_65) main_v2
  let main_cst_7 : FVec F S_ .f32 := constant S_ .f32 0x00000000#32
  let main_v33 : FVec F S8x4x4096x63 .f32 := broadcastInDim S8x4x4096x63 ![] bcast_S_S8x4x4096x63 main_cst_7
  let main_v34 : IVec S8x4x4096x63 1 := cmpf .oeq main_v32 main_v33
  let main_v35 : FVec F S8x4x4096x63 .f32 := (extractStridedSlice S8x4x4096x63 ![0, 0, 0, 65] · slices_S8x4x4096x128_S8x4x4096x63_0_0_0_65) main_v3
  let main_cst_8 : FVec F S_ .f32 := constant S_ .f32 0x00000000#32
  let main_v36 : FVec F S8x4x4096x63 .f32 := broadcastInDim S8x4x4096x63 ![] bcast_S_S8x4x4096x63 main_cst_8
  let main_v37 : IVec S8x4x4096x63 1 := cmpf .oeq main_v35 main_v36
  fn_part2 (F := F) main_v4 main_v8 main_v12 main_v15 main_v18 main_v22 main_v25 main_v28 main_v31 main_v34 main_v37

def fn {F : FTy → Type} [FloatOps F] (main_arg0 : IVec S1 32) (main_arg1 : FVec F S8x4x4096x128 .bf16) (main_arg2 : FVec F S8x4x4096x128 .bf16) (main_arg3 : FVec F S8x4x4096x128 .bf16) (main_arg4 : FVec F S8x4x4096x128 .bf16) (main_arg5 : FVec F S8x4x4096x256 .bf16) (main_arg6 : FVec F S4x64 .f32) (main_arg7 : FVec F S128 .f32) : IVec S8x4x4096x65 1 × IVec S8x4x4096x65 1 × IVec S8x4x4096x128 1 × IVec S8x4x4096x128 1 × IVec S8x4x4096x128 1 × IVec S4x64 1 × IVec S8x4x4096x1 1 × IVec S8x4x4096x1 1 × IVec S8x4x4096x63 1 × IVec S8x4x4096x63 1 × IVec S8x4x4096x1 1 :=
  let main_v0 : FVec F S8x4x4096x128 .f32 := (extf .f32 · bitsLt_bf16_f32) main_arg1
  let main_v1 : FVec F S8x4x4096x128 .f32 := (extf .f32 · bitsLt_bf16_f32) main_arg2
  let main_v2 : FVec F S8x4x4096x128 .f32 := (extf .f32 · bitsLt_bf16_f32) main_arg3
  let main_v3 : FVec F S8x4x4096x128 .f32 := (extf .f32 · bitsLt_bf16_f32) main_arg4
  let main_v4 : FVec F S8x4x4096x256 .f32 := (extf .f32 · bitsLt_bf16_f32) main_arg5
  let main_v5 : FVec F S8x4x4096x65 .f32 := (extractStridedSlice S8x4x4096x65 ![0, 0, 0, 0] · slices_S8x4x4096x128_S8x4x4096x65_0_0_0_0) main_v0
  let main_v6 : FVec F S8x4x4096x65 .f32 := Host.absf main_v5
  let main_cst : FVec F S_ .f32 := constant S_ .f32 0x7F800000#32
  let main_v7 : FVec F S8x4x4096x65 .f32 := broadcastInDim S8x4x4096x65 ![] bcast_S_S8x4x4096x65 main_cst
  let main_v8 : IVec S8x4x4096x65 1 := cmpf .olt main_v6 main_v7
  let main_v9 : FVec F S8x4x4096x65 .f32 := (extractStridedSlice S8x4x4096x65 ![0, 0, 0, 0] · slices_S8x4x4096x128_S8x4x4096x65_0_0_0_0) main_v1
  let main_v10 : FVec F S8x4x4096x65 .f32 := Host.absf main_v9
  let main_cst_0 : FVec F S_ .f32 := constant S_ .f32 0x7F800000#32
  let main_v11 : FVec F S8x4x4096x65 .f32 := broadcastInDim S8x4x4096x65 ![] bcast_S_S8x4x4096x65 main_cst_0
  let main_v12 : IVec S8x4x4096x65 1 := cmpf .olt main_v10 main_v11
  let main_v13 : FVec F S8x4x4096x128 .f32 := Host.absf main_v2
  let main_cst_1 : FVec F S_ .f32 := constant S_ .f32 0x7F800000#32
  let main_v14 : FVec F S8x4x4096x128 .f32 := broadcastInDim S8x4x4096x128 ![] bcast_S_S8x4x4096x128 main_cst_1
  let main_v15 : IVec S8x4x4096x128 1 := cmpf .olt main_v13 main_v14
  let main_v16 : FVec F S8x4x4096x128 .f32 := Host.absf main_v3
  let main_cst_2 : FVec F S_ .f32 := constant S_ .f32 0x7F800000#32
  let main_v17 : FVec F S8x4x4096x128 .f32 := broadcastInDim S8x4x4096x128 ![] bcast_S_S8x4x4096x128 main_cst_2
  let main_v18 : IVec S8x4x4096x128 1 := cmpf .olt main_v16 main_v17
  let main_v19 : FVec F S8x4x4096x128 .f32 := (extractStridedSlice S8x4x4096x128 ![0, 0, 0, 0] · slices_S8x4x4096x256_S8x4x4096x128_0_0_0_0) main_v4
  fn_part1 (F := F) main_arg6 main_v2 main_v3 main_v4 main_v8 main_v12 main_v15 main_v18 main_v19
-- ==== Kernel.lean ====
abbrev S1 : Shape := ⟨1, ![1]⟩
abbrev S8x4x4096x128 : Shape := ⟨4, ![8, 4, 4096, 128]⟩
abbrev S8x4x4096x256 : Shape := ⟨4, ![8, 4, 4096, 256]⟩
abbrev S4x64 : Shape := ⟨2, ![4, 64]⟩
abbrev S128 : Shape := ⟨1, ![128]⟩
abbrev S512 : Shape := ⟨1, ![512]⟩
abbrev S_ : Shape := ⟨0, ![]⟩
abbrev S1x512 : Shape := ⟨2, ![1, 512]⟩
abbrev S512x1 : Shape := ⟨2, ![512, 1]⟩
abbrev S512x512 : Shape := ⟨2, ![512, 512]⟩
abbrev S1x128 : Shape := ⟨2, ![1, 128]⟩
abbrev S8x4096x512 : Shape := ⟨3, ![8, 4096, 512]⟩
abbrev S1x1x512x128 : Shape := ⟨4, ![1, 1, 512, 128]⟩
abbrev S1x1x4096x128 : Shape := ⟨4, ![1, 1, 4096, 128]⟩
abbrev S1x1x4096x256 : Shape := ⟨4, ![1, 1, 4096, 256]⟩
abbrev S1x512x128 : Shape := ⟨3, ![1, 512, 128]⟩
abbrev S512x256 : Shape := ⟨2, ![512, 256]⟩
abbrev S512x128 : Shape := ⟨2, ![512, 128]⟩
abbrev S1x1x512x256 : Shape := ⟨4, ![1, 1, 512, 256]⟩
abbrev S256x256 : Shape := ⟨2, ![256, 256]⟩
abbrev S1x1x256x256 : Shape := ⟨4, ![1, 1, 256, 256]⟩
abbrev S256x128 : Shape := ⟨2, ![256, 128]⟩
abbrev S1x1x256x128 : Shape := ⟨4, ![1, 1, 256, 128]⟩
abbrev S256x512 : Shape := ⟨2, ![256, 512]⟩
abbrev S256x1 : Shape := ⟨2, ![256, 1]⟩
abbrev S256 : Shape := ⟨1, ![256]⟩
abbrev S1x64 : Shape := ⟨2, ![1, 64]⟩
abbrev S1x1 : Shape := ⟨2, ![1, 1]⟩

abbrev nBuf : Space → Nat
  | .hbm => 23
  | .vmem => 19
  | .smem => 1
  | _ => 0

abbrev bufTy : (tb : Table) → Fin (tcTables nBuf tb) → BufTy
  | .hbm, ⟨0, _⟩ => ⟨S8x4x4096x128, .bf16⟩
  | .hbm, ⟨1, _⟩ => ⟨S8x4x4096x128, .bf16⟩
  | .hbm, ⟨2, _⟩ => ⟨S8x4x4096x128, .bf16⟩
  | .hbm, ⟨3, _⟩ => ⟨S8x4x4096x128, .bf16⟩
  | .hbm, ⟨4, _⟩ => ⟨S8x4x4096x256, .bf16⟩
  | .hbm, ⟨5, _⟩ => ⟨S4x64, .f32⟩
  | .hbm, ⟨6, _⟩ => ⟨S128, .f32⟩
  | .hbm, ⟨7, _⟩ => ⟨S512, .i32⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S1x512, .i32⟩
  | .hbm, ⟨12, _⟩ => ⟨S512x1, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S_, .f32⟩
  | .hbm, ⟨17, _⟩ => ⟨S512x512, .f32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S1x128, .f32⟩
  | .hbm, ⟨22, _⟩ => ⟨S8x4096x512, .bf16⟩
  | .local _ .vmem, ⟨0, _⟩ => ⟨S4x64, .f32⟩
  | .local _ .vmem, ⟨1, _⟩ => ⟨S1x128, .f32⟩
  | .local _ .vmem, ⟨2, _⟩ => ⟨S512x512, .f32⟩
  | .local _ .vmem, ⟨3, _⟩ => ⟨S1x1x512x128, .bf16⟩
  | .local _ .vmem, ⟨4, _⟩ => ⟨S1x1x512x128, .bf16⟩
  | .local _ .vmem, ⟨5, _⟩ => ⟨S1x1x512x128, .bf16⟩
  | .local _ .vmem, ⟨6, _⟩ => ⟨S1x1x512x128, .bf16⟩
  | .local _ .vmem, ⟨7, _⟩ => ⟨S1x1x4096x128, .bf16⟩
  | .local _ .vmem, ⟨8, _⟩ => ⟨S1x1x4096x128, .bf16⟩
  | .local _ .vmem, ⟨9, _⟩ => ⟨S1x1x4096x128, .bf16⟩
  | .local _ .vmem, ⟨10, _⟩ => ⟨S1x1x4096x128, .bf16⟩
  | .local _ .vmem, ⟨11, _⟩ => ⟨S1x1x4096x256, .bf16⟩
  | .local _ .vmem, ⟨12, _⟩ => ⟨S1x1x4096x256, .bf16⟩
  | .local _ .vmem, ⟨13, _⟩ => ⟨S1x512x128, .bf16⟩
  | .local _ .vmem, ⟨14, _⟩ => ⟨S1x512x128, .bf16⟩
  | .local _ .vmem, ⟨15, _⟩ => ⟨S512x1, .f32⟩
  | .local _ .vmem, ⟨16, _⟩ => ⟨S512x256, .f32⟩
  | .local _ .vmem, ⟨17, _⟩ => ⟨S512x1, .f32⟩
  | .local _ .vmem, ⟨18, _⟩ => ⟨S512x256, .f32⟩
  | .local _ .smem, ⟨0, _⟩ => ⟨S1, .i32⟩
  | _, _ => ⟨S8x4x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![8, 4, 8], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop (i : grid0.Coords) : Scf.Loop 32 :=
  let c0_i32_37 : BitVec 32 := 0#32
  let arg2 : BitVec 32 := BitVec.ofNat 32 (i 2).val
  let c1_i32 : BitVec 32 := 1#32
  let v0 : BitVec 32 := Scalar.addi arg2 c1_i32
  let c1_i32_35 : BitVec 32 := 1#32
  let v70 : BitVec 32 := Scalar.subi v0 c1_i32_35
  let v71 : BitVec 32 := Scalar.subi v70 c0_i32_37
  let c1_i32_38 : BitVec 32 := 1#32
  let v73 : BitVec 32 := Scalar.divsi v71 c1_i32_38
  let v74 : BitVec 32 := Scalar.muli v73 c1_i32_38
  let v75 : BitVec 32 := Scalar.addi c0_i32_37 v74
  let c1_i32_39 : BitVec 32 := 1#32
  ⟨c0_i32_37, v75, c1_i32_39⟩
def k0_mult1 (i : grid0.Coords) (k0_t1 : Fin (k0_t1_loop i).trips) : BitVec 32 :=
  let c0_i32_37 : BitVec 32 := 0#32
  let c1_i32_39 : BitVec 32 := 1#32
  let arg17 : BitVec 32 := Scf.iv c0_i32_37 c1_i32_39 k0_t1
  let c512_i32_87 : BitVec 32 := 512#32
  let v145 : BitVec 32 := Scalar.muli arg17 c512_i32_87
  v145
def k0_off1 (i : grid0.Coords) (k0_t1 : Fin (k0_t1_loop i).trips) : Fin 4 → Nat :=
  let c0_88 : Index := 0#32
  let c0_89 : Index := 0#32
  let c0_i32_37 : BitVec 32 := 0#32
  let c1_i32_39 : BitVec 32 := 1#32
  let arg17 : BitVec 32 := Scf.iv c0_i32_37 c1_i32_39 k0_t1
  let c512_i32_87 : BitVec 32 := 512#32
  let v145 : BitVec 32 := Scalar.muli arg17 c512_i32_87
  let v146 : BitVec 32 := v145
  let v147 : Index := Scalar.indexCast v146
  let c0_90 : Index := 0#32
  ![0, 0, v147.toNat, 0]
def k0_off2 (i : grid0.Coords) (k0_t1 : Fin (k0_t1_loop i).trips) : Fin 4 → Nat :=
  let c0_91 : Index := 0#32
  let c0_92 : Index := 0#32
  let c0_i32_37 : BitVec 32 := 0#32
  let c1_i32_39 : BitVec 32 := 1#32
  let arg17 : BitVec 32 := Scf.iv c0_i32_37 c1_i32_39 k0_t1
  let c512_i32_87 : BitVec 32 := 512#32
  let v145 : BitVec 32 := Scalar.muli arg17 c512_i32_87
  let v146 : BitVec 32 := v145
  let v150 : Index := Scalar.indexCast v146
  let c0_93 : Index := 0#32
  ![0, 0, v150.toNat, 0]
@[reducible] def k0_t2_loop (i : grid0.Coords) : Scf.Loop 32 :=
  let c0_i32_37 : BitVec 32 := 0#32
  let arg2 : BitVec 32 := BitVec.ofNat 32 (i 2).val
  let c1_i32 : BitVec 32 := 1#32
  let v0 : BitVec 32 := Scalar.addi arg2 c1_i32
  let c1_i32_35 : BitVec 32 := 1#32
  let v70 : BitVec 32 := Scalar.subi v0 c1_i32_35
  let v71 : BitVec 32 := Scalar.subi v70 c0_i32_37
  let c1_i32_38 : BitVec 32 := 1#32
  let v73 : BitVec 32 := Scalar.divsi v71 c1_i32_38
  let v74 : BitVec 32 := Scalar.muli v73 c1_i32_38
  let v75 : BitVec 32 := Scalar.addi c0_i32_37 v74
  let v72 : BitVec 32 := Scalar.addi c0_i32_37 v71
  let c1_i32_40 : BitVec 32 := 1#32
  ⟨v75, v72, c1_i32_40⟩
def k0_mult2 (i : grid0.Coords) (k0_t2 : Fin (k0_t2_loop i).trips) : BitVec 32 :=
  let c0_i32_37 : BitVec 32 := 0#32
  let arg2 : BitVec 32 := BitVec.ofNat 32 (i 2).val
  let c1_i32 : BitVec 32 := 1#32
  let v0 : BitVec 32 := Scalar.addi arg2 c1_i32
  let c1_i32_35 : BitVec 32 := 1#32
  let v70 : BitVec 32 := Scalar.subi v0 c1_i32_35
  let v71 : BitVec 32 := Scalar.subi v70 c0_i32_37
  let c1_i32_38 : BitVec 32 := 1#32
  let v73 : BitVec 32 := Scalar.divsi v71 c1_i32_38
  let v74 : BitVec 32 := Scalar.muli v73 c1_i32_38
  let v75 : BitVec 32 := Scalar.addi c0_i32_37 v74
  let c1_i32_40 : BitVec 32 := 1#32
  let arg17 : BitVec 32 := Scf.iv v75 c1_i32_40 k0_t2
  let c512_i32_87 : BitVec 32 := 512#32
  let v145 : BitVec 32 := Scalar.muli arg17 c512_i32_87
  v145
def k0_off3 (i : grid0.Coords) (k0_t2 : Fin (k0_t2_loop i).trips) : Fin 4 → Nat :=
  let c0_88 : Index := 0#32
  let c0_89 : Index := 0#32
  let c0_i32_37 : BitVec 32 := 0#32
  let arg2 : BitVec 32 := BitVec.ofNat 32 (i 2).val
  let c1_i32 : BitVec 32 := 1#32
  let v0 : BitVec 32 := Scalar.addi arg2 c1_i32
  let c1_i32_35 : BitVec 32 := 1#32
  let v70 : BitVec 32 := Scalar.subi v0 c1_i32_35
  let v71 : BitVec 32 := Scalar.subi v70 c0_i32_37
  let c1_i32_38 : BitVec 32 := 1#32
  let v73 : BitVec 32 := Scalar.divsi v71 c1_i32_38
  let v74 : BitVec 32 := Scalar.muli v73 c1_i32_38
  let v75 : BitVec 32 := Scalar.addi c0_i32_37 v74
  let c1_i32_40 : BitVec 32 := 1#32
  let arg17 : BitVec 32 := Scf.iv v75 c1_i32_40 k0_t2
  let c512_i32_87 : BitVec 32 := 512#32
  let v145 : BitVec 32 := Scalar.muli arg17 c512_i32_87
  let v146 : BitVec 32 := v145
  let v147 : Index := Scalar.indexCast v146
  let c0_90 : Index := 0#32
  ![0, 0, v147.toNat, 0]
def k0_off4 (i : grid0.Coords) (k0_t2 : Fin (k0_t2_loop i).trips) : Fin 4 → Nat :=
  let c0_91 : Index := 0#32
  let c0_92 : Index := 0#32
  let c0_i32_37 : BitVec 32 := 0#32
  let arg2 : BitVec 32 := BitVec.ofNat 32 (i 2).val
  let c1_i32 : BitVec 32 := 1#32
  let v0 : BitVec 32 := Scalar.addi arg2 c1_i32
  let c1_i32_35 : BitVec 32 := 1#32
  let v70 : BitVec 32 := Scalar.subi v0 c1_i32_35
  let v71 : BitVec 32 := Scalar.subi v70 c0_i32_37
  let c1_i32_38 : BitVec 32 := 1#32
  let v73 : BitVec 32 := Scalar.divsi v71 c1_i32_38
  let v74 : BitVec 32 := Scalar.muli v73 c1_i32_38
  let v75 : BitVec 32 := Scalar.addi c0_i32_37 v74
  let c1_i32_40 : BitVec 32 := 1#32
  let arg17 : BitVec 32 := Scf.iv v75 c1_i32_40 k0_t2
  let c512_i32_87 : BitVec 32 := 512#32
  let v145 : BitVec 32 := Scalar.muli arg17 c512_i32_87
  let v146 : BitVec 32 := v145
  let v150 : Index := Scalar.indexCast v146
  let c0_93 : Index := 0#32
  ![0, 0, v150.toNat, 0]
def k0_mult3 (i : grid0.Coords) : BitVec 32 :=
  let arg2 : BitVec 32 := BitVec.ofNat 32 (i 2).val
  let c1_i32 : BitVec 32 := 1#32
  let v0 : BitVec 32 := Scalar.addi arg2 c1_i32
  let c1_i32_41 : BitVec 32 := 1#32
  let v76 : BitVec 32 := Scalar.subi v0 c1_i32_41
  let c512_i32 : BitVec 32 := 512#32
  let v77 : BitVec 32 := Scalar.muli v76 c512_i32
  v77
def k0_off5 (i : grid0.Coords) : Fin 4 → Nat :=
  let c0_44 : Index := 0#32
  let c0_45 : Index := 0#32
  let arg2 : BitVec 32 := BitVec.ofNat 32 (i 2).val
  let c1_i32 : BitVec 32 := 1#32
  let v0 : BitVec 32 := Scalar.addi arg2 c1_i32
  let c1_i32_41 : BitVec 32 := 1#32
  let v76 : BitVec 32 := Scalar.subi v0 c1_i32_41
  let c512_i32 : BitVec 32 := 512#32
  let v77 : BitVec 32 := Scalar.muli v76 c512_i32
  let v78 : BitVec 32 := v77
  let v81 : Index := Scalar.indexCast v78
  let c0_46 : Index := 0#32
  ![0, 0, v81.toNat, 0]
def k0_off6 (i : grid0.Coords) : Fin 4 → Nat :=
  let c0_47 : Index := 0#32
  let c0_48 : Index := 0#32
  let arg2 : BitVec 32 := BitVec.ofNat 32 (i 2).val
  let c1_i32 : BitVec 32 := 1#32
  let v0 : BitVec 32 := Scalar.addi arg2 c1_i32
  let c1_i32_41 : BitVec 32 := 1#32
  let v76 : BitVec 32 := Scalar.subi v0 c1_i32_41
  let c512_i32 : BitVec 32 := 512#32
  let v77 : BitVec 32 := Scalar.muli v76 c512_i32
  let v78 : BitVec 32 := v77
  let v85 : Index := Scalar.indexCast v78
  let c0_49 : Index := 0#32
  ![0, 0, v85.toNat, 0]
def k0_off7 (i : grid0.Coords) : Fin 4 → Nat :=
  let c0_66 : Index := 0#32
  let c0_67 : Index := 0#32
  let arg2 : BitVec 32 := BitVec.ofNat 32 (i 2).val
  let c1_i32 : BitVec 32 := 1#32
  let v0 : BitVec 32 := Scalar.addi arg2 c1_i32
  let c1_i32_41 : BitVec 32 := 1#32
  let v76 : BitVec 32 := Scalar.subi v0 c1_i32_41
  let c512_i32 : BitVec 32 := 512#32
  let v77 : BitVec 32 := Scalar.muli v76 c512_i32
  let v78 : BitVec 32 := v77
  let v114 : Index := Scalar.indexCast v78
  let c0_68 : Index := 0#32
  ![0, 0, v114.toNat, 0]
def k0_off8 (i : grid0.Coords) : Fin 4 → Nat :=
  let c0_69 : Index := 0#32
  let c0_70 : Index := 0#32
  let arg2 : BitVec 32 := BitVec.ofNat 32 (i 2).val
  let c1_i32 : BitVec 32 := 1#32
  let v0 : BitVec 32 := Scalar.addi arg2 c1_i32
  let c1_i32_41 : BitVec 32 := 1#32
  let v76 : BitVec 32 := Scalar.subi v0 c1_i32_41
  let c512_i32 : BitVec 32 := 512#32
  let v77 : BitVec 32 := Scalar.muli v76 c512_i32
  let v78 : BitVec 32 := v77
  let v118 : Index := Scalar.indexCast v78
  let c0_71 : Index := 0#32
  ![0, 0, v118.toNat, 0]
@[reducible] def k0_t3_loop (i : grid0.Coords) : Scf.Loop 32 :=
  let c0_i32_43 : BitVec 32 := 0#32
  let arg2 : BitVec 32 := BitVec.ofNat 32 (i 2).val
  let c1_i32 : BitVec 32 := 1#32
  let v0 : BitVec 32 := Scalar.addi arg2 c1_i32
  let c1_i32_41 : BitVec 32 := 1#32
  let v78 : BitVec 32 := Scalar.subi v0 c1_i32_41
  let v79 : BitVec 32 := Scalar.subi v78 c0_i32_43
  let c1_i32_44 : BitVec 32 := 1#32
  let v81 : BitVec 32 := Scalar.divsi v79 c1_i32_44
  let v82 : BitVec 32 := Scalar.muli v81 c1_i32_44
  let v83 : BitVec 32 := Scalar.addi c0_i32_43 v82
  let c1_i32_45 : BitVec 32 := 1#32
  ⟨c0_i32_43, v83, c1_i32_45⟩
def k0_mult4 (i : grid0.Coords) (k0_t3 : Fin (k0_t3_loop i).trips) : BitVec 32 :=
  let c0_i32_43 : BitVec 32 := 0#32
  let c1_i32_45 : BitVec 32 := 1#32
  let arg17 : BitVec 32 := Scf.iv c0_i32_43 c1_i32_45 k0_t3
  let c512_i32_113 : BitVec 32 := 512#32
  let v205 : BitVec 32 := Scalar.muli arg17 c512_i32_113
  v205
def k0_off9 (i : grid0.Coords) (k0_t3 : Fin (k0_t3_loop i).trips) : Fin 4 → Nat :=
  let c0_114 : Index := 0#32
  let c0_115 : Index := 0#32
  let c0_i32_43 : BitVec 32 := 0#32
  let c1_i32_45 : BitVec 32 := 1#32
  let arg17 : BitVec 32 := Scf.iv c0_i32_43 c1_i32_45 k0_t3
  let c512_i32_113 : BitVec 32 := 512#32
  let v205 : BitVec 32 := Scalar.muli arg17 c512_i32_113
  let v206 : BitVec 32 := v205
  let v207 : Index := Scalar.indexCast v206
  let c0_116 : Index := 0#32
  ![0, 0, v207.toNat, 0]
def k0_off10 (i : grid0.Coords) (k0_t3 : Fin (k0_t3_loop i).trips) : Fin 4 → Nat :=
  let c0_117 : Index := 0#32
  let c0_118 : Index := 0#32
  let c0_i32_43 : BitVec 32 := 0#32
  let c1_i32_45 : BitVec 32 := 1#32
  let arg17 : BitVec 32 := Scf.iv c0_i32_43 c1_i32_45 k0_t3
  let c512_i32_113 : BitVec 32 := 512#32
  let v205 : BitVec 32 := Scalar.muli arg17 c512_i32_113
  let v206 : BitVec 32 := v205
  let v210 : Index := Scalar.indexCast v206
  let c0_119 : Index := 0#32
  ![0, 0, v210.toNat, 0]
@[reducible] def k0_t4_loop (i : grid0.Coords) : Scf.Loop 32 :=
  let c0_i32_43 : BitVec 32 := 0#32
  let arg2 : BitVec 32 := BitVec.ofNat 32 (i 2).val
  let c1_i32 : BitVec 32 := 1#32
  let v0 : BitVec 32 := Scalar.addi arg2 c1_i32
  let c1_i32_41 : BitVec 32 := 1#32
  let v78 : BitVec 32 := Scalar.subi v0 c1_i32_41
  let v79 : BitVec 32 := Scalar.subi v78 c0_i32_43
  let c1_i32_44 : BitVec 32 := 1#32
  let v81 : BitVec 32 := Scalar.divsi v79 c1_i32_44
  let v82 : BitVec 32 := Scalar.muli v81 c1_i32_44
  let v83 : BitVec 32 := Scalar.addi c0_i32_43 v82
  let v80 : BitVec 32 := Scalar.addi c0_i32_43 v79
  let c1_i32_46 : BitVec 32 := 1#32
  ⟨v83, v80, c1_i32_46⟩
def k0_mult5 (i : grid0.Coords) (k0_t4 : Fin (k0_t4_loop i).trips) : BitVec 32 :=
  let c0_i32_43 : BitVec 32 := 0#32
  let arg2 : BitVec 32 := BitVec.ofNat 32 (i 2).val
  let c1_i32 : BitVec 32 := 1#32
  let v0 : BitVec 32 := Scalar.addi arg2 c1_i32
  let c1_i32_41 : BitVec 32 := 1#32
  let v78 : BitVec 32 := Scalar.subi v0 c1_i32_41
  let v79 : BitVec 32 := Scalar.subi v78 c0_i32_43
  let c1_i32_44 : BitVec 32 := 1#32
  let v81 : BitVec 32 := Scalar.divsi v79 c1_i32_44
  let v82 : BitVec 32 := Scalar.muli v81 c1_i32_44
  let v83 : BitVec 32 := Scalar.addi c0_i32_43 v82
  let c1_i32_46 : BitVec 32 := 1#32
  let arg17 : BitVec 32 := Scf.iv v83 c1_i32_46 k0_t4
  let c512_i32_113 : BitVec 32 := 512#32
  let v205 : BitVec 32 := Scalar.muli arg17 c512_i32_113
  v205
def k0_off11 (i : grid0.Coords) (k0_t4 : Fin (k0_t4_loop i).trips) : Fin 4 → Nat :=
  let c0_114 : Index := 0#32
  let c0_115 : Index := 0#32
  let c0_i32_43 : BitVec 32 := 0#32
  let arg2 : BitVec 32 := BitVec.ofNat 32 (i 2).val
  let c1_i32 : BitVec 32 := 1#32
  let v0 : BitVec 32 := Scalar.addi arg2 c1_i32
  let c1_i32_41 : BitVec 32 := 1#32
  let v78 : BitVec 32 := Scalar.subi v0 c1_i32_41
  let v79 : BitVec 32 := Scalar.subi v78 c0_i32_43
  let c1_i32_44 : BitVec 32 := 1#32
  let v81 : BitVec 32 := Scalar.divsi v79 c1_i32_44
  let v82 : BitVec 32 := Scalar.muli v81 c1_i32_44
  let v83 : BitVec 32 := Scalar.addi c0_i32_43 v82
  let c1_i32_46 : BitVec 32 := 1#32
  let arg17 : BitVec 32 := Scf.iv v83 c1_i32_46 k0_t4
  let c512_i32_113 : BitVec 32 := 512#32
  let v205 : BitVec 32 := Scalar.muli arg17 c512_i32_113
  let v206 : BitVec 32 := v205
  let v207 : Index := Scalar.indexCast v206
  let c0_116 : Index := 0#32
  ![0, 0, v207.toNat, 0]
def k0_off12 (i : grid0.Coords) (k0_t4 : Fin (k0_t4_loop i).trips) : Fin 4 → Nat :=
  let c0_117 : Index := 0#32
  let c0_118 : Index := 0#32
  let c0_i32_43 : BitVec 32 := 0#32
  let arg2 : BitVec 32 := BitVec.ofNat 32 (i 2).val
  let c1_i32 : BitVec 32 := 1#32
  let v0 : BitVec 32 := Scalar.addi arg2 c1_i32
  let c1_i32_41 : BitVec 32 := 1#32
  let v78 : BitVec 32 := Scalar.subi v0 c1_i32_41
  let v79 : BitVec 32 := Scalar.subi v78 c0_i32_43
  let c1_i32_44 : BitVec 32 := 1#32
  let v81 : BitVec 32 := Scalar.divsi v79 c1_i32_44
  let v82 : BitVec 32 := Scalar.muli v81 c1_i32_44
  let v83 : BitVec 32 := Scalar.addi c0_i32_43 v82
  let c1_i32_46 : BitVec 32 := 1#32
  let arg17 : BitVec 32 := Scf.iv v83 c1_i32_46 k0_t4
  let c512_i32_113 : BitVec 32 := 512#32
  let v205 : BitVec 32 := Scalar.muli arg17 c512_i32_113
  let v206 : BitVec 32 := v205
  let v210 : Index := Scalar.indexCast v206
  let c0_119 : Index := 0#32
  ![0, 0, v210.toNat, 0]
def k0_mult6 (i : grid0.Coords) : BitVec 32 :=
  let arg2 : BitVec 32 := BitVec.ofNat 32 (i 2).val
  let c1_i32 : BitVec 32 := 1#32
  let v0 : BitVec 32 := Scalar.addi arg2 c1_i32
  let c1_i32_47 : BitVec 32 := 1#32
  let v84 : BitVec 32 := Scalar.subi v0 c1_i32_47
  let c512_i32 : BitVec 32 := 512#32
  let v85 : BitVec 32 := Scalar.muli v84 c512_i32
  v85
def k0_off13 (i : grid0.Coords) : Fin 4 → Nat :=
  let c0_50 : Index := 0#32
  let c0_51 : Index := 0#32
  let arg2 : BitVec 32 := BitVec.ofNat 32 (i 2).val
  let c1_i32 : BitVec 32 := 1#32
  let v0 : BitVec 32 := Scalar.addi arg2 c1_i32
  let c1_i32_47 : BitVec 32 := 1#32
  let v84 : BitVec 32 := Scalar.subi v0 c1_i32_47
  let c512_i32 : BitVec 32 := 512#32
  let v85 : BitVec 32 := Scalar.muli v84 c512_i32
  let v86 : BitVec 32 := v85
  let v89 : Index := Scalar.indexCast v86
  let c0_52 : Index := 0#32
  ![0, 0, v89.toNat, 0]
def k0_off14 (i : grid0.Coords) : Fin 4 → Nat :=
  let c0_53 : Index := 0#32
  let c0_54 : Index := 0#32
  let arg2 : BitVec 32 := BitVec.ofNat 32 (i 2).val
  let c1_i32 : BitVec 32 := 1#32
  let v0 : BitVec 32 := Scalar.addi arg2 c1_i32
  let c1_i32_47 : BitVec 32 := 1#32
  let v84 : BitVec 32 := Scalar.subi v0 c1_i32_47
  let c512_i32 : BitVec 32 := 512#32
  let v85 : BitVec 32 := Scalar.muli v84 c512_i32
  let v86 : BitVec 32 := v85
  let v93 : Index := Scalar.indexCast v86
  let c0_55 : Index := 0#32
  ![0, 0, v93.toNat, 0]
def k0_off15 (i : grid0.Coords) : Fin 4 → Nat :=
  let c0_82 : Index := 0#32
  let c0_83 : Index := 0#32
  let arg2 : BitVec 32 := BitVec.ofNat 32 (i 2).val
  let c1_i32 : BitVec 32 := 1#32
  let v0 : BitVec 32 := Scalar.addi arg2 c1_i32
  let c1_i32_47 : BitVec 32 := 1#32
  let v84 : BitVec 32 := Scalar.subi v0 c1_i32_47
  let c512_i32 : BitVec 32 := 512#32
  let v85 : BitVec 32 := Scalar.muli v84 c512_i32
  let v86 : BitVec 32 := v85
  let v148 : Index := Scalar.indexCast v86
  let c0_84 : Index := 0#32
  ![0, 0, v148.toNat, 0]
def k0_off16 (i : grid0.Coords) : Fin 4 → Nat :=
  let c0_85 : Index := 0#32
  let c0_86 : Index := 0#32
  let arg2 : BitVec 32 := BitVec.ofNat 32 (i 2).val
  let c1_i32 : BitVec 32 := 1#32
  let v0 : BitVec 32 := Scalar.addi arg2 c1_i32
  let c1_i32_47 : BitVec 32 := 1#32
  let v84 : BitVec 32 := Scalar.subi v0 c1_i32_47
  let c512_i32 : BitVec 32 := 512#32
  let v85 : BitVec 32 := Scalar.muli v84 c512_i32
  let v86 : BitVec 32 := v85
  let v152 : Index := Scalar.indexCast v86
  let c0_87 : Index := 0#32
  ![0, 0, v152.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S1 : Shape := ⟨1, ![1]⟩
abbrev S8x4x4096x128 : Shape := ⟨4, ![8, 4, 4096, 128]⟩
abbrev S8x4x4096x256 : Shape := ⟨4, ![8, 4, 4096, 256]⟩
abbrev S4x64 : Shape := ⟨2, ![4, 64]⟩
abbrev S128 : Shape := ⟨1, ![128]⟩
abbrev S8x4x4096x64 : Shape := ⟨4, ![8, 4, 4096, 64]⟩
abbrev S1x64 : Shape := ⟨2, ![1, 64]⟩
abbrev S64 : Shape := ⟨1, ![64]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4x4096x4096 : Shape := ⟨4, ![8, 4, 4096, 4096]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S8x4096x512 : Shape := ⟨3, ![8, 4096, 512]⟩

abbrev nBuf : Space → Nat
  | .hbm => 127
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x4x4096x128, .bf16⟩
  | .hbm, ⟨2, _⟩ => ⟨S8x4x4096x128, .bf16⟩
  | .hbm, ⟨3, _⟩ => ⟨S8x4x4096x128, .bf16⟩
  | .hbm, ⟨4, _⟩ => ⟨S8x4x4096x128, .bf16⟩
  | .hbm, ⟨5, _⟩ => ⟨S8x4x4096x256, .bf16⟩
  | .hbm, ⟨6, _⟩ => ⟨S4x64, .f32⟩
  | .hbm, ⟨7, _⟩ => ⟨S128, .f32⟩
  | .hbm, ⟨8, _⟩ => ⟨S8x4x4096x128, .f32⟩
  | .hbm, ⟨9, _⟩ => ⟨S8x4x4096x64, .f32⟩
  | .hbm, ⟨10, _⟩ => ⟨S8x4x4096x128, .f32⟩
  | .hbm, ⟨11, _⟩ => ⟨S8x4x4096x64, .f32⟩
  | .hbm, ⟨12, _⟩ => ⟨S8x4x4096x128, .f32⟩
  | .hbm, ⟨13, _⟩ => ⟨S8x4x4096x64, .f32⟩
  | .hbm, ⟨14, _⟩ => ⟨S8x4x4096x128, .f32⟩
  | .hbm, ⟨15, _⟩ => ⟨S8x4x4096x64, .f32⟩
  | .hbm, ⟨16, _⟩ => ⟨S8x4x4096x256, .f32⟩
  | .hbm, ⟨17, _⟩ => ⟨S8x4x4096x128, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x64, .f32⟩
  | .hbm, ⟨27, _⟩ => ⟨S64, .f32⟩
  | .hbm, ⟨28, _⟩ => ⟨S1x64, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096, .i32⟩
  | .hbm, ⟨38, _⟩ => ⟨S_, .i32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S4096, .i32⟩
  | .hbm, ⟨47, _⟩ => ⟨S4096, .i32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S4096, .i1⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S4096, .i32⟩
  | .hbm, ⟨56, _⟩ => ⟨S1x4096, .i32⟩
  | .hbm, ⟨57, _⟩ => ⟨S4096x1, .i32⟩
  | .hbm, ⟨58, _⟩ => ⟨S4096x4096, .i32⟩
  | .hbm, ⟨59, _⟩ => ⟨S4096x4096, .i32⟩
  | .hbm, ⟨60, _⟩ => ⟨S4096x4096, .i1⟩
  | .hbm, ⟨61, _⟩ => ⟨S8x4x4096x4096, .f32⟩
  | .hbm, ⟨62, _⟩ => ⟨S_, .f32⟩
  | .hbm, ⟨63, _⟩ => ⟨S_, .f32⟩
  | .hbm, ⟨64, _⟩ => ⟨S8x4x4096x4096, .i1⟩
  | .hbm, ⟨65, _⟩ => ⟨S8x4x4096x4096, .f32⟩
  | .hbm, ⟨66, _⟩ => ⟨S8x4x4096x4096, .f32⟩
  | .hbm, ⟨67, _⟩ => ⟨S_, .f32⟩
  | .hbm, ⟨68, _⟩ => ⟨S8x4x4096, .f32⟩
  | .hbm, ⟨69, _⟩ => ⟨S_, .f32⟩
  | .hbm, ⟨70, _⟩ => ⟨S8x4x4096, .f32⟩
  | .hbm, ⟨71, _⟩ => ⟨S8x4x4096, .f32⟩
  | .hbm, ⟨72, _⟩ => ⟨S8x4x4096x1, .f32⟩
  | .hbm, ⟨73, _⟩ => ⟨S8x4x4096x4096, .f32⟩
  | .hbm, ⟨74, _⟩ => ⟨S8x4x4096x4096, .f32⟩
  | .hbm, ⟨75, _⟩ => ⟨S8x4x4096x4096, .f32⟩
  | .hbm, ⟨76, _⟩ => ⟨S_, .f32⟩
  | .hbm, ⟨77, _⟩ => ⟨S8x4x4096, .f32⟩
  | .hbm, ⟨78, _⟩ => ⟨S8x4x4096x1, .f32⟩
  | .hbm, ⟨79, _⟩ => ⟨S8x4x4096x4096, .f32⟩
  | .hbm, ⟨80, _⟩ => ⟨S8x4x4096x4096, .f32⟩
  | .hbm, ⟨81, _⟩ => ⟨S8x4x4096x4096, .f32⟩
  | .hbm, ⟨82, _⟩ => ⟨S_, .f32⟩
  | .hbm, ⟨83, _⟩ => ⟨S_, .f32⟩
  | .hbm, ⟨84, _⟩ => ⟨S8x4x4096x4096, .i1⟩
  | .hbm, ⟨85, _⟩ => ⟨S8x4x4096x4096, .f32⟩
  | .hbm, ⟨86, _⟩ => ⟨S8x4x4096x4096, .f32⟩
  | .hbm, ⟨87, _⟩ => ⟨S_, .f32⟩
  | .hbm, ⟨88, _⟩ => ⟨S8x4x4096, .f32⟩
  | .hbm, ⟨89, _⟩ => ⟨S_, .f32⟩
  | .hbm, ⟨90, _⟩ => ⟨S8x4x4096, .f32⟩
  | .hbm, ⟨91, _⟩ => ⟨S8x4x4096, .f32⟩
  | .hbm, ⟨92, _⟩ => ⟨S8x4x4096x1, .f32⟩
  | .hbm, ⟨93, _⟩ => ⟨S8x4x4096x4096, .f32⟩
  | .hbm, ⟨94, _⟩ => ⟨S8x4x4096x4096, .f32⟩
  | .hbm, ⟨95, _⟩ => ⟨S8x4x4096x4096, .f32⟩
  | .hbm, ⟨96, _⟩ => ⟨S_, .f32⟩
  | .hbm, ⟨97, _⟩ => ⟨S8x4x4096, .f32⟩
  | .hbm, ⟨98, _⟩ => ⟨S8x4x4096x1, .f32⟩
  | .hbm, ⟨99, _⟩ => ⟨S8x4x4096x4096, .f32⟩
  | .hbm, ⟨100, _⟩ => ⟨S8x4x4096x4096, .f32⟩
  | .hbm, ⟨101, _⟩ => ⟨S8x4x4096x4096, .f32⟩
  | .hbm, ⟨102, _⟩ => ⟨S8x4x4096x4096, .f32⟩
  | .hbm, ⟨103, _⟩ => ⟨S8x4x4096x4096, .f32⟩
  | .hbm, ⟨104, _⟩ => ⟨S8x4x128x4096, .f32⟩
  | .hbm, ⟨105, _⟩ => ⟨S8x4096x4x128, .f32⟩
  | .hbm, ⟨106, _⟩ => ⟨S8x4096x4x128, .f32⟩
  | .hbm, ⟨107, _⟩ => ⟨S_, .f32⟩
  | .hbm, ⟨108, _⟩ => ⟨S8x4096x4, .f32⟩
  | .hbm, ⟨109, _⟩ => ⟨S8x4096x4x1, .f32⟩
  | .hbm, ⟨110, _⟩ => ⟨S_, .f32⟩
  | .hbm, ⟨111, _⟩ => ⟨S8x4096x4x1, .f32⟩
  | .hbm, ⟨112, _⟩ => ⟨S8x4096x4x1, .f32⟩
  | .hbm, ⟨113, _⟩ => ⟨S_, .f32⟩
  | .hbm, ⟨114, _⟩ => ⟨S8x4096x4x1, .f32⟩
  | .hbm, ⟨115, _⟩ => ⟨S8x4096x4x1, .f32⟩
  | .hbm, ⟨116, _⟩ => ⟨S8x4096x4x1, .f32⟩
  | .hbm, ⟨117, _⟩ => ⟨S8x4096x4x128, .f32⟩
  | .hbm, ⟨118, _⟩ => ⟨S8x4096x4x128, .f32⟩
  | .hbm, ⟨119, _⟩ => ⟨S1x1x1x128, .f32⟩
  | .hbm, ⟨120, _⟩ => ⟨S8x4096x4x128, .f32⟩
  | .hbm, ⟨121, _⟩ => ⟨S8x4096x4x128, .f32⟩
  | .hbm, ⟨122, _⟩ => ⟨S_, .f32⟩
  | .hbm, ⟨123, _⟩ => ⟨S8x4096x4x128, .f32⟩
  | .hbm, ⟨124, _⟩ => ⟨S8x4096x4x128, .f32⟩
  | .hbm, ⟨125, _⟩ => ⟨S8x4096x512, .f32⟩
  | .hbm, ⟨126, _⟩ => ⟨S8x4096x512, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_2 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v34 : Ref sig .tc := ⟨.hbm, 66, rfl⟩
abbrev main_cst_3 : Ref sig .tc := ⟨.hbm, 67, rfl⟩
abbrev main_v35 : Ref sig .tc := ⟨.hbm, 68, rfl⟩
abbrev main_cst_4 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_5 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_6 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v47 : Ref sig .tc := ⟨.hbm, 86, rfl⟩
abbrev main_cst_7 : Ref sig .tc := ⟨.hbm, 87, rfl⟩
abbrev main_v48 : Ref sig .tc := ⟨.hbm, 88, rfl⟩
abbrev main_cst_8 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_9 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_10 : Ref sig .tc := ⟨.hbm, 107, rfl⟩
abbrev main_v65 : Ref sig .tc := ⟨.hbm, 108, rfl⟩
abbrev main_v66 : Ref sig .tc := ⟨.hbm, 109, rfl⟩
abbrev main_cst_11 : Ref sig .tc := ⟨.hbm, 110, rfl⟩
abbrev main_v67 : Ref sig .tc := ⟨.hbm, 111, rfl⟩
abbrev main_v68 : Ref sig .tc := ⟨.hbm, 112, rfl⟩
abbrev main_cst_12 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_13 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩

abbrev nD : Nat := 1
abbrev τ : Topo := Topo.v7x

variable {F : FTy → Type} [FloatOps F]
-- ==== Kernel2.lean ====
abbrev S163840x1024 : Shape := ⟨2, ![163840, 1024]⟩
abbrev S160 : Shape := ⟨1, ![160]⟩
abbrev S1 : Shape := ⟨1, ![1]⟩
abbrev S32x1024x1024 : Shape := ⟨3, ![32, 1024, 1024]⟩
abbrev S32x1024 : Shape := ⟨2, ![32, 1024]⟩
abbrev S_ : Shape := ⟨0, ![]⟩
abbrev S160x1 : Shape := ⟨2, ![160, 1]⟩
abbrev S32x1x1024 : Shape := ⟨3, ![32, 1, 1024]⟩
abbrev S1024x1024 : Shape := ⟨2, ![1024, 1024]⟩
abbrev S1x1024x1024 : Shape := ⟨3, ![1, 1024, 1024]⟩
abbrev S1x1x1024 : Shape := ⟨3, ![1, 1, 1024]⟩
abbrev S1x1024 : Shape := ⟨2, ![1, 1024]⟩

abbrev nBuf : Space → Nat
  | .hbm => 29
  | .vmem => 19
  | .smem => 2
  | _ => 0

abbrev bufTy : (tb : Table) → Fin (tcTables nBuf tb) → BufTy
  | .hbm, ⟨0, _⟩ => ⟨S163840x1024, .f32⟩
  | .hbm, ⟨1, _⟩ => ⟨S160, .i32⟩
  | .hbm, ⟨2, _⟩ => ⟨S32x1024x1024, .f32⟩
  | .hbm, ⟨3, _⟩ => ⟨S32x1024, .f32⟩
  | .hbm, ⟨4, _⟩ => ⟨S32x1024x1024, .f32⟩
  | .hbm, ⟨5, _⟩ => ⟨S32x1024, .f32⟩
  | .hbm, ⟨6, _⟩ => ⟨S32x1024x1024, .f32⟩
  | .hbm, ⟨7, _⟩ => ⟨S32x1024, .f32⟩
  | .hbm, ⟨8, _⟩ => ⟨S160, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S160, .i32⟩
  | .hbm, ⟨13, _⟩ => ⟨S160, .i32⟩
  | .hbm, ⟨14, _⟩ => ⟨S_, .i32⟩
  | .hbm, ⟨15, _⟩ => ⟨S160, .i32⟩
  | .hbm, ⟨16, _⟩ => ⟨S160, .i32⟩
  | .hbm, ⟨17, _⟩ => ⟨S_, .i32⟩
  | .hbm, ⟨18, _⟩ => ⟨S160, .i32⟩
  | .hbm, ⟨19, _⟩ => ⟨S160, .i1⟩
  | .hbm, ⟨20, _⟩ => ⟨S_, .i32⟩
  | .hbm, ⟨21, _⟩ => ⟨S160, .i32⟩
  | .hbm, ⟨22, _⟩ => ⟨S160, .i32⟩
  | .hbm, ⟨23, _⟩ => ⟨S160, .i32⟩
  | .hbm, ⟨24, _⟩ => ⟨S160x1, .i32⟩
  | .hbm, ⟨25, _⟩ => ⟨S32x1x1024, .f32⟩
  | .hbm, ⟨26, _⟩ => ⟨S32x1x1024, .f32⟩
  | .hbm, ⟨27, _⟩ => ⟨S32x1x1024, .f32⟩
  | .hbm, ⟨28, _⟩ => ⟨S163840x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .smem, ⟨0, _⟩ => ⟨S160, .i32⟩
  | .local _ .smem, ⟨1, _⟩ => ⟨S1, .i32⟩
  | _, _ => ⟨S163840x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v13 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_v13.idx, main_arg2.idx], fun | 0 => main_v13.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S163840x1024 : Shape := ⟨2, ![163840, 1024]⟩
abbrev S160 : Shape := ⟨1, ![160]⟩
abbrev S1 : Shape := ⟨1, ![1]⟩
abbrev S32x1024x1024 : Shape := ⟨3, ![32, 1024, 1024]⟩
abbrev S32x1024 : Shape := ⟨2, ![32, 1024]⟩
abbrev S160x1024x1024 : Shape := ⟨3, ![160, 1024, 1024]⟩
abbrev S_ : Shape := ⟨0, ![]⟩
abbrev S160x1 : Shape := ⟨2, ![160, 1]⟩
abbrev S160x1024 : Shape := ⟨2, ![160, 1024]⟩
abbrev S160x1x1024 : Shape := ⟨3, ![160, 1, 1024]⟩
abbrev S160x1x1 : Shape := ⟨3, ![160, 1, 1]⟩

abbrev nBuf : Space → Nat
  | .hbm => 114
  | .vmem => 0
  | .smem => 0
  | _ => 0

abbrev bufTy : (tb : Table) → Fin (tcTables nBuf tb) → BufTy
  | .hbm, ⟨0, _⟩ => ⟨S163840x1024, .f32⟩
  | .hbm, ⟨1, _⟩ => ⟨S160, .i32⟩
  | .hbm, ⟨2, _⟩ => ⟨S1, .i32⟩
  | .hbm, ⟨3, _⟩ => ⟨S32x1024x1024, .f32⟩
  | .hbm, ⟨4, _⟩ => ⟨S32x1024, .f32⟩
  | .hbm, ⟨5, _⟩ => ⟨S32x1024x1024, .f32⟩
  | .hbm, ⟨6, _⟩ => ⟨S32x1024, .f32⟩
  | .hbm, ⟨7, _⟩ => ⟨S32x1024x1024, .f32⟩
  | .hbm, ⟨8, _⟩ => ⟨S32x1024, .f32⟩
  | .hbm, ⟨9, _⟩ => ⟨S160x1024x1024, .f32⟩
  | .hbm, ⟨10, _⟩ => ⟨S_, .i32⟩
  | .hbm, ⟨11, _⟩ => ⟨S160, .i32⟩
  | .hbm, ⟨12, _⟩ => ⟨S160, .i1⟩
  | .hbm, ⟨13, _⟩ => ⟨S_, .i32⟩
  | .hbm, ⟨14, _⟩ => ⟨S160, .i32⟩
  | .hbm, ⟨15, _⟩ => ⟨S160, .i32⟩
  | .hbm, ⟨16, _⟩ => ⟨S160, .i32⟩
  | .hbm, ⟨17, _⟩ => ⟨S160x1, .i32⟩
  | .hbm, ⟨18, _⟩ => ⟨S160x1024x1024, .f32⟩
  | .hbm, ⟨19, _⟩ => ⟨S160x1024x1024, .f32⟩
  | .hbm, ⟨20, _⟩ => ⟨S_, .i32⟩
  | .hbm, ⟨21, _⟩ => ⟨S160, .i32⟩
  | .hbm, ⟨22, _⟩ => ⟨S160, .i1⟩
  | .hbm, ⟨23, _⟩ => ⟨S_, .i32⟩
  | .hbm, ⟨24, _⟩ => ⟨S160, .i32⟩
  | .hbm, ⟨25, _⟩ => ⟨S160, .i32⟩
  | .hbm, ⟨26, _⟩ => ⟨S160, .i32⟩
  | .hbm, ⟨27, _⟩ => ⟨S160x1, .i32⟩
  | .hbm, ⟨28, _⟩ => ⟨S160x1024, .f32⟩
  | .hbm, ⟨29, _⟩ => ⟨S160x1x1024, .f32⟩
  | .hbm, ⟨30, _⟩ => ⟨S160x1024x1024, .f32⟩
  | .hbm, ⟨31, _⟩ => ⟨S160x1024x1024, .f32⟩
  | .hbm, ⟨32, _⟩ => ⟨S_, .i32⟩
  | .hbm, ⟨33, _⟩ => ⟨S160, .i32⟩
  | .hbm, ⟨34, _⟩ => ⟨S160, .i1⟩
  | .hbm, ⟨35, _⟩ => ⟨S_, .i32⟩
  | .hbm, ⟨36, _⟩ => ⟨S160, .i32⟩
  | .hbm, ⟨37, _⟩ => ⟨S160, .i32⟩
  | .hbm, ⟨38, _⟩ => ⟨S160, .i32⟩
  | .hbm, ⟨39, _⟩ => ⟨S160x1, .i32⟩
  | .hbm, ⟨40, _⟩ => ⟨S160x1024x1024, .f32⟩
  | .hbm, ⟨41, _⟩ => ⟨S160x1024x1024, .f32⟩
  | .hbm, ⟨42, _⟩ => ⟨S_, .i32⟩
  | .hbm, ⟨43, _⟩ => ⟨S160, .i32⟩
  | .hbm, ⟨44, _⟩ => ⟨S160, .i1⟩
  | .hbm, ⟨45, _⟩ => ⟨S_, .i32⟩
  | .hbm, ⟨46, _⟩ => ⟨S160, .i32⟩
  | .hbm, ⟨47, _⟩ => ⟨S160, .i32⟩
  | .hbm, ⟨48, _⟩ => ⟨S160, .i32⟩
  | .hbm, ⟨49, _⟩ => ⟨S160x1, .i32⟩
  | .hbm, ⟨50, _⟩ => ⟨S160x1024, .f32⟩
  | .hbm, ⟨51, _⟩ => ⟨S160x1x1024, .f32⟩
  | .hbm, ⟨52, _⟩ => ⟨S160x1024x1024, .f32⟩
  | .hbm, ⟨53, _⟩ => ⟨S160x1024x1024, .f32⟩
  | .hbm, ⟨54, _⟩ => ⟨S_, .f32⟩
  | .hbm, ⟨55, _⟩ => ⟨S160x1024x1024, .f32⟩
  | .hbm, ⟨56, _⟩ => ⟨S160x1024x1024, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S160x1024x1024, .f32⟩
  | .hbm, ⟨61, _⟩ => ⟨S160x1024x1024, .f32⟩
  | .hbm, ⟨62, _⟩ => ⟨S_, .f32⟩
  | .hbm, ⟨63, _⟩ => ⟨S160x1024x1024, .f32⟩
  | .hbm, ⟨64, _⟩ => ⟨S160x1024x1024, .f32⟩
  | .hbm, ⟨65, _⟩ => ⟨S_, .f32⟩
  | .hbm, ⟨66, _⟩ => ⟨S160x1024x1024, .f32⟩
  | .hbm, ⟨67, _⟩ => ⟨S160x1024x1024, .f32⟩
  | .hbm, ⟨68, _⟩ => ⟨S160x1024x1024, .f32⟩
  | .hbm, ⟨69, _⟩ => ⟨S160x1024x1024, .f32⟩
  | .hbm, ⟨70, _⟩ => ⟨S_, .f32⟩
  | .hbm, ⟨71, _⟩ => ⟨S160x1024x1024, .f32⟩
  | .hbm, ⟨72, _⟩ => ⟨S160x1024x1024, .f32⟩
  | .hbm, ⟨73, _⟩ => ⟨S_, .f32⟩
  | .hbm, ⟨74, _⟩ => ⟨S160x1024x1024, .f32⟩
  | .hbm, ⟨75, _⟩ => ⟨S160x1024x1024, .f32⟩
  | .hbm, ⟨76, _⟩ => ⟨S160x1024x1024, .f32⟩
  | .hbm, ⟨77, _⟩ => ⟨S_, .f32⟩
  | .hbm, ⟨78, _⟩ => ⟨S160x1024x1024, .f32⟩
  | .hbm, ⟨79, _⟩ => ⟨S160x1024x1024, .f32⟩
  | .hbm, ⟨80, _⟩ => ⟨S160x1024x1024, .f32⟩
  | .hbm, ⟨81, _⟩ => ⟨S_, .i32⟩
  | .hbm, ⟨82, _⟩ => ⟨S160, .i32⟩
  | .hbm, ⟨83, _⟩ => ⟨S160, .i1⟩
  | .hbm, ⟨84, _⟩ => ⟨S_, .i32⟩
  | .hbm, ⟨85, _⟩ => ⟨S160, .i32⟩
  | .hbm, ⟨86, _⟩ => ⟨S160, .i32⟩
  | .hbm, ⟨87, _⟩ => ⟨S160, .i32⟩
  | .hbm, ⟨88, _⟩ => ⟨S160x1, .i32⟩
  | .hbm, ⟨89, _⟩ => ⟨S160x1024x1024, .f32⟩
  | .hbm, ⟨90, _⟩ => ⟨S160x1024x1024, .f32⟩
  | .hbm, ⟨91, _⟩ => ⟨S_, .i32⟩
  | .hbm, ⟨92, _⟩ => ⟨S160, .i32⟩
  | .hbm, ⟨93, _⟩ => ⟨S160, .i1⟩
  | .hbm, ⟨94, _⟩ => ⟨S_, .i32⟩
  | .hbm, ⟨95, _⟩ => ⟨S160, .i32⟩
  | .hbm, ⟨96, _⟩ => ⟨S160, .i32⟩
  | .hbm, ⟨97, _⟩ => ⟨S160, .i32⟩
  | .hbm, ⟨98, _⟩ => ⟨S160x1, .i32⟩
  | .hbm, ⟨99, _⟩ => ⟨S160x1024, .f32⟩
  | .hbm, ⟨100, _⟩ => ⟨S160x1x1024, .f32⟩
  | .hbm, ⟨101, _⟩ => ⟨S160x1024x1024, .f32⟩
  | .hbm, ⟨102, _⟩ => ⟨S160x1024x1024, .f32⟩
  | .hbm, ⟨103, _⟩ => ⟨S160, .i32⟩
  | .hbm, ⟨104, _⟩ => ⟨S_, .i32⟩
  | .hbm, ⟨105, _⟩ => ⟨S160, .i32⟩
  | .hbm, ⟨106, _⟩ => ⟨S160, .i1⟩
  | .hbm, ⟨107, _⟩ => ⟨S160x1x1, .i1⟩
  | .hbm, ⟨108, _⟩ => ⟨S_, .f32⟩
  | .hbm, ⟨109, _⟩ => ⟨S_, .f32⟩
  | .hbm, ⟨110, _⟩ => ⟨S160x1024x1024, .i1⟩
  | .hbm, ⟨111, _⟩ => ⟨S160x1024x1024, .f32⟩
  | .hbm, ⟨112, _⟩ => ⟨S160x1024x1024, .f32⟩
  | .hbm, ⟨113, _⟩ => ⟨S163840x1024, .f32⟩
  | _, _ => ⟨S163840x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_cst_8 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_12 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_13 : Ref sig .tc := ⟨.hbm, 81, rfl⟩
abbrev main_v52 : Ref sig .tc := ⟨.hbm, 82, rfl⟩
abbrev main_v53 : Ref sig .tc := ⟨.hbm, 83, rfl⟩
abbrev main_c_14 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_15 : Ref sig .tc := ⟨.hbm, 91, rfl⟩
abbrev main_v60 : Ref sig .tc := ⟨.hbm, 92, rfl⟩
abbrev main_v61 : Ref sig .tc := ⟨.hbm, 93, rfl⟩
abbrev main_c_16 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_17 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_v75 : Ref sig .tc := ⟨.hbm, 112, rfl⟩
abbrev main_v76 : Ref sig .tc := ⟨.hbm, 113, rfl⟩

abbrev nD : Nat := 1
abbrev τ : Topo := Topo.v7x

variable {F : FTy → Type} [FloatOps F]
-- ==== Proof.BRunA.lean ====
/- The whole-body run of the kernel in case A of its branch conditions; taken over from the text the frame-only certificate of the
   same program generates. -/
module

public import proofs.«01_k».proof.Proof.BRuns

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 taken: points all): on whole staging memrefs — the inputs' at their contents,
    the FORGOTTEN outputs' (8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg4 : Memref sig .tc .vmem S4x64 .f32) (harg4 : arg4.IsWhole) (arg5 : Memref sig .tc .vmem S1x128 .f32) (harg5 : arg5.IsWhole) (arg6 : Memref sig .tc .vmem S512x512 .f32) (harg6 : arg6.IsWhole) (arg7 : Memref sig .tc .vmem S1x1x512x128 .bf16) (harg7 : arg7.IsWhole) (arg8 : Memref sig .tc .vmem S1x1x512x128 .bf16) (harg8 : arg8.IsWhole) (arg9 : Memref sig .tc .vmem S1x1x4096x128 .bf16) (harg9 : arg9.IsWhole) (arg10 : Memref sig .tc .vmem S1x1x4096x128 .bf16) (harg10 : arg10.IsWhole) (arg11 : Memref sig .tc .vmem S1x1x4096x256 .bf16) (harg11 : arg11.IsWhole) (arg12 : Memref sig .tc .vmem S1x512x128 .bf16) (harg12 : arg12.IsWhole) (arg13 : Memref sig .tc .vmem S512x1 .f32) (harg13 : arg13.IsWhole) (arg14 : Memref sig .tc .vmem S512x256 .f32) (harg14 : arg14.IsWhole) (arg15 : Memref sig .tc .vmem S512x1 .f32) (harg15 : arg15.IsWhole) (arg16 : Memref sig .tc .vmem S512x256 .f32) (harg16 : arg16.IsWhole)
    (x0 : Vec F S4x64 .f32) (x1 : Vec F S1x128 .f32) (x2 : Vec F S512x512 .f32) (x3 : Vec F S1x1x512x128 .bf16) (x4 : Vec F S1x1x512x128 .bf16) (x5 : Vec F S1x1x4096x128 .bf16) (x6 : Vec F S1x1x4096x128 .bf16) (x7 : Vec F S1x1x4096x256 .bf16) (xt0 : TbBuf0 (F := F) c tbM0_0) (hc0 : cond0_0 i (tbM0_0.view.readAt (Elt F) (Rect.unit (s := S1) ![0] S1.size inb_S1_S1_0).toLoadRect xt0 (Shape.Idx.first (numel1_S1.symm ▸ Nat.one_pos)))) (hc1 : cond0_1 i (tbM0_0.view.readAt (Elt F) (Rect.unit (s := S1) ![0] S1.size inb_S1_S1_0).toLoadRect xt0 (Shape.Idx.first (numel1_S1.symm ▸ Nat.one_pos)))) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
          ⊢ wp frame (wpE (defs₀ (F := F)) Variants.none c none) E (cc0__diff_attn_kernel i tbM0_0 htbM0_0 arg4 harg4 arg5 harg5 arg6 harg6 arg7 harg7 arg8 harg8 arg9 harg9 arg10 harg10 arg11 harg11 arg12 harg12 arg13 harg13 arg14 harg14 arg15 harg15 arg16 harg16) K := by
    intro E K
    simp only [cc0__diff_attn_kernel_eq_skeleton]; unfold cc0__diff_attn_kernel_skel
    simp only [k0_part9_eq_skeleton, k0_part1_eq_skeleton, k0_part2_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.Kernel.Gen

end
-- ==== Proof.BRunB.lean ====
/- The whole-body run of the kernel in case B of its branch conditions; taken over from the text the frame-only certificate of the
   same program generates. -/
module

public import proofs.«01_k».proof.Proof.BRunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 taken, `scf.if` 1 not taken: points all): on whole staging memrefs — the inputs' at their contents,
    the FORGOTTEN outputs' (8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg4 : Memref sig .tc .vmem S4x64 .f32) (harg4 : arg4.IsWhole) (arg5 : Memref sig .tc .vmem S1x128 .f32) (harg5 : arg5.IsWhole) (arg6 : Memref sig .tc .vmem S512x512 .f32) (harg6 : arg6.IsWhole) (arg7 : Memref sig .tc .vmem S1x1x512x128 .bf16) (harg7 : arg7.IsWhole) (arg8 : Memref sig .tc .vmem S1x1x512x128 .bf16) (harg8 : arg8.IsWhole) (arg9 : Memref sig .tc .vmem S1x1x4096x128 .bf16) (harg9 : arg9.IsWhole) (arg10 : Memref sig .tc .vmem S1x1x4096x128 .bf16) (harg10 : arg10.IsWhole) (arg11 : Memref sig .tc .vmem S1x1x4096x256 .bf16) (harg11 : arg11.IsWhole) (arg12 : Memref sig .tc .vmem S1x512x128 .bf16) (harg12 : arg12.IsWhole) (arg13 : Memref sig .tc .vmem S512x1 .f32) (harg13 : arg13.IsWhole) (arg14 : Memref sig .tc .vmem S512x256 .f32) (harg14 : arg14.IsWhole) (arg15 : Memref sig .tc .vmem S512x1 .f32) (harg15 : arg15.IsWhole) (arg16 : Memref sig .tc .vmem S512x256 .f32) (harg16 : arg16.IsWhole)
    (x0 : Vec F S4x64 .f32) (x1 : Vec F S1x128 .f32) (x2 : Vec F S512x512 .f32) (x3 : Vec F S1x1x512x128 .bf16) (x4 : Vec F S1x1x512x128 .bf16) (x5 : Vec F S1x1x4096x128 .bf16) (x6 : Vec F S1x1x4096x128 .bf16) (x7 : Vec F S1x1x4096x256 .bf16) (xt0 : TbBuf0 (F := F) c tbM0_0) (hc0 : cond0_0 i (tbM0_0.view.readAt (Elt F) (Rect.unit (s := S1) ![0] S1.size inb_S1_S1_0).toLoadRect xt0 (Shape.Idx.first (numel1_S1.symm ▸ Nat.one_pos)))) (hc1 : ¬cond0_1 i (tbM0_0.view.readAt (Elt F) (Rect.unit (s := S1) ![0] S1.size inb_S1_S1_0).toLoadRect xt0 (Shape.Idx.first (numel1_S1.symm ▸ Nat.one_pos)))) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
          ⊢ wp frame (wpE (defs₀ (F := F)) Variants.none c none) E (cc0__diff_attn_kernel i tbM0_0 htbM0_0 arg4 harg4 arg5 harg5 arg6 harg6 arg7 harg7 arg8 harg8 arg9 harg9 arg10 harg10 arg11 harg11 arg12 harg12 arg13 harg13 arg14 harg14 arg15 harg15 arg16 harg16) K := by
    intro E K
    simp only [cc0__diff_attn_kernel_eq_skeleton]; unfold cc0__diff_attn_kernel_skel
    simp only [k0_part9_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.Kernel.Gen

end
-- ==== Proof.BRunC.lean ====
/- The whole-body run of the kernel in case C of its branch conditions; taken over from the text the frame-only certificate of the
   same program generates. -/
module

public import proofs.«01_k».proof.Proof.BRunB

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE C (`scf.if` 0 not taken, `scf.if` 1 taken: points all): on whole staging memrefs — the inputs' at their contents,
    the FORGOTTEN outputs' (8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg4 : Memref sig .tc .vmem S4x64 .f32) (harg4 : arg4.IsWhole) (arg5 : Memref sig .tc .vmem S1x128 .f32) (harg5 : arg5.IsWhole) (arg6 : Memref sig .tc .vmem S512x512 .f32) (harg6 : arg6.IsWhole) (arg7 : Memref sig .tc .vmem S1x1x512x128 .bf16) (harg7 : arg7.IsWhole) (arg8 : Memref sig .tc .vmem S1x1x512x128 .bf16) (harg8 : arg8.IsWhole) (arg9 : Memref sig .tc .vmem S1x1x4096x128 .bf16) (harg9 : arg9.IsWhole) (arg10 : Memref sig .tc .vmem S1x1x4096x128 .bf16) (harg10 : arg10.IsWhole) (arg11 : Memref sig .tc .vmem S1x1x4096x256 .bf16) (harg11 : arg11.IsWhole) (arg12 : Memref sig .tc .vmem S1x512x128 .bf16) (harg12 : arg12.IsWhole) (arg13 : Memref sig .tc .vmem S512x1 .f32) (harg13 : arg13.IsWhole) (arg14 : Memref sig .tc .vmem S512x256 .f32) (harg14 : arg14.IsWhole) (arg15 : Memref sig .tc .vmem S512x1 .f32) (harg15 : arg15.IsWhole) (arg16 : Memref sig .tc .vmem S512x256 .f32) (harg16 : arg16.IsWhole)
    (x0 : Vec F S4x64 .f32) (x1 : Vec F S1x128 .f32) (x2 : Vec F S512x512 .f32) (x3 : Vec F S1x1x512x128 .bf16) (x4 : Vec F S1x1x512x128 .bf16) (x5 : Vec F S1x1x4096x128 .bf16) (x6 : Vec F S1x1x4096x128 .bf16) (x7 : Vec F S1x1x4096x256 .bf16) (xt0 : TbBuf0 (F := F) c tbM0_0) (hc0 : ¬cond0_0 i (tbM0_0.view.readAt (Elt F) (Rect.unit (s := S1) ![0] S1.size inb_S1_S1_0).toLoadRect xt0 (Shape.Idx.first (numel1_S1.symm ▸ Nat.one_pos)))) (hc1 : cond0_1 i (tbM0_0.view.readAt (Elt F) (Rect.unit (s := S1) ![0] S1.size inb_S1_S1_0).toLoadRect xt0 (Shape.Idx.first (numel1_S1.symm ▸ Nat.one_pos)))) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
          ⊢ wp frame (wpE (defs₀ (F := F)) Variants.none c none) E (cc0__diff_attn_kernel i tbM0_0 htbM0_0 arg4 harg4 arg5 harg5 arg6 harg6 arg7 harg7 arg8 harg8 arg9 harg9 arg10 harg10 arg11 harg11 arg12 harg12 arg13 harg13 arg14 harg14 arg15 harg15 arg16 harg16) K := by
    intro E K
    simp only [cc0__diff_attn_kernel_eq_skeleton]; unfold cc0__diff_attn_kernel_skel
    simp only [k0_part9_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.Kernel.Gen

end
-- ==== Proof.BRunD.lean ====
/- The whole-body run of the kernel in case D of its branch conditions; taken over from the text the frame-only certificate of the
   same program generates. -/
module

public import proofs.«01_k».proof.Proof.BRunC

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE D (`scf.if` 0 not taken, `scf.if` 1 not taken: points all): on whole staging memrefs — the inputs' at their contents,
    the FORGOTTEN outputs' (8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (i : grid0.Coords) (arg4 : Memref sig .tc .vmem S4x64 .f32) (harg4 : arg4.IsWhole) (arg5 : Memref sig .tc .vmem S1x128 .f32) (harg5 : arg5.IsWhole) (arg6 : Memref sig .tc .vmem S512x512 .f32) (harg6 : arg6.IsWhole) (arg7 : Memref sig .tc .vmem S1x1x512x128 .bf16) (harg7 : arg7.IsWhole) (arg8 : Memref sig .tc .vmem S1x1x512x128 .bf16) (harg8 : arg8.IsWhole) (arg9 : Memref sig .tc .vmem S1x1x4096x128 .bf16) (harg9 : arg9.IsWhole) (arg10 : Memref sig .tc .vmem S1x1x4096x128 .bf16) (harg10 : arg10.IsWhole) (arg11 : Memref sig .tc .vmem S1x1x4096x256 .bf16) (harg11 : arg11.IsWhole) (arg12 : Memref sig .tc .vmem S1x512x128 .bf16) (harg12 : arg12.IsWhole) (arg13 : Memref sig .tc .vmem S512x1 .f32) (harg13 : arg13.IsWhole) (arg14 : Memref sig .tc .vmem S512x256 .f32) (harg14 : arg14.IsWhole) (arg15 : Memref sig .tc .vmem S512x1 .f32) (harg15 : arg15.IsWhole) (arg16 : Memref sig .tc .vmem S512x256 .f32) (harg16 : arg16.IsWhole)
    (x0 : Vec F S4x64 .f32) (x1 : Vec F S1x128 .f32) (x2 : Vec F S512x512 .f32) (x3 : Vec F S1x1x512x128 .bf16) (x4 : Vec F S1x1x512x128 .bf16) (x5 : Vec F S1x1x4096x128 .bf16) (x6 : Vec F S1x1x4096x128 .bf16) (x7 : Vec F S1x1x4096x256 .bf16) (xt0 : TbBuf0 (F := F) c tbM0_0) (hc0 : ¬cond0_0 i (tbM0_0.view.readAt (Elt F) (Rect.unit (s := S1) ![0] S1.size inb_S1_S1_0).toLoadRect xt0 (Shape.Idx.first (numel1_S1.symm ▸ Nat.one_pos)))) (hc1 : ¬cond0_1 i (tbM0_0.view.readAt (Elt F) (Rect.unit (s := S1) ![0] S1.size inb_S1_S1_0).toLoadRect xt0 (Shape.Idx.first (numel1_S1.symm ▸ Nat.one_pos)))) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
          ⊢ wp frame (wpE (defs₀ (F := F)) Variants.none c none) E (cc0__diff_attn_kernel i tbM0_0 htbM0_0 arg4 harg4 arg5 harg5 arg6 harg6 arg7 harg7 arg8 harg8 arg9 harg9 arg10 harg10 arg11 harg11 arg12 harg12 arg13 harg13 arg14 harg14 arg15 harg15 arg16 harg16) K := by
    intro E K
    simp only [cc0__diff_attn_kernel_eq_skeleton]; unfold cc0__diff_attn_kernel_skel
    simp only [k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.Kernel.Gen

end
-- ==== Proof.BFrame.lean ====
/- The kernel's launch and its frame: it terminates, its arguments end unchanged and every semaphore at zero; taken over from the
   text the frame-only certificate of the same program generates. -/
module

public import proofs.«01_k».proof.Proof.BRunD
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (8): nothing reads what the kernel leaves in them, so nothing
    of it is named (Lib/Pipeline/Dat.lean `Dat.toRForget`). -/
def forgets0 : Fin 9 → Bool := fun w => w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, h⟩ => Pipeline.Dat.unnamed (cfg := (cfgM m hO)) ⟨8, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ (∃ d, owns (c : Thread nD τ) (ms0_8 m hO t) fullShare d))

set_option maxHeartbeats 4800000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7]
  rw [show (dats m hO 0 c).Φ t.castSucc = iprop(Pipeline.ΦA spec0 c ∗ Pipeline.ΦT pre0 (tbl m) c) from rfl, PhiT0_eq, PhiA0_eq]
  by_cases h0 : cond0_0 (grid0.coords t) (tbM0_0.view.readAt (Elt F) (Rect.unit (s := S1) ![0] S1.size inb_S1_S1_0).toLoadRect (tbl m 0) (Shape.Idx.first (numel1_S1.symm ▸ Nat.one_pos)))
  · by_cases h1 : cond0_1 (grid0.coords t) (tbM0_0.view.readAt (Elt F) (Rect.unit (s := S1) ![0] S1.size inb_S1_S1_0).toLoadRect (tbl m 0) (Shape.Idx.first (numel1_S1.symm ▸ Nat.one_pos)))
    · iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) h0 h1) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      isplitl [HT0]; · iexact HT0
      iintro ⟨H0, H1, H2, H3, H4, H5, H6, H7, H8, HS0, HS1, HS2, HS3, HT0⟩
      isplitl [HS0 HS1 HS2 HS3 Hg HT0]
      · isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) h0 h1) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      isplitl [HT0]; · iexact HT0
      iintro ⟨H0, H1, H2, H3, H4, H5, H6, H7, H8, HS0, HS1, HS2, HS3, HT0⟩
      isplitl [HS0 HS1 HS2 HS3 Hg HT0]
      · isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · by_cases h1 : cond0_1 (grid0.coords t) (tbM0_0.view.readAt (Elt F) (Rect.unit (s := S1) ![0] S1.size inb_S1_S1_0).toLoadRect (tbl m 0) (Shape.Idx.first (numel1_S1.symm ▸ Nat.one_pos)))
    · iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) h0 h1) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      isplitl [HT0]; · iexact HT0
      iintro ⟨H0, H1, H2, H3, H4, H5, H6, H7, H8, HS0, HS1, HS2, HS3, HT0⟩
      isplitl [HS0 HS1 HS2 HS3 Hg HT0]
      · isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_D c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) h0 h1) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      isplitl [HT0]; · iexact HT0
      iintro ⟨H0, H1, H2, H3, H4, H5, H6, H7, H8, HS0, HS1, HS2, HS3, HT0⟩
      isplitl [HS0 HS1 HS2 HS3 Hg HT0]
      · isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 8) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (fun c => (dats m hO 0 c).toRForget forgets0) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.Kernel.Gen

end
-- ==== Proof.Ref.lean ====
/- The reference's result named step by step: the chunk of a position, the mask, the masked scores, their softmax, the scalar
   of the second stream, the attention and its norm. -/
module

public import proofs.«01_k».proof.Proof.Gen.ReferenceIdeal.Run
public import Idealize.ShloMosaic.Lib.Pointwise

@[expose] public section
set_option maxRecDepth 16384
noncomputable section
namespace Cert.ReferenceIdeal.Value
open Cert.ReferenceIdeal Cert.ReferenceIdeal.Gen Idealize.ShloMosaic Idealize.ShloMosaic.TcCoe Idealize.SL.Sem Idealize.ShloMosaic.StableHlo

variable {F : FTy → Type} [FloatOps F]

/-- The chunk a position is in. -/
def chunkR : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

/-- Which key a query may see. -/
def maskR : IVec S4096x4096 1 :=
  cmpi .sle (broadcastInDim S4096x4096 ![0, 1] bcast_S1x4096_S4096x4096_0_1 (broadcastInDim S1x4096 ![1] bcast_S4096_S1x4096_1 chunkR)) (broadcastInDim S4096x4096 ![0, 1] bcast_S4096x1_S4096x4096_0_1 (broadcastInDim S4096x1 ![0] bcast_S4096_S4096x1_0 chunkR))

/-- The masked scores. -/
def scR (A1 A3 : FVec F S8x4x4096x128 .bf16) : FVec F S8x4x4096x4096 .f32 :=
  select (broadcastInDim S8x4x4096x4096 ![2, 3] bcast_S4096x4096_S8x4x4096x4096_2_3 maskR) (Host.dotGeneral dot_S8x4x4096x64_S8x4x4096x64_S8x4x4096x4096_3_3_2_2_01_01 none (extractStridedSlice S8x4x4096x64 ![0, 0, 0, 0] (extf .f32 A1 bitsLt_bf16_f32) slices_S8x4x4096x128_S8x4x4096x64_0_0_0_0) (extractStridedSlice S8x4x4096x64 ![0, 0, 0, 0] (extf .f32 A3 bitsLt_bf16_f32) slices_S8x4x4096x128_S8x4x4096x64_0_0_0_0)) (broadcastInDim S8x4x4096x4096 ![] bcast_S_S8x4x4096x4096 (id (constant S_ .f32 0xFF800000#32)))

/-- A row's largest score. -/
def mxR (A1 A3 : FVec F S8x4x4096x128 .bf16) : FVec F S8x4x4096 .f32 :=
  maximumf (broadcastInDim S8x4x4096 ![] bcast_S_S8x4x4096 (constant S_ .f32 0xFF800000#32)) (Host.reduce FloatOps.maximumf (scR A1 A3) (constant S_ .f32 0xFF800000#32) reducesTo_S8x4x4096x4096_S8x4x4096_d3 h_S_)

/-- The exponentials. -/
def exR (A1 A3 : FVec F S8x4x4096x128 .bf16) : FVec F S8x4x4096x4096 .f32 :=
  Host.exp (subf (scR A1 A3) (broadcastInDim S8x4x4096x4096 ![0, 1, 2, 3] bcast_S8x4x4096x1_S8x4x4096x4096_0_1_2_3 (broadcastInDim S8x4x4096x1 ![0, 1, 2] bcast_S8x4x4096_S8x4x4096x1_0_1_2 (mxR A1 A3))))

/-- The softmax. -/
def prR (A1 A3 : FVec F S8x4x4096x128 .bf16) : FVec F S8x4x4096x4096 .f32 :=
  Host.divf (exR A1 A3) (broadcastInDim S8x4x4096x4096 ![0, 1, 2, 3] bcast_S8x4x4096x1_S8x4x4096x4096_0_1_2_3 (broadcastInDim S8x4x4096x1 ![0, 1, 2] bcast_S8x4x4096_S8x4x4096x1_0_1_2 (Host.reduceAdd (exR A1 A3) (constant S_ .f32 0x00000000#32) reducesTo_S8x4x4096x4096_S8x4x4096_d3 h_S_)))

/-- The scalar of the second stream. -/
def lamR (A6 : FVec F S4x64 .f32) : FVec F S_ .f32 :=
  addf (subf (Host.exp (Host.reduceAdd (mulf (shapeCast _ (extractStridedSlice S1x64 ![0, 0] A6 slices_S4x64_S1x64_0_0) shapeCasts_S1x64_S64) (shapeCast _ (extractStridedSlice S1x64 ![1, 0] A6 slices_S4x64_S1x64_1_0) shapeCasts_S1x64_S64)) (constant S_ .f32 0x00000000#32) reducesTo_S64_S_d0 h_S_)) (Host.exp (Host.reduceAdd (mulf (shapeCast _ (extractStridedSlice S1x64 ![2, 0] A6 slices_S4x64_S1x64_2_0) shapeCasts_S1x64_S64) (shapeCast _ (extractStridedSlice S1x64 ![3, 0] A6 slices_S4x64_S1x64_3_0) shapeCasts_S1x64_S64)) (constant S_ .f32 0x00000000#32) reducesTo_S64_S_d0 h_S_))) (constant S_ .f32 0x3E4CCCCD#32)

/-- The difference of the two streams' attention. -/
def oR (A1 A2 A3 A4 : FVec F S8x4x4096x128 .bf16) (A5 : FVec F S8x4x4096x256 .bf16) (A6 : FVec F S4x64 .f32) : FVec F S8x4096x4x128 .f32 :=
  transpose S8x4096x4x128 [0, 3, 1, 2] (Host.dotGeneral dot_S8x4x4096x128_S8x4x4096x4096_S8x4x128x4096_2_3_3_2_01_01 none (extractStridedSlice S8x4x4096x128 ![0, 0, 0, 0] (extf .f32 A5 bitsLt_bf16_f32) slices_S8x4x4096x256_S8x4x4096x128_0_0_0_0) (subf (prR A1 A3) (mulf (broadcastInDim S8x4x4096x4096 ![] bcast_S_S8x4x4096x4096 (lamR A6)) (prR A2 A4)))) transposes_S8x4x128x4096_S8x4096x4x128_0_3_1_2

/-- Normed, with its gain. -/
def outR (o : FVec F S8x4096x4x128 .f32) (A7 : FVec F S128 .f32) : FVec F S8x4096x512 .bf16 :=
  truncf .bf16 (shapeCast _ (mulf (mulf (mulf o (broadcastInDim S8x4096x4x128 ![0, 1, 2, 3] bcast_S8x4096x4x1_S8x4096x4x128_0_1_2_3 (Host.rsqrt (addf (Host.divf (broadcastInDim S8x4096x4x1 ![0, 1, 2] bcast_S8x4096x4_S8x4096x4x1_0_1_2 (Host.reduceAdd (mulf o o) (constant S_ .f32 0x00000000#32) reducesTo_S8x4096x4x128_S8x4096x4_d3 h_S_)) (broadcastInDim S8x4096x4x1 ![] bcast_S_S8x4096x4x1 (constant S_ .f32 0x43000000#32))) (broadcastInDim S8x4096x4x1 ![] bcast_S_S8x4096x4x1 (constant S_ .f32 0x358637BD#32)))))) (broadcastInDim S8x4096x4x128 ![0, 1, 2, 3] bcast_S1x1x1x128_S8x4096x4x128_0_1_2_3 (broadcastInDim S1x1x1x128 ![3] bcast_S128_S1x1x1x128_3 A7))) (broadcastInDim S8x4096x4x128 ![] bcast_S_S8x4096x4x128 (constant S_ .f32 0x3F4CCCCD#32))) shapeCasts_S8x4096x4x128_S8x4096x512) bitsLt_bf16_f32

set_option maxHeartbeats 4000000 in
theorem res_eq (m : (ℓ : Loc nD τ sig) → Buf (Elt F) ℓ) (c : Dev nD) : res_main_v80 m c =
    outR (oR (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6))) (m ((c.tc : Thread nD τ).loc main_arg7)) := rfl

end Cert.ReferenceIdeal.Value
end
-- ==== Proof.KState.lean ====
/- The pure values the idealized kernel's body leaves: the accumulators after the counted loops as recursions over
   the trips, the two diagonal half-blocks, and the block stored at the end, one set of definitions for each of the
   two softmax forms. -/
module

public import proofs.«01_k».proof.Proof.Gen.KernelIdeal.Skeleton
public import Idealize.ShloMosaic.Lib.VecWindow

@[expose] public section

set_option maxRecDepth 16384

noncomputable section

namespace Cert.KernelIdeal.Val

open Idealize.ShloMosaic Idealize.ShloMosaic.TcCoe Idealize.SL.Sem
open Cert.KernelIdeal Cert.KernelIdeal.Gen

variable {F : FTy → Type} [FloatOps F]

/-- The two accumulators of the plain form before trip `k`. -/
def stP (i : grid0.Coords) (q1 q2 : Vec F S1x1x512x128 .bf16) (k1 k2 : Vec F S1x1x4096x128 .bf16) (v : Vec F S1x1x4096x256 .bf16)
    (a0 b0 : Vec F S512x256 .f32) : ℕ → Vec F S512x256 .f32 × Vec F S512x256 .f32
  | 0 => (a0, b0)
  | k + 1 =>
    if h : k < (k0_t1_loop i).trips then
      (k0_pay7 q1 (VecWindow.window v (k0_off1 i ⟨k, h⟩) S1x1x512x256.size (k0_off1_inb i ⟨k, h⟩))
          (VecWindow.window k1 (k0_off2 i ⟨k, h⟩) S1x1x512x128.size (k0_off2_inb i ⟨k, h⟩)) (stP i q1 q2 k1 k2 v a0 b0 k).1,
        k0_pay8 q2 (VecWindow.window v (k0_off1 i ⟨k, h⟩) S1x1x512x256.size (k0_off1_inb i ⟨k, h⟩))
          (VecWindow.window k2 (k0_off2 i ⟨k, h⟩) S1x1x512x128.size (k0_off2_inb i ⟨k, h⟩)) (stP i q1 q2 k1 k2 v a0 b0 k).2)
    else stP i q1 q2 k1 k2 v a0 b0 k

/-- What the online form carries from trip to trip: two running maxima, two accumulators. -/
structure OnSt (F : FTy → Type) where
  m1 : Vec F S512x1 .f32
  a1 : Vec F S512x256 .f32
  m2 : Vec F S512x1 .f32
  a2 : Vec F S512x256 .f32

/-- The state of the online form before trip `k`. -/
def stO (i : grid0.Coords) (q1 q2 : Vec F S1x1x512x128 .bf16) (k1 k2 : Vec F S1x1x4096x128 .bf16) (v : Vec F S1x1x4096x256 .bf16)
    (s0 : OnSt F) : ℕ → OnSt F
  | 0 => s0
  | k + 1 =>
    if h : k < (k0_t3_loop i).trips then
      { m1 := k0_pay25 (k0_pay32 q1) (VecWindow.window k1 (k0_off10 i ⟨k, h⟩) S1x1x512x128.size (k0_off10_inb i ⟨k, h⟩)) (stO i q1 q2 k1 k2 v s0 k).m1
        a1 := k0_pay24 (k0_pay32 q1) (VecWindow.window v (k0_off9 i ⟨k, h⟩) S1x1x512x256.size (k0_off9_inb i ⟨k, h⟩))
          (VecWindow.window k1 (k0_off10 i ⟨k, h⟩) S1x1x512x128.size (k0_off10_inb i ⟨k, h⟩)) (stO i q1 q2 k1 k2 v s0 k).m1 (stO i q1 q2 k1 k2 v s0 k).a1
        m2 := k0_pay40 (k0_pay22 (k0_pay33 q2) (VecWindow.window k2 (k0_off10 i ⟨k, h⟩) S1x1x512x128.size (k0_off10_inb i ⟨k, h⟩))) (stO i q1 q2 k1 k2 v s0 k).m2
        a2 := k0_pay39 (k0_pay20 (VecWindow.window v (k0_off9 i ⟨k, h⟩) S1x1x512x256.size (k0_off9_inb i ⟨k, h⟩)))
          (k0_pay22 (k0_pay33 q2) (VecWindow.window k2 (k0_off10 i ⟨k, h⟩) S1x1x512x128.size (k0_off10_inb i ⟨k, h⟩)))
          (stO i q1 q2 k1 k2 v s0 k).m2 (stO i q1 q2 k1 k2 v s0 k).a2 }
    else stO i q1 q2 k1 k2 v s0 k

/-- Plain form, first component: the accumulator with the diagonal block's upper half added. -/
def loP1 (i : grid0.Coords) (x2 : Vec F S512x512 .f32) (x3 : Vec F S1x1x512x128 .bf16) (x4 : Vec F S1x1x512x128 .bf16) (x5 : Vec F S1x1x4096x128 .bf16) (x6 : Vec F S1x1x4096x128 .bf16) (x7 : Vec F S1x1x4096x256 .bf16) : Vec F S512x256 .f32 :=
  VecWindow.put (stP i x3 x4 x5 x6 x7 k0_pay4 k0_pay5 (Scf.trips (k0_t1_loop i).lb (k0_t1_loop i).ub (k0_t1_loop i).st)).1 ![0, 0] S256x256.size (k0_pay15 (k0_pay12 (VecWindow.window x2 ![0, 0] S256x256.size inb_S512x512_S256x256_0_0)) (k0_pay13 (VecWindow.window x7 (k0_off5 i) S1x1x256x256.size (k0_off5_inb i))) (k0_pay14 x3) (VecWindow.window x5 (k0_off6 i) S1x1x256x128.size (k0_off6_inb i)) (VecWindow.window (stP i x3 x4 x5 x6 x7 k0_pay4 k0_pay5 (Scf.trips (k0_t1_loop i).lb (k0_t1_loop i).ub (k0_t1_loop i).st)).1 ![0, 0] S256x256.size inb_S512x256_S256x256_0_0))

/-- Plain form, first component: and with its lower half. -/
def hiP1 (i : grid0.Coords) (x2 : Vec F S512x512 .f32) (x3 : Vec F S1x1x512x128 .bf16) (x4 : Vec F S1x1x512x128 .bf16) (x5 : Vec F S1x1x4096x128 .bf16) (x6 : Vec F S1x1x4096x128 .bf16) (x7 : Vec F S1x1x4096x256 .bf16) : Vec F S512x256 .f32 :=
  VecWindow.put (loP1 i x2 x3 x4 x5 x6 x7) ![256, 0] S256x256.size (k0_pay65 (k0_pay17 (VecWindow.window x2 ![256, 0] S256x512.size inb_S512x512_S256x512_256_0)) (k0_pay18 (VecWindow.window x7 (k0_off7 i) S1x1x512x256.size (k0_off7_inb i))) (k0_pay19 (k0_pay2 x3)) (VecWindow.window x5 (k0_off8 i) S1x1x512x128.size (k0_off8_inb i)) (VecWindow.window (loP1 i x2 x3 x4 x5 x6 x7) ![256, 0] S256x256.size inb_S512x256_S256x256_256_0))

/-- Plain form, second component: the upper half added. -/
def loP2 (i : grid0.Coords) (x2 : Vec F S512x512 .f32) (x3 : Vec F S1x1x512x128 .bf16) (x4 : Vec F S1x1x512x128 .bf16) (x5 : Vec F S1x1x4096x128 .bf16) (x6 : Vec F S1x1x4096x128 .bf16) (x7 : Vec F S1x1x4096x256 .bf16) : Vec F S512x256 .f32 :=
  VecWindow.put (stP i x3 x4 x5 x6 x7 k0_pay4 k0_pay5 (Scf.trips (k0_t1_loop i).lb (k0_t1_loop i).ub (k0_t1_loop i).st)).2 ![0, 0] S256x256.size (k0_pay16 (k0_pay3 x4) (k0_pay12 (VecWindow.window x2 ![0, 0] S256x256.size inb_S512x512_S256x256_0_0)) (k0_pay13 (VecWindow.window x7 (k0_off5 i) S1x1x256x256.size (k0_off5_inb i))) (VecWindow.window x6 (k0_off6 i) S1x1x256x128.size (k0_off6_inb i)) (VecWindow.window (stP i x3 x4 x5 x6 x7 k0_pay4 k0_pay5 (Scf.trips (k0_t1_loop i).lb (k0_t1_loop i).ub (k0_t1_loop i).st)).2 ![0, 0] S256x256.size inb_S512x256_S256x256_0_0))

/-- Plain form, second component: the lower half added. -/
def hiP2 (i : grid0.Coords) (x2 : Vec F S512x512 .f32) (x3 : Vec F S1x1x512x128 .bf16) (x4 : Vec F S1x1x512x128 .bf16) (x5 : Vec F S1x1x4096x128 .bf16) (x6 : Vec F S1x1x4096x128 .bf16) (x7 : Vec F S1x1x4096x256 .bf16) : Vec F S512x256 .f32 :=
  VecWindow.put (loP2 i x2 x3 x4 x5 x6 x7) ![256, 0] S256x256.size (k0_pay66 (k0_pay3 x4) (k0_pay17 (VecWindow.window x2 ![256, 0] S256x512.size inb_S512x512_S256x512_256_0)) (k0_pay18 (VecWindow.window x7 (k0_off7 i) S1x1x512x256.size (k0_off7_inb i))) (VecWindow.window x6 (k0_off8 i) S1x1x512x128.size (k0_off8_inb i)) (VecWindow.window (loP2 i x2 x3 x4 x5 x6 x7) ![256, 0] S256x256.size inb_S512x256_S256x256_256_0))

/-- Plain form: the block stored. -/
def outP (i : grid0.Coords) (x0 : Vec F S4x64 .f32) (x1 : Vec F S1x128 .f32) (x2 : Vec F S512x512 .f32) (x3 : Vec F S1x1x512x128 .bf16) (x4 : Vec F S1x1x512x128 .bf16) (x5 : Vec F S1x1x4096x128 .bf16) (x6 : Vec F S1x1x4096x128 .bf16) (x7 : Vec F S1x1x4096x256 .bf16) : Vec F S1x512x128 .bf16 :=
  k0_pay1 (k0_pay69 x0 (hiP1 i x2 x3 x4 x5 x6 x7) (hiP2 i x2 x3 x4 x5 x6 x7)) (k0_pay70 x0 (hiP1 i x2 x3 x4 x5 x6 x7) (hiP2 i x2 x3 x4 x5 x6 x7)) x1

/-- Online form, first component: upper half. -/
def loO1 (i : grid0.Coords) (x2 : Vec F S512x512 .f32) (x3 : Vec F S1x1x512x128 .bf16) (x4 : Vec F S1x1x512x128 .bf16) (x5 : Vec F S1x1x4096x128 .bf16) (x6 : Vec F S1x1x4096x128 .bf16) (x7 : Vec F S1x1x4096x256 .bf16) : Vec F S512x256 .f32 :=
  VecWindow.put (stO i x3 x4 x5 x6 x7 ⟨k0_pay35, k0_pay34, k0_pay37, k0_pay36⟩ (Scf.trips (k0_t3_loop i).lb (k0_t3_loop i).ub (k0_t3_loop i).st)).a1 ![0, 0] S256x256.size (k0_pay49 (k0_pay32 x3) (VecWindow.window x2 ![0, 0] S256x256.size inb_S512x512_S256x256_0_0) (VecWindow.window x7 (k0_off13 i) S1x1x256x256.size (k0_off13_inb i)) (VecWindow.window x5 (k0_off14 i) S1x1x256x128.size (k0_off14_inb i)) (VecWindow.window (stO i x3 x4 x5 x6 x7 ⟨k0_pay35, k0_pay34, k0_pay37, k0_pay36⟩ (Scf.trips (k0_t3_loop i).lb (k0_t3_loop i).ub (k0_t3_loop i).st)).m1 ![0, 0] S256x1.size inb_S512x1_S256x1_0_0) (VecWindow.window (stO i x3 x4 x5 x6 x7 ⟨k0_pay35, k0_pay34, k0_pay37, k0_pay36⟩ (Scf.trips (k0_t3_loop i).lb (k0_t3_loop i).ub (k0_t3_loop i).st)).a1 ![0, 0] S256x256.size inb_S512x256_S256x256_0_0))

/-- Online form, first running maximum: upper half. -/
def loM1 (i : grid0.Coords) (x2 : Vec F S512x512 .f32) (x3 : Vec F S1x1x512x128 .bf16) (x4 : Vec F S1x1x512x128 .bf16) (x5 : Vec F S1x1x4096x128 .bf16) (x6 : Vec F S1x1x4096x128 .bf16) (x7 : Vec F S1x1x4096x256 .bf16) : Vec F S512x1 .f32 :=
  VecWindow.put (stO i x3 x4 x5 x6 x7 ⟨k0_pay35, k0_pay34, k0_pay37, k0_pay36⟩ (Scf.trips (k0_t3_loop i).lb (k0_t3_loop i).ub (k0_t3_loop i).st)).m1 ![0, 0] S256x1.size (k0_pay50 (k0_pay48 (k0_pay32 x3) (VecWindow.window x2 ![0, 0] S256x256.size inb_S512x512_S256x256_0_0) (VecWindow.window x5 (k0_off14 i) S1x1x256x128.size (k0_off14_inb i)) (VecWindow.window (stO i x3 x4 x5 x6 x7 ⟨k0_pay35, k0_pay34, k0_pay37, k0_pay36⟩ (Scf.trips (k0_t3_loop i).lb (k0_t3_loop i).ub (k0_t3_loop i).st)).m1 ![0, 0] S256x1.size inb_S512x1_S256x1_0_0)))

/-- Online form, second component: upper half. -/
def loO2 (i : grid0.Coords) (x2 : Vec F S512x512 .f32) (x3 : Vec F S1x1x512x128 .bf16) (x4 : Vec F S1x1x512x128 .bf16) (x5 : Vec F S1x1x4096x128 .bf16) (x6 : Vec F S1x1x4096x128 .bf16) (x7 : Vec F S1x1x4096x256 .bf16) : Vec F S512x256 .f32 :=
  VecWindow.put (stO i x3 x4 x5 x6 x7 ⟨k0_pay35, k0_pay34, k0_pay37, k0_pay36⟩ (Scf.trips (k0_t3_loop i).lb (k0_t3_loop i).ub (k0_t3_loop i).st)).a2 ![0, 0] S256x256.size (k0_pay52 (k0_pay45 (VecWindow.window x7 (k0_off13 i) S1x1x256x256.size (k0_off13_inb i))) (k0_pay47 (k0_pay33 x4) (VecWindow.window x2 ![0, 0] S256x256.size inb_S512x512_S256x256_0_0) (VecWindow.window x6 (k0_off14 i) S1x1x256x128.size (k0_off14_inb i))) (VecWindow.window (stO i x3 x4 x5 x6 x7 ⟨k0_pay35, k0_pay34, k0_pay37, k0_pay36⟩ (Scf.trips (k0_t3_loop i).lb (k0_t3_loop i).ub (k0_t3_loop i).st)).m2 ![0, 0] S256x1.size inb_S512x1_S256x1_0_0) (VecWindow.window (stO i x3 x4 x5 x6 x7 ⟨k0_pay35, k0_pay34, k0_pay37, k0_pay36⟩ (Scf.trips (k0_t3_loop i).lb (k0_t3_loop i).ub (k0_t3_loop i).st)).a2 ![0, 0] S256x256.size inb_S512x256_S256x256_0_0))

/-- Online form, second running maximum: upper half. -/
def loM2 (i : grid0.Coords) (x2 : Vec F S512x512 .f32) (x3 : Vec F S1x1x512x128 .bf16) (x4 : Vec F S1x1x512x128 .bf16) (x5 : Vec F S1x1x4096x128 .bf16) (x6 : Vec F S1x1x4096x128 .bf16) (x7 : Vec F S1x1x4096x256 .bf16) : Vec F S512x1 .f32 :=
  VecWindow.put (stO i x3 x4 x5 x6 x7 ⟨k0_pay35, k0_pay34, k0_pay37, k0_pay36⟩ (Scf.trips (k0_t3_loop i).lb (k0_t3_loop i).ub (k0_t3_loop i).st)).m2 ![0, 0] S256x1.size (k0_pay53 (k0_pay47 (k0_pay33 x4) (VecWindow.window x2 ![0, 0] S256x256.size inb_S512x512_S256x256_0_0) (VecWindow.window x6 (k0_off14 i) S1x1x256x128.size (k0_off14_inb i))) (VecWindow.window (stO i x3 x4 x5 x6 x7 ⟨k0_pay35, k0_pay34, k0_pay37, k0_pay36⟩ (Scf.trips (k0_t3_loop i).lb (k0_t3_loop i).ub (k0_t3_loop i).st)).m2 ![0, 0] S256x1.size inb_S512x1_S256x1_0_0))

/-- Online form, first component: lower half. -/
def hiO1 (i : grid0.Coords) (x2 : Vec F S512x512 .f32) (x3 : Vec F S1x1x512x128 .bf16) (x4 : Vec F S1x1x512x128 .bf16) (x5 : Vec F S1x1x4096x128 .bf16) (x6 : Vec F S1x1x4096x128 .bf16) (x7 : Vec F S1x1x4096x256 .bf16) : Vec F S512x256 .f32 :=
  VecWindow.put (loO1 i x2 x3 x4 x5 x6 x7) ![256, 0] S256x256.size (k0_pay60 (k0_pay55 (VecWindow.window x7 (k0_off15 i) S1x1x512x256.size (k0_off15_inb i))) (k0_pay56 (k0_pay32 x3) (VecWindow.window x2 ![256, 0] S256x512.size inb_S512x512_S256x512_256_0) (VecWindow.window x5 (k0_off16 i) S1x1x512x128.size (k0_off16_inb i))) (VecWindow.window (loM1 i x2 x3 x4 x5 x6 x7) ![256, 0] S256x1.size inb_S512x1_S256x1_256_0) (VecWindow.window (loO1 i x2 x3 x4 x5 x6 x7) ![256, 0] S256x256.size inb_S512x256_S256x256_256_0))

/-- Online form, second component: lower half. -/
def hiO2 (i : grid0.Coords) (x2 : Vec F S512x512 .f32) (x3 : Vec F S1x1x512x128 .bf16) (x4 : Vec F S1x1x512x128 .bf16) (x5 : Vec F S1x1x4096x128 .bf16) (x6 : Vec F S1x1x4096x128 .bf16) (x7 : Vec F S1x1x4096x256 .bf16) : Vec F S512x256 .f32 :=
  VecWindow.put (loO2 i x2 x3 x4 x5 x6 x7) ![256, 0] S256x256.size (k0_pay67 (k0_pay55 (VecWindow.window x7 (k0_off15 i) S1x1x512x256.size (k0_off15_inb i))) (k0_pay63 (k0_pay54 (VecWindow.window x2 ![256, 0] S256x512.size inb_S512x512_S256x512_256_0)) (k0_pay57 (k0_pay33 x4)) (VecWindow.window x6 (k0_off16 i) S1x1x512x128.size (k0_off16_inb i)) (VecWindow.window (loM2 i x2 x3 x4 x5 x6 x7) ![256, 0] S256x1.size inb_S512x1_S256x1_256_0)) (k0_pay64 (k0_pay54 (VecWindow.window x2 ![256, 0] S256x512.size inb_S512x512_S256x512_256_0)) (k0_pay57 (k0_pay33 x4)) (VecWindow.window x6 (k0_off16 i) S1x1x512x128.size (k0_off16_inb i)) (VecWindow.window (loM2 i x2 x3 x4 x5 x6 x7) ![256, 0] S256x1.size inb_S512x1_S256x1_256_0) (VecWindow.window (loO2 i x2 x3 x4 x5 x6 x7) ![256, 0] S256x256.size inb_S512x256_S256x256_256_0)))

/-- Online form: the block stored. -/
def outO (i : grid0.Coords) (x0 : Vec F S4x64 .f32) (x1 : Vec F S1x128 .f32) (x2 : Vec F S512x512 .f32) (x3 : Vec F S1x1x512x128 .bf16) (x4 : Vec F S1x1x512x128 .bf16) (x5 : Vec F S1x1x4096x128 .bf16) (x6 : Vec F S1x1x4096x128 .bf16) (x7 : Vec F S1x1x4096x256 .bf16) : Vec F S1x512x128 .bf16 :=
  k0_pay1 (k0_pay69 x0 (hiO1 i x2 x3 x4 x5 x6 x7) (hiO2 i x2 x3 x4 x5 x6 x7)) (k0_pay70 x0 (hiO1 i x2 x3 x4 x5 x6 x7) (hiO2 i x2 x3 x4 x5 x6 x7)) x1

end Cert.KernelIdeal.Val

end
-- ==== Proof.KPay.lean ====
/- The kernel's arithmetic read element by element over the extended reals. -/
module

public import proofs.«01_k».proof.Proof.KState
public import Idealize.ShloMosaic.Lib.Pointwise

@[expose] public section
set_option maxRecDepth 16384
noncomputable section
namespace Cert.KernelIdeal.Val
open Idealize.ShloMosaic Idealize.ShloMosaic.TcCoe Idealize.SL.Sem
open Cert.KernelIdeal Cert.KernelIdeal.Gen

/-- The maximum of a list of scores from negative infinity, as the kernel takes it. -/
def top {n : ℕ} (f : Fin n → EReal) : EReal := Finset.fold max (Ideal.ofBits .f32 0xFF800000#32) f Finset.univ

/-- A whole tile, plain form, first stream. -/
theorem pay7_at (q : Vec Ideal S1x1x512x128 .bf16) (v : Vec Ideal S1x1x512x256 .bf16) (k : Vec Ideal S1x1x512x128 .bf16) (a : Vec Ideal S512x256 .f32) (r : Fin 512) (e : Fin 256) :
    k0_pay7 q v k a (ix2 r e) = a (ix2 r e) + ∑ j : Fin 512, Ideal.exp ((∑ d : Fin 128, q (ix4 0 0 r d) * k (ix4 0 0 j d))) * v (ix4 0 0 j e) := by
  pointwise [k0_pay7, k0_pay2, k0_pay6]

/-- A whole tile, plain form, second stream. -/
theorem pay8_at (q : Vec Ideal S1x1x512x128 .bf16) (v : Vec Ideal S1x1x512x256 .bf16) (k : Vec Ideal S1x1x512x128 .bf16) (a : Vec Ideal S512x256 .f32) (r : Fin 512) (e : Fin 256) :
    k0_pay8 q v k a (ix2 r e) = a (ix2 r e) + ∑ j : Fin 512, Ideal.exp ((∑ d : Fin 128, q (ix4 0 0 r d) * k (ix4 0 0 j d))) * v (ix4 0 0 j e) := by
  pointwise [k0_pay8, k0_pay3, k0_pay6]

/-- Upper half, plain form, first stream. -/
theorem pay15_at (b : Vec Ideal S256x256 .f32) (v : Vec Ideal S1x1x256x256 .bf16) (q : Vec Ideal S1x1x512x128 .bf16) (k : Vec Ideal S1x1x256x128 .bf16) (a : Vec Ideal S256x256 .f32) (r : Fin 256) (e : Fin 256) :
    k0_pay15 (k0_pay12 b) (k0_pay13 v) (k0_pay14 q) k a (ix2 r e) = a (ix2 r e) + ∑ j : Fin 256, Ideal.exp ((∑ d : Fin 128, q (ix4 0 0 ⟨r.val, by omega⟩ d) * k (ix4 0 0 j d)) + b (ix2 r j)) * v (ix4 0 0 j e) := by
  pointwise [k0_pay15, k0_pay12, k0_pay13, k0_pay14, k0_pay2]

/-- Upper half, plain form, second stream. -/
theorem pay16_at (b : Vec Ideal S256x256 .f32) (v : Vec Ideal S1x1x256x256 .bf16) (q : Vec Ideal S1x1x512x128 .bf16) (k : Vec Ideal S1x1x256x128 .bf16) (a : Vec Ideal S256x256 .f32) (r : Fin 256) (e : Fin 256) :
    k0_pay16 (k0_pay3 q) (k0_pay12 b) (k0_pay13 v) k a (ix2 r e) = a (ix2 r e) + ∑ j : Fin 256, Ideal.exp ((∑ d : Fin 128, q (ix4 0 0 ⟨r.val, by omega⟩ d) * k (ix4 0 0 j d)) + b (ix2 r j)) * v (ix4 0 0 j e) := by
  pointwise [k0_pay16, k0_pay12, k0_pay13, k0_pay3]

/-- Lower half, plain form, first stream. -/
theorem pay65_at (b : Vec Ideal S256x512 .f32) (v : Vec Ideal S1x1x512x256 .bf16) (q : Vec Ideal S1x1x512x128 .bf16) (k : Vec Ideal S1x1x512x128 .bf16) (a : Vec Ideal S256x256 .f32) (r : Fin 256) (e : Fin 256) :
    k0_pay65 (k0_pay17 b) (k0_pay18 v) (k0_pay19 (k0_pay2 q)) k a (ix2 r e) = a (ix2 r e) + ∑ j : Fin 512, Ideal.exp ((∑ d : Fin 128, q (ix4 0 0 ⟨256 + r.val, by omega⟩ d) * k (ix4 0 0 j d)) + b (ix2 r j)) * v (ix4 0 0 j e) := by
  pointwise [k0_pay65, k0_pay17, k0_pay18, k0_pay19, k0_pay2]

/-- Lower half, plain form, second stream. -/
theorem pay66_at (b : Vec Ideal S256x512 .f32) (v : Vec Ideal S1x1x512x256 .bf16) (q : Vec Ideal S1x1x512x128 .bf16) (k : Vec Ideal S1x1x512x128 .bf16) (a : Vec Ideal S256x256 .f32) (r : Fin 256) (e : Fin 256) :
    k0_pay66 (k0_pay3 q) (k0_pay17 b) (k0_pay18 v) k a (ix2 r e) = a (ix2 r e) + ∑ j : Fin 512, Ideal.exp ((∑ d : Fin 128, q (ix4 0 0 ⟨256 + r.val, by omega⟩ d) * k (ix4 0 0 j d)) + b (ix2 r j)) * v (ix4 0 0 j e) := by
  pointwise [k0_pay66, k0_pay17, k0_pay18, k0_pay3]

/-- A whole tile, online form, first maximum. -/
theorem pay25_at (q : Vec Ideal S1x1x512x128 .bf16) (k : Vec Ideal S1x1x512x128 .bf16) (m : Vec Ideal S512x1 .f32) (r : Fin 512) :
    k0_pay25 (k0_pay32 q) k m (ix2 r 0) = max (m (ix2 r 0)) (top fun j : Fin 512 => (∑ d : Fin 128, q (ix4 0 0 r d) * k (ix4 0 0 j d))) := by
  pointwise [k0_pay25, k0_pay23, k0_pay21, k0_pay32, top]

/-- A whole tile, online form, first accumulator. -/
theorem pay24_at (q : Vec Ideal S1x1x512x128 .bf16) (v : Vec Ideal S1x1x512x256 .bf16) (k : Vec Ideal S1x1x512x128 .bf16) (m : Vec Ideal S512x1 .f32) (a : Vec Ideal S512x256 .f32) (r : Fin 512) (e : Fin 256) :
    k0_pay24 (k0_pay32 q) v k m a (ix2 r e) = Ideal.exp (m (ix2 r 0) - max (m (ix2 r 0)) (top fun j : Fin 512 => (∑ d : Fin 128, q (ix4 0 0 r d) * k (ix4 0 0 j d)))) * a (ix2 r e) + ∑ j : Fin 512, Ideal.exp ((∑ d : Fin 128, q (ix4 0 0 r d) * k (ix4 0 0 j d)) - max (m (ix2 r 0)) (top fun j : Fin 512 => (∑ d : Fin 128, q (ix4 0 0 r d) * k (ix4 0 0 j d)))) * v (ix4 0 0 j e) := by
  pointwise [k0_pay24, k0_pay23, k0_pay21, k0_pay20, k0_pay32, top]

/-- A whole tile, online form, second maximum. -/
theorem pay40_at (q : Vec Ideal S1x1x512x128 .bf16) (k : Vec Ideal S1x1x512x128 .bf16) (m : Vec Ideal S512x1 .f32) (r : Fin 512) :
    k0_pay40 (k0_pay22 (k0_pay33 q) k) m (ix2 r 0) = max (m (ix2 r 0)) (top fun j : Fin 512 => (∑ d : Fin 128, q (ix4 0 0 r d) * k (ix4 0 0 j d))) := by
  pointwise [k0_pay40, k0_pay38, k0_pay22, k0_pay33, top]

/-- A whole tile, online form, second accumulator. -/
theorem pay39_at (q : Vec Ideal S1x1x512x128 .bf16) (v : Vec Ideal S1x1x512x256 .bf16) (k : Vec Ideal S1x1x512x128 .bf16) (m : Vec Ideal S512x1 .f32) (a : Vec Ideal S512x256 .f32) (r : Fin 512) (e : Fin 256) :
    k0_pay39 (k0_pay20 v) (k0_pay22 (k0_pay33 q) k) m a (ix2 r e) = Ideal.exp (m (ix2 r 0) - max (m (ix2 r 0)) (top fun j : Fin 512 => (∑ d : Fin 128, q (ix4 0 0 r d) * k (ix4 0 0 j d)))) * a (ix2 r e) + ∑ j : Fin 512, Ideal.exp ((∑ d : Fin 128, q (ix4 0 0 r d) * k (ix4 0 0 j d)) - max (m (ix2 r 0)) (top fun j : Fin 512 => (∑ d : Fin 128, q (ix4 0 0 r d) * k (ix4 0 0 j d)))) * v (ix4 0 0 j e) := by
  pointwise [k0_pay39, k0_pay38, k0_pay22, k0_pay20, k0_pay33, top]

/-- Upper half, online form, first maximum. -/
theorem pay50_at (q : Vec Ideal S1x1x512x128 .bf16) (b : Vec Ideal S256x256 .f32) (k : Vec Ideal S1x1x256x128 .bf16) (m : Vec Ideal S256x1 .f32) (r : Fin 256) :
    k0_pay50 (k0_pay48 (k0_pay32 q) b k m) (ix2 r 0) = max (m (ix2 r 0)) (top fun j : Fin 256 => (∑ d : Fin 128, q (ix4 0 0 ⟨r.val, by omega⟩ d) * k (ix4 0 0 j d)) + b (ix2 r j)) := by
  pointwise [k0_pay50, k0_pay48, k0_pay46, k0_pay44, k0_pay43, k0_pay32, top]

/-- Upper half, online form, first accumulator. -/
theorem pay49_at (q : Vec Ideal S1x1x512x128 .bf16) (b : Vec Ideal S256x256 .f32) (v : Vec Ideal S1x1x256x256 .bf16) (k : Vec Ideal S1x1x256x128 .bf16) (m : Vec Ideal S256x1 .f32) (a : Vec Ideal S256x256 .f32) (r : Fin 256) (e : Fin 256) :
    k0_pay49 (k0_pay32 q) b v k m a (ix2 r e) = Ideal.exp (m (ix2 r 0) - max (m (ix2 r 0)) (top fun j : Fin 256 => (∑ d : Fin 128, q (ix4 0 0 ⟨r.val, by omega⟩ d) * k (ix4 0 0 j d)) + b (ix2 r j))) * a (ix2 r e) + ∑ j : Fin 256, Ideal.exp ((∑ d : Fin 128, q (ix4 0 0 ⟨r.val, by omega⟩ d) * k (ix4 0 0 j d)) + b (ix2 r j) - max (m (ix2 r 0)) (top fun j : Fin 256 => (∑ d : Fin 128, q (ix4 0 0 ⟨r.val, by omega⟩ d) * k (ix4 0 0 j d)) + b (ix2 r j))) * v (ix4 0 0 j e) := by
  pointwise [k0_pay49, k0_pay48, k0_pay46, k0_pay45, k0_pay44, k0_pay43, k0_pay32, top]

/-- Upper half, online form, second maximum. -/
theorem pay53_at (q : Vec Ideal S1x1x512x128 .bf16) (b : Vec Ideal S256x256 .f32) (k : Vec Ideal S1x1x256x128 .bf16) (m : Vec Ideal S256x1 .f32) (r : Fin 256) :
    k0_pay53 (k0_pay47 (k0_pay33 q) b k) m (ix2 r 0) = max (m (ix2 r 0)) (top fun j : Fin 256 => (∑ d : Fin 128, q (ix4 0 0 ⟨r.val, by omega⟩ d) * k (ix4 0 0 j d)) + b (ix2 r j)) := by
  pointwise [k0_pay53, k0_pay51, k0_pay47, k0_pay44, k0_pay33, top]

/-- Upper half, online form, second accumulator. -/
theorem pay52_at (q : Vec Ideal S1x1x512x128 .bf16) (b : Vec Ideal S256x256 .f32) (v : Vec Ideal S1x1x256x256 .bf16) (k : Vec Ideal S1x1x256x128 .bf16) (m : Vec Ideal S256x1 .f32) (a : Vec Ideal S256x256 .f32) (r : Fin 256) (e : Fin 256) :
    k0_pay52 (k0_pay45 v) (k0_pay47 (k0_pay33 q) b k) m a (ix2 r e) = Ideal.exp (m (ix2 r 0) - max (m (ix2 r 0)) (top fun j : Fin 256 => (∑ d : Fin 128, q (ix4 0 0 ⟨r.val, by omega⟩ d) * k (ix4 0 0 j d)) + b (ix2 r j))) * a (ix2 r e) + ∑ j : Fin 256, Ideal.exp ((∑ d : Fin 128, q (ix4 0 0 ⟨r.val, by omega⟩ d) * k (ix4 0 0 j d)) + b (ix2 r j) - max (m (ix2 r 0)) (top fun j : Fin 256 => (∑ d : Fin 128, q (ix4 0 0 ⟨r.val, by omega⟩ d) * k (ix4 0 0 j d)) + b (ix2 r j))) * v (ix4 0 0 j e) := by
  pointwise [k0_pay52, k0_pay51, k0_pay47, k0_pay45, k0_pay44, k0_pay33, top]

/-- Lower half, online form, first accumulator. -/
theorem pay60_at (q : Vec Ideal S1x1x512x128 .bf16) (b : Vec Ideal S256x512 .f32) (v : Vec Ideal S1x1x512x256 .bf16) (k : Vec Ideal S1x1x512x128 .bf16) (m : Vec Ideal S256x1 .f32) (a : Vec Ideal S256x256 .f32) (r : Fin 256) (e : Fin 256) :
    k0_pay60 (k0_pay55 v) (k0_pay56 (k0_pay32 q) b k) m a (ix2 r e) = Ideal.exp (m (ix2 r 0) - max (m (ix2 r 0)) (top fun j : Fin 512 => (∑ d : Fin 128, q (ix4 0 0 ⟨256 + r.val, by omega⟩ d) * k (ix4 0 0 j d)) + b (ix2 r j))) * a (ix2 r e) + ∑ j : Fin 512, Ideal.exp ((∑ d : Fin 128, q (ix4 0 0 ⟨256 + r.val, by omega⟩ d) * k (ix4 0 0 j d)) + b (ix2 r j) - max (m (ix2 r 0)) (top fun j : Fin 512 => (∑ d : Fin 128, q (ix4 0 0 ⟨256 + r.val, by omega⟩ d) * k (ix4 0 0 j d)) + b (ix2 r j))) * v (ix4 0 0 j e) := by
  pointwise [k0_pay60, k0_pay59, k0_pay56, k0_pay55, k0_pay54, k0_pay32, top]

/-- Lower half, online form, second accumulator. -/
theorem pay67_at (q : Vec Ideal S1x1x512x128 .bf16) (b : Vec Ideal S256x512 .f32) (v : Vec Ideal S1x1x512x256 .bf16) (k : Vec Ideal S1x1x512x128 .bf16) (m : Vec Ideal S256x1 .f32) (a : Vec Ideal S256x256 .f32) (r : Fin 256) (e : Fin 256) :
    k0_pay67 (k0_pay55 v) (k0_pay63 (k0_pay54 b) (k0_pay57 (k0_pay33 q)) k m) (k0_pay64 (k0_pay54 b) (k0_pay57 (k0_pay33 q)) k m a) (ix2 r e) = Ideal.exp (m (ix2 r 0) - max (m (ix2 r 0)) (top fun j : Fin 512 => (∑ d : Fin 128, q (ix4 0 0 ⟨256 + r.val, by omega⟩ d) * k (ix4 0 0 j d)) + b (ix2 r j))) * a (ix2 r e) + ∑ j : Fin 512, Ideal.exp ((∑ d : Fin 128, q (ix4 0 0 ⟨256 + r.val, by omega⟩ d) * k (ix4 0 0 j d)) + b (ix2 r j) - max (m (ix2 r 0)) (top fun j : Fin 512 => (∑ d : Fin 128, q (ix4 0 0 ⟨256 + r.val, by omega⟩ d) * k (ix4 0 0 j d)) + b (ix2 r j))) * v (ix4 0 0 j e) := by
  pointwise [k0_pay67, k0_pay64, k0_pay63, k0_pay62, k0_pay58, k0_pay57, k0_pay55, k0_pay54, k0_pay33, top]

/-- The difference of the two streams' quotients. -/
theorem pay69_at (x : Vec Ideal S4x64 .f32) (a b : FVec Ideal S512x256 .f32) (r : Fin 512) (e : Fin 128) :
    k0_pay69 x a b (ix2 r e) = Ideal.div (a (ix2 r ⟨e.val, by omega⟩)) (a (ix2 r 128)) -
      (Ideal.exp (∑ d : Fin 64, x (ix2 0 d) * x (ix2 1 d)) - Ideal.exp (∑ d : Fin 64, x (ix2 2 d) * x (ix2 3 d)) + Ideal.ofBits .f32 0x3E4CCCCD#32) *
        Ideal.div (b (ix2 r ⟨e.val, by omega⟩)) (b (ix2 r 128)) := by
  pointwise [k0_pay69]

/-- The block stored: the root-mean-square norm of a row, its gain, and the constant factor. -/
theorem pay1_at (x : Vec Ideal S4x64 .f32) (a b : FVec Ideal S512x256 .f32) (g : Vec Ideal S1x128 .f32) (r : Fin 512) (e : Fin 128) :
    k0_pay1 (k0_pay69 x a b) (k0_pay70 x a b) g (ix3 0 r e) = k0_pay69 x a b (ix2 r e) *
      Ideal.rsqrt (Ideal.div (∑ d : Fin 128, k0_pay69 x a b (ix2 r d) * k0_pay69 x a b (ix2 r d)) (Ideal.ofBits .f32 0x43000000#32) + Ideal.ofBits .f32 0x358637BD#32) *
      g (ix2 0 e) * Ideal.ofBits .f32 0x3F4CCCCD#32 := by
  pointwise [k0_pay1, k0_pay70]

/-- The accumulators start at zero. -/
theorem pay4_at (r : Fin 512) (e : Fin 256) : (k0_pay4 : FVec Ideal S512x256 .f32) (ix2 r e) = 0 := by
  pointwise [k0_pay4]
theorem pay5_at (r : Fin 512) (e : Fin 256) : (k0_pay5 : FVec Ideal S512x256 .f32) (ix2 r e) = 0 := by
  pointwise [k0_pay5]
theorem pay34_at (r : Fin 512) (e : Fin 256) : (k0_pay34 : FVec Ideal S512x256 .f32) (ix2 r e) = 0 := by
  pointwise [k0_pay34]
theorem pay36_at (r : Fin 512) (e : Fin 256) : (k0_pay36 : FVec Ideal S512x256 .f32) (ix2 r e) = 0 := by
  pointwise [k0_pay36]
/-- The maxima start at a literal. -/
theorem pay35_at (r : Fin 512) : (k0_pay35 : FVec Ideal S512x1 .f32) (ix2 r 0) = Ideal.ofBits .f32 0xF149F2CA#32 := by
  pointwise [k0_pay35]
theorem pay37_at (r : Fin 512) : (k0_pay37 : FVec Ideal S512x1 .f32) (ix2 r 0) = Ideal.ofBits .f32 0xF149F2CA#32 := by
  pointwise [k0_pay37]

end Cert.KernelIdeal.Val
end
-- ==== Proof.Row.lean ====
/- One row of the attention over the real numbers: weighted sums of exponentials taken tile by tile, in the plain form and
   with a running maximum, and their quotient. -/
module

public import proofs.«01_k».proof.Proof.KPay

@[expose] public section
noncomputable section
namespace Cert.Row
open Idealize.ShloMosaic
open Cert.KernelIdeal.Val (top)

/-- The sum, over the first `N` keys a query sees, of their values weighted by the exponentials of their scores less `μ`. -/
def wsum (N : ℕ) (p : ℕ → Prop) [DecidablePred p] (s : ℕ → ℝ) (μ : ℝ) (v : ℕ → ℝ) : ℝ :=
  ∑ j ∈ Finset.range N, if p j then Real.exp (s j - μ) * v j else 0

variable {p : ℕ → Prop} [DecidablePred p] {s v : ℕ → ℝ} {N n : ℕ} {S V : Fin n → EReal}

theorem exp_sub_coe (x μ : ℝ) : Ideal.exp ((x : EReal) - (μ : EReal)) = ((Real.exp (x - μ) : ℝ) : EReal) := by
  rw [← EReal.coe_sub]; rfl

theorem bot_sub_coe (μ : ℝ) : Ideal.exp (⊥ - (μ : EReal)) = 0 := by
  rw [show (⊥ : EReal) - (μ : EReal) = ⊥ from EReal.bot_sub _]; rfl

/-- A sum of coerced reals is the coerced sum. -/
theorem coe_sum {ι : Type*} (t : Finset ι) (f : ι → ℝ) : ∑ j ∈ t, ((f j : ℝ) : EReal) = ((∑ j ∈ t, f j : ℝ) : EReal) := by
  classical
  induction t using Finset.induction_on with
  | empty => simp
  | insert a t h ih => rw [Finset.sum_insert h, Finset.sum_insert h, ih, EReal.coe_add]

/-- A tile's products, scores less `μ`. -/
theorem tile (hS : ∀ j, S j = if p (N + j.val) then ((s (N + j.val) : ℝ) : EReal) else ⊥) (hV : ∀ j, V j = ((v (N + j.val) : ℝ) : EReal)) (μ : ℝ) :
    ∑ j, Ideal.exp (S j - (μ : EReal)) * V j = ((∑ j ∈ Finset.range n, if p (N + j) then Real.exp (s (N + j) - μ) * v (N + j) else 0 : ℝ) : EReal) := by
  rw [Finset.sum_range (fun j => if p (N + j) then Real.exp (s (N + j) - μ) * v (N + j) else 0), ← coe_sum]
  refine Finset.sum_congr rfl fun j _ => ?_
  rw [hS, hV]
  by_cases h : p (N + j.val)
  · rw [if_pos h, if_pos h, exp_sub_coe, EReal.coe_mul]
  · rw [if_neg h, if_neg h, bot_sub_coe, zero_mul, EReal.coe_zero]

theorem tile0 (hS : ∀ j, S j = if p (N + j.val) then ((s (N + j.val) : ℝ) : EReal) else ⊥) (hV : ∀ j, V j = ((v (N + j.val) : ℝ) : EReal)) :
    ∑ j, Ideal.exp (S j) * V j = ((∑ j ∈ Finset.range n, if p (N + j) then Real.exp (s (N + j) - 0) * v (N + j) else 0 : ℝ) : EReal) := by
  rw [← tile hS hV 0]
  refine Finset.sum_congr rfl fun j _ => ?_
  rw [EReal.coe_zero, sub_zero]

/-- A tile added in the plain form. -/
theorem step_plain (hS : ∀ j, S j = if p (N + j.val) then ((s (N + j.val) : ℝ) : EReal) else ⊥) (hV : ∀ j, V j = ((v (N + j.val) : ℝ) : EReal))
    {a : EReal} (ha : a = ((wsum N p s 0 v : ℝ) : EReal)) :
    a + ∑ j, Ideal.exp (S j) * V j = ((wsum (N + n) p s 0 v : ℝ) : EReal) := by
  rw [tile0 hS hV, ha, ← EReal.coe_add, wsum, wsum, Finset.sum_range_add]

/-- The running maximum stays a real number. -/
theorem max_real (hS : ∀ j, S j = if p (N + j.val) then ((s (N + j.val) : ℝ) : EReal) else ⊥) (μ : ℝ) :
    ∃ μ' : ℝ, max (μ : EReal) (top S) = (μ' : EReal) := by
  have ht : top S < ⊤ := by
    unfold top
    rw [Finset.fold_max_lt]
    refine ⟨by simp [Ideal.ofBits, Ideal.ieee], fun j _ => ?_⟩
    rw [hS]; split_ifs
    · exact EReal.coe_lt_top _
    · exact bot_lt_top
  have h1 : max (μ : EReal) (top S) ≠ ⊤ := ne_of_lt (max_lt (EReal.coe_lt_top _) ht)
  have h2 : max (μ : EReal) (top S) ≠ ⊥ := ne_of_gt (lt_of_lt_of_le (EReal.bot_lt_coe μ) (le_max_left _ _))
  exact ⟨_, (EReal.coe_toReal h1 h2).symm⟩

/-- A tile added with the running maximum: what was there is rescaled. -/
theorem step_online (hS : ∀ j, S j = if p (N + j.val) then ((s (N + j.val) : ℝ) : EReal) else ⊥) (hV : ∀ j, V j = ((v (N + j.val) : ℝ) : EReal))
    {a m M : EReal} {μ μ' : ℝ} (hm : m = (μ : EReal)) (hM : M = (μ' : EReal)) (ha : a = ((wsum N p s μ v : ℝ) : EReal)) :
    Ideal.exp (m - M) * a + ∑ j, Ideal.exp (S j - M) * V j = ((wsum (N + n) p s μ' v : ℝ) : EReal) := by
  rw [hm, hM, ha, tile hS hV, exp_sub_coe, ← EReal.coe_mul, ← EReal.coe_add, wsum, wsum, Finset.sum_range_add, Finset.mul_sum]
  congr 2
  refine Finset.sum_congr rfl fun j _ => ?_
  split_ifs
  · rw [← mul_assoc, ← Real.exp_add]; congr 2; ring
  · rw [mul_zero]

/-- Keys past the last one seen add nothing. -/
theorem wsum_ext {N' : ℕ} (h : N ≤ N') (hp : ∀ j, N ≤ j → j < N' → ¬ p j) (μ : ℝ) : wsum N p s μ v = wsum N' p s μ v := by
  unfold wsum
  refine Finset.sum_subset (Finset.range_mono h) fun j hj hn => ?_
  rw [Finset.mem_range] at hj hn
  rw [if_neg (hp j (by omega) hj)]

/-- The attention of a row: the weighted sum over the sum of the weights. -/
def att (N : ℕ) (p : ℕ → Prop) [DecidablePred p] (s v : ℕ → ℝ) : ℝ := wsum N p s 0 v / wsum N p s 0 fun _ => 1

theorem wsum_pos {j₀ : ℕ} (h0 : j₀ < N) (hp : p j₀) (μ : ℝ) : 0 < wsum N p s μ fun _ => 1 := by
  unfold wsum
  refine Finset.sum_pos' (fun j _ => ?_) ⟨j₀, Finset.mem_range.mpr h0, ?_⟩
  · split_ifs
    · rw [mul_one]; exact (Real.exp_pos _).le
    · exact le_refl _
  · rw [if_pos hp, mul_one]; exact Real.exp_pos _

/-- Shifting every score by one constant rescales the sum. -/
theorem wsum_shift {s' : ℕ → ℝ} (c μ : ℝ) (h : ∀ j, s' j = s j + c) : wsum N p s' μ v = Real.exp (c - μ) * wsum N p s 0 v := by
  unfold wsum
  rw [Finset.mul_sum]
  refine Finset.sum_congr rfl fun j _ => ?_
  split_ifs
  · rw [h, ← mul_assoc, ← Real.exp_add]; congr 2; ring
  · rw [mul_zero]

theorem div_real (x y : ℝ) (h : y ≠ 0) : Ideal.div (x : EReal) (y : EReal) = ((x / y : ℝ) : EReal) := by
  rw [Ideal.div_coe h, ← EReal.coe_mul]; congr 1; ring

/-- The quotient the kernel takes is the attention, whatever was subtracted from the scores. -/
theorem quot {s' : ℕ → ℝ} {c μ : ℝ} (h : ∀ j, s' j = s j + c) {j₀ : ℕ} (h0 : j₀ < N) (hp : p j₀) :
    Ideal.div ((wsum N p s' μ v : ℝ) : EReal) ((wsum N p s' μ fun _ => 1 : ℝ) : EReal) = ((att N p s v : ℝ) : EReal) := by
  rw [div_real _ _ (wsum_pos h0 hp μ).ne', att, wsum_shift c μ h, wsum_shift c μ h, mul_div_mul_left _ _ (Real.exp_pos _).ne']

end Cert.Row
end
-- ==== Proof.KTrips.lean ====
/- What one trip of each counted loop stores, and what the accumulators therefore read after the loops: the
   recursions of `KState`. The remainder loops run no trip. -/
module

public import proofs.«01_k».proof.Proof.KState
public import proofs.«01_k».proof.Proof.Gen.KernelIdeal.Loops

@[expose] public section

set_option maxRecDepth 16384

noncomputable section

namespace Cert.KernelIdeal.Val

open Idealize.ShloMosaic Idealize.ShloMosaic.TcCoe Idealize.SL.Sem
open Cert.KernelIdeal Cert.KernelIdeal.Gen

variable {F : FTy → Type} [FloatOps F]

theorem trips2 (i : grid0.Coords) : Scf.trips (k0_t2_loop i).lb (k0_t2_loop i).ub (k0_t2_loop i).st = 0 := by
  have h : ∀ n : Fin 8, Scf.trips (Scalar.addi 0#32 (Scalar.muli (Scalar.divsi (Scalar.subi (Scalar.subi (Scalar.addi (BitVec.ofNat 32 n.val) 1#32) 1#32) 0#32) 1#32) 1#32)) (Scalar.addi 0#32 (Scalar.subi (Scalar.subi (Scalar.addi (BitVec.ofNat 32 n.val) 1#32) 1#32) 0#32)) 1#32 = 0 := by decide
  exact h (i 2)

theorem trips4 (i : grid0.Coords) : Scf.trips (k0_t4_loop i).lb (k0_t4_loop i).ub (k0_t4_loop i).st = 0 := by
  have h : ∀ n : Fin 8, Scf.trips (Scalar.addi 0#32 (Scalar.muli (Scalar.divsi (Scalar.subi (Scalar.subi (Scalar.addi (BitVec.ofNat 32 n.val) 1#32) 1#32) 0#32) 1#32) 1#32)) (Scalar.addi 0#32 (Scalar.subi (Scalar.subi (Scalar.addi (BitVec.ofNat 32 n.val) 1#32) 1#32) 0#32)) 1#32 = 0 := by decide
  exact h (i 2)

theorem trips1 (i : grid0.Coords) : Scf.trips (k0_t1_loop i).lb (k0_t1_loop i).ub (k0_t1_loop i).st = (i 2).val := by
  have h : ∀ n : Fin 8, Scf.trips 0#32 (Scalar.addi 0#32 (Scalar.muli (Scalar.divsi (Scalar.subi (Scalar.subi (Scalar.addi (BitVec.ofNat 32 n.val) 1#32) 1#32) 0#32) 1#32) 1#32)) 1#32 = n.val := by decide
  exact h (i 2)

theorem trips3 (i : grid0.Coords) : Scf.trips (k0_t3_loop i).lb (k0_t3_loop i).ub (k0_t3_loop i).st = (i 2).val := by
  have h : ∀ n : Fin 8, Scf.trips 0#32 (Scalar.addi 0#32 (Scalar.muli (Scalar.divsi (Scalar.subi (Scalar.subi (Scalar.addi (BitVec.ofNat 32 n.val) 1#32) 1#32) 0#32) 1#32) 1#32)) 1#32 = n.val := by decide
  exact h (i 2)

section

variable (𝒱 : Variants) (c : Dev nD) (bd : Option 𝒱.V) (i : grid0.Coords) (arg3 : Memref sig .tc .smem S1 .i32) (harg3 : arg3.IsWhole) (arg4 : Memref sig .tc .vmem S4x64 .f32) (harg4 : arg4.IsWhole) (arg5 : Memref sig .tc .vmem S1x128 .f32) (harg5 : arg5.IsWhole) (arg6 : Memref sig .tc .vmem S512x512 .f32) (harg6 : arg6.IsWhole) (arg7 : Memref sig .tc .vmem S1x1x512x128 .bf16) (harg7 : arg7.IsWhole) (arg8 : Memref sig .tc .vmem S1x1x512x128 .bf16) (harg8 : arg8.IsWhole) (arg9 : Memref sig .tc .vmem S1x1x4096x128 .bf16) (harg9 : arg9.IsWhole) (arg10 : Memref sig .tc .vmem S1x1x4096x128 .bf16) (harg10 : arg10.IsWhole) (arg11 : Memref sig .tc .vmem S1x1x4096x256 .bf16) (harg11 : arg11.IsWhole) (arg12 : Memref sig .tc .vmem S1x512x128 .bf16) (harg12 : arg12.IsWhole) (arg13 : Memref sig .tc .vmem S512x1 .f32) (harg13 : arg13.IsWhole) (arg14 : Memref sig .tc .vmem S512x256 .f32) (harg14 : arg14.IsWhole) (arg15 : Memref sig .tc .vmem S512x1 .f32) (harg15 : arg15.IsWhole) (arg16 : Memref sig .tc .vmem S512x256 .f32) (harg16 : arg16.IsWhole)
  (v0 : BitVec 32) (v58 : Vec F S1x1x512x128 .bf16) (v60 : Vec F S1x1x512x128 .bf16) (X9 : BufTy.Contents (Elt F) arg9.view.ty) (X10 : BufTy.Contents (Elt F) arg10.view.ty) (X11 : BufTy.Contents (Elt F) arg11.view.ty)

/-- Trip `k` of the plain loop, first accumulator. -/
theorem trip1_1 (k : Fin (k0_t1_loop i).trips) (f g) : (trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 k).1 f g = [⟨(Rect.unit (s := S512x256) ![0, 0] S512x256.size inb_S512x256_S512x256_0_0), k0_pay7 v58 (arg11.view.readAt (Elt F) (Rect.unit (s := S1x1x4096x256) (k0_off1 i k) S1x1x512x256.size (k0_off1_inb i k)).toLoadRect X11) (arg9.view.readAt (Elt F) (Rect.unit (s := S1x1x4096x128) (k0_off2 i k) S1x1x512x128.size (k0_off2_inb i k)).toLoadRect X9) (arg14.view.readAt (Elt F) (Rect.unit (s := S512x256) ![0, 0] S512x256.size inb_S512x256_S512x256_0_0).toLoadRect f)⟩] := by
  unfold trip_k0_t1; rfl

/-- Trip `k` of the plain loop, second accumulator. -/
theorem trip1_2 (k : Fin (k0_t1_loop i).trips) (f g) : (trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 k).2.1 f g = [⟨(Rect.unit (s := S512x256) ![0, 0] S512x256.size inb_S512x256_S512x256_0_0), k0_pay8 v60 (arg11.view.readAt (Elt F) (Rect.unit (s := S1x1x4096x256) (k0_off1 i k) S1x1x512x256.size (k0_off1_inb i k)).toLoadRect X11) (arg10.view.readAt (Elt F) (Rect.unit (s := S1x1x4096x128) (k0_off2 i k) S1x1x512x128.size (k0_off2_inb i k)).toLoadRect X10) (arg16.view.readAt (Elt F) (Rect.unit (s := S512x256) ![0, 0] S512x256.size inb_S512x256_S512x256_0_0).toLoadRect g)⟩] := by
  unfold trip_k0_t1; rfl

/-- Trip `k` of the online loop, part 1. -/
theorem trip3_1 (k : Fin (k0_t3_loop i).trips) (f g f' g') : (trip_k0_t3 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 k).1 f g f' g' = [⟨(Rect.unit (s := S512x1) ![0, 0] S512x1.size inb_S512x1_S512x1_0_0), k0_pay25 (k0_pay32 v58) (arg9.view.readAt (Elt F) (Rect.unit (s := S1x1x4096x128) (k0_off10 i k) S1x1x512x128.size (k0_off10_inb i k)).toLoadRect X9) (arg13.view.readAt (Elt F) (Rect.unit (s := S512x1) ![0, 0] S512x1.size inb_S512x1_S512x1_0_0).toLoadRect f)⟩] := by
  unfold trip_k0_t3; rfl

/-- Trip `k` of the online loop, part 2. -/
theorem trip3_2 (k : Fin (k0_t3_loop i).trips) (f g f' g') : (trip_k0_t3 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 k).2.1 f g f' g' = [⟨(Rect.unit (s := S512x256) ![0, 0] S512x256.size inb_S512x256_S512x256_0_0), k0_pay24 (k0_pay32 v58) (arg11.view.readAt (Elt F) (Rect.unit (s := S1x1x4096x256) (k0_off9 i k) S1x1x512x256.size (k0_off9_inb i k)).toLoadRect X11) (arg9.view.readAt (Elt F) (Rect.unit (s := S1x1x4096x128) (k0_off10 i k) S1x1x512x128.size (k0_off10_inb i k)).toLoadRect X9) (arg13.view.readAt (Elt F) (Rect.unit (s := S512x1) ![0, 0] S512x1.size inb_S512x1_S512x1_0_0).toLoadRect f) (arg14.view.readAt (Elt F) (Rect.unit (s := S512x256) ![0, 0] S512x256.size inb_S512x256_S512x256_0_0).toLoadRect g)⟩] := by
  unfold trip_k0_t3; rfl

/-- Trip `k` of the online loop, part 3. -/
theorem trip3_3 (k : Fin (k0_t3_loop i).trips) (f g f' g') : (trip_k0_t3 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 k).2.2.1 f g f' g' = [⟨(Rect.unit (s := S512x1) ![0, 0] S512x1.size inb_S512x1_S512x1_0_0), k0_pay40 (k0_pay22 (k0_pay33 v60) (arg10.view.readAt (Elt F) (Rect.unit (s := S1x1x4096x128) (k0_off10 i k) S1x1x512x128.size (k0_off10_inb i k)).toLoadRect X10)) (arg15.view.readAt (Elt F) (Rect.unit (s := S512x1) ![0, 0] S512x1.size inb_S512x1_S512x1_0_0).toLoadRect f')⟩] := by
  unfold trip_k0_t3; rfl

/-- Trip `k` of the online loop, part 4. -/
theorem trip3_4 (k : Fin (k0_t3_loop i).trips) (f g f' g') : (trip_k0_t3 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 k).2.2.2.1 f g f' g' = [⟨(Rect.unit (s := S512x256) ![0, 0] S512x256.size inb_S512x256_S512x256_0_0), k0_pay39 (k0_pay20 (arg11.view.readAt (Elt F) (Rect.unit (s := S1x1x4096x256) (k0_off9 i k) S1x1x512x256.size (k0_off9_inb i k)).toLoadRect X11)) (k0_pay22 (k0_pay33 v60) (arg10.view.readAt (Elt F) (Rect.unit (s := S1x1x4096x128) (k0_off10 i k) S1x1x512x128.size (k0_off10_inb i k)).toLoadRect X10)) (arg15.view.readAt (Elt F) (Rect.unit (s := S512x1) ![0, 0] S512x1.size inb_S512x1_S512x1_0_0).toLoadRect f') (arg16.view.readAt (Elt F) (Rect.unit (s := S512x256) ![0, 0] S512x256.size inb_S512x256_S512x256_0_0).toLoadRect g')⟩] := by
  unfold trip_k0_t3; rfl

/-- After `k` trips the plain accumulators read the recursion's pair. -/
theorem pb1_read (G14 : BufTy.Contents (Elt F) arg14.view.ty) (G16 : BufTy.Contents (Elt F) arg16.view.ty) : ∀ k : ℕ, k ≤ (k0_t1_loop i).trips →
    arg14.view.read (Elt F) (arg14.view.writes (Elt F) G14 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 G14 G16 k).1)
        = (stP i v58 v60 (arg9.view.read (Elt F) X9) (arg10.view.read (Elt F) X10) (arg11.view.read (Elt F) X11) (arg14.view.read (Elt F) G14) (arg16.view.read (Elt F) G16) k).1
      ∧ arg16.view.read (Elt F) (arg16.view.writes (Elt F) G16 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 G14 G16 k).2)
        = (stP i v58 v60 (arg9.view.read (Elt F) X9) (arg10.view.read (Elt F) X10) (arg11.view.read (Elt F) X11) (arg14.view.read (Elt F) G14) (arg16.view.read (Elt F) G16) k).2
  | 0, _ => ⟨rfl, rfl⟩
  | k + 1, hk => by
    have hlt : k < (k0_t1_loop i).trips := hk
    obtain ⟨h1, h2⟩ := pb1_read G14 G16 k (Nat.le_of_lt hlt)
    have e := pb_k0_t1_succ (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 G14 G16 ⟨k, hlt⟩
    dsimp only at e
    rw [e, stP, dif_pos hlt]
    dsimp only [tripL_k0_t1]
    rw [trip1_1, trip1_2]
    refine ⟨?_, ?_⟩
    · refine (View.read_writes_full arg14.view G14 _ _ _).trans ?_
      rw [View.readAt_full, h1]; rfl
    · refine (View.read_writes_full arg16.view G16 _ _ _).trans ?_
      rw [View.readAt_full, h2]; rfl

/-- After `k` trips the online state reads the recursion's. -/
theorem pb3_read (G13 : BufTy.Contents (Elt F) arg13.view.ty) (G14 : BufTy.Contents (Elt F) arg14.view.ty) (G15 : BufTy.Contents (Elt F) arg15.view.ty) (G16 : BufTy.Contents (Elt F) arg16.view.ty) : ∀ k : ℕ, k ≤ (k0_t3_loop i).trips →
    arg13.view.read (Elt F) (arg13.view.writes (Elt F) G13 (pb_k0_t3 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 G13 G14 G15 G16 k).1) = (stO i v58 v60 (arg9.view.read (Elt F) X9) (arg10.view.read (Elt F) X10) (arg11.view.read (Elt F) X11) ⟨arg13.view.read (Elt F) G13, arg14.view.read (Elt F) G14, arg15.view.read (Elt F) G15, arg16.view.read (Elt F) G16⟩ k).m1
      ∧ arg14.view.read (Elt F) (arg14.view.writes (Elt F) G14 (pb_k0_t3 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 G13 G14 G15 G16 k).2.1) = (stO i v58 v60 (arg9.view.read (Elt F) X9) (arg10.view.read (Elt F) X10) (arg11.view.read (Elt F) X11) ⟨arg13.view.read (Elt F) G13, arg14.view.read (Elt F) G14, arg15.view.read (Elt F) G15, arg16.view.read (Elt F) G16⟩ k).a1
      ∧ arg15.view.read (Elt F) (arg15.view.writes (Elt F) G15 (pb_k0_t3 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 G13 G14 G15 G16 k).2.2.1) = (stO i v58 v60 (arg9.view.read (Elt F) X9) (arg10.view.read (Elt F) X10) (arg11.view.read (Elt F) X11) ⟨arg13.view.read (Elt F) G13, arg14.view.read (Elt F) G14, arg15.view.read (Elt F) G15, arg16.view.read (Elt F) G16⟩ k).m2
      ∧ arg16.view.read (Elt F) (arg16.view.writes (Elt F) G16 (pb_k0_t3 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 G13 G14 G15 G16 k).2.2.2) = (stO i v58 v60 (arg9.view.read (Elt F) X9) (arg10.view.read (Elt F) X10) (arg11.view.read (Elt F) X11) ⟨arg13.view.read (Elt F) G13, arg14.view.read (Elt F) G14, arg15.view.read (Elt F) G15, arg16.view.read (Elt F) G16⟩ k).a2
  | 0, _ => ⟨rfl, rfl, rfl, rfl⟩
  | k + 1, hk => by
    have hlt : k < (k0_t3_loop i).trips := hk
    obtain ⟨h1, h2, h3, h4⟩ := pb3_read G13 G14 G15 G16 k (Nat.le_of_lt hlt)
    have e := pb_k0_t3_succ (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 G13 G14 G15 G16 ⟨k, hlt⟩
    dsimp only at e
    rw [e, stO, dif_pos hlt]
    dsimp only [tripL_k0_t3]
    rw [trip3_1, trip3_2, trip3_3, trip3_4]
    refine ⟨?_, ?_, ?_, ?_⟩
    · refine (View.read_writes_full arg13.view G13 _ _ _).trans ?_
      rw [View.readAt_full, h1]; rfl
    · refine (View.read_writes_full arg14.view G14 _ _ _).trans ?_
      rw [View.readAt_full, View.readAt_full, h1, h2]; rfl
    · refine (View.read_writes_full arg15.view G15 _ _ _).trans ?_
      rw [View.readAt_full, h3]; rfl
    · refine (View.read_writes_full arg16.view G16 _ _ _).trans ?_
      rw [View.readAt_full, View.readAt_full, h3, h4]; rfl

/-- Both plain loops: what accumulator 1 reads after them. -/
theorem loopP_1 (G14 : BufTy.Contents (Elt F) arg14.view.ty) (G16 : BufTy.Contents (Elt F) arg16.view.ty) (L14 L16 : List (View.Piece (Elt F) S512x256 .f32)) :
    arg14.view.read (Elt F) (arg14.view.writes (Elt F) arg14.view.junk ((pb_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 G14 G16 (Scf.trips (k0_t2_loop i).lb (k0_t2_loop i).ub (k0_t2_loop i).st)).1 ++ ((pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 (arg14.view.writes (Elt F) arg14.view.junk L14) (arg16.view.writes (Elt F) arg16.view.junk L16) (Scf.trips (k0_t1_loop i).lb (k0_t1_loop i).ub (k0_t1_loop i).st)).1 ++ L14)))
      = (stP i v58 v60 (arg9.view.read (Elt F) X9) (arg10.view.read (Elt F) X10) (arg11.view.read (Elt F) X11) (arg14.view.read (Elt F) (arg14.view.writes (Elt F) arg14.view.junk L14)) (arg16.view.read (Elt F) (arg16.view.writes (Elt F) arg16.view.junk L16)) (Scf.trips (k0_t1_loop i).lb (k0_t1_loop i).ub (k0_t1_loop i).st)).1 := by
  rw [trips2]
  show arg14.view.read (Elt F) (arg14.view.writes (Elt F) arg14.view.junk ((pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 (arg14.view.writes (Elt F) arg14.view.junk L14) (arg16.view.writes (Elt F) arg16.view.junk L16) (Scf.trips (k0_t1_loop i).lb (k0_t1_loop i).ub (k0_t1_loop i).st)).1 ++ L14)) = _
  rw [View.writes_append]
  exact (pb1_read (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 (arg14.view.writes (Elt F) arg14.view.junk L14) (arg16.view.writes (Elt F) arg16.view.junk L16) _ le_rfl).1

/-- Both plain loops: what accumulator 2 reads after them. -/
theorem loopP_2 (G14 : BufTy.Contents (Elt F) arg14.view.ty) (G16 : BufTy.Contents (Elt F) arg16.view.ty) (L14 L16 : List (View.Piece (Elt F) S512x256 .f32)) :
    arg16.view.read (Elt F) (arg16.view.writes (Elt F) arg16.view.junk ((pb_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 G14 G16 (Scf.trips (k0_t2_loop i).lb (k0_t2_loop i).ub (k0_t2_loop i).st)).2 ++ ((pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 (arg14.view.writes (Elt F) arg14.view.junk L14) (arg16.view.writes (Elt F) arg16.view.junk L16) (Scf.trips (k0_t1_loop i).lb (k0_t1_loop i).ub (k0_t1_loop i).st)).2 ++ L16)))
      = (stP i v58 v60 (arg9.view.read (Elt F) X9) (arg10.view.read (Elt F) X10) (arg11.view.read (Elt F) X11) (arg14.view.read (Elt F) (arg14.view.writes (Elt F) arg14.view.junk L14)) (arg16.view.read (Elt F) (arg16.view.writes (Elt F) arg16.view.junk L16)) (Scf.trips (k0_t1_loop i).lb (k0_t1_loop i).ub (k0_t1_loop i).st)).2 := by
  rw [trips2]
  show arg16.view.read (Elt F) (arg16.view.writes (Elt F) arg16.view.junk ((pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 (arg14.view.writes (Elt F) arg14.view.junk L14) (arg16.view.writes (Elt F) arg16.view.junk L16) (Scf.trips (k0_t1_loop i).lb (k0_t1_loop i).ub (k0_t1_loop i).st)).2 ++ L16)) = _
  rw [View.writes_append]
  exact (pb1_read (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 (arg14.view.writes (Elt F) arg14.view.junk L14) (arg16.view.writes (Elt F) arg16.view.junk L16) _ le_rfl).2

/-- Both online loops: what `m1` reads after them. -/
theorem loopO_1 (v83 : BitVec 32) (G13 : BufTy.Contents (Elt F) arg13.view.ty) (G14 : BufTy.Contents (Elt F) arg14.view.ty) (G15 : BufTy.Contents (Elt F) arg15.view.ty) (G16 : BufTy.Contents (Elt F) arg16.view.ty) (L14 L16 : List (View.Piece (Elt F) S512x256 .f32)) (L13 L15 : List (View.Piece (Elt F) S512x1 .f32)) :
    arg13.view.read (Elt F) (arg13.view.writes (Elt F) arg13.view.junk ((pb_k0_t4 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 v83 X9 X10 X11 G13 G14 G15 G16 (Scf.trips (k0_t4_loop i).lb (k0_t4_loop i).ub (k0_t4_loop i).st)).1 ++ ((pb_k0_t3 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 (arg13.view.writes (Elt F) arg13.view.junk L13) (arg14.view.writes (Elt F) arg14.view.junk L14) (arg15.view.writes (Elt F) arg15.view.junk L15) (arg16.view.writes (Elt F) arg16.view.junk L16) (Scf.trips (k0_t3_loop i).lb (k0_t3_loop i).ub (k0_t3_loop i).st)).1 ++ L13)))
      = (stO i v58 v60 (arg9.view.read (Elt F) X9) (arg10.view.read (Elt F) X10) (arg11.view.read (Elt F) X11) ⟨arg13.view.read (Elt F) (arg13.view.writes (Elt F) arg13.view.junk L13), arg14.view.read (Elt F) (arg14.view.writes (Elt F) arg14.view.junk L14), arg15.view.read (Elt F) (arg15.view.writes (Elt F) arg15.view.junk L15), arg16.view.read (Elt F) (arg16.view.writes (Elt F) arg16.view.junk L16)⟩ (Scf.trips (k0_t3_loop i).lb (k0_t3_loop i).ub (k0_t3_loop i).st)).m1 := by
  rw [trips4]
  show arg13.view.read (Elt F) (arg13.view.writes (Elt F) arg13.view.junk ((pb_k0_t3 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 (arg13.view.writes (Elt F) arg13.view.junk L13) (arg14.view.writes (Elt F) arg14.view.junk L14) (arg15.view.writes (Elt F) arg15.view.junk L15) (arg16.view.writes (Elt F) arg16.view.junk L16) (Scf.trips (k0_t3_loop i).lb (k0_t3_loop i).ub (k0_t3_loop i).st)).1 ++ L13)) = _
  rw [View.writes_append]
  exact (pb3_read (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 (arg13.view.writes (Elt F) arg13.view.junk L13) (arg14.view.writes (Elt F) arg14.view.junk L14) (arg15.view.writes (Elt F) arg15.view.junk L15) (arg16.view.writes (Elt F) arg16.view.junk L16) _ le_rfl).1

/-- Both online loops: what `a1` reads after them. -/
theorem loopO_2 (v83 : BitVec 32) (G13 : BufTy.Contents (Elt F) arg13.view.ty) (G14 : BufTy.Contents (Elt F) arg14.view.ty) (G15 : BufTy.Contents (Elt F) arg15.view.ty) (G16 : BufTy.Contents (Elt F) arg16.view.ty) (L14 L16 : List (View.Piece (Elt F) S512x256 .f32)) (L13 L15 : List (View.Piece (Elt F) S512x1 .f32)) :
    arg14.view.read (Elt F) (arg14.view.writes (Elt F) arg14.view.junk ((pb_k0_t4 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 v83 X9 X10 X11 G13 G14 G15 G16 (Scf.trips (k0_t4_loop i).lb (k0_t4_loop i).ub (k0_t4_loop i).st)).2.1 ++ ((pb_k0_t3 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 (arg13.view.writes (Elt F) arg13.view.junk L13) (arg14.view.writes (Elt F) arg14.view.junk L14) (arg15.view.writes (Elt F) arg15.view.junk L15) (arg16.view.writes (Elt F) arg16.view.junk L16) (Scf.trips (k0_t3_loop i).lb (k0_t3_loop i).ub (k0_t3_loop i).st)).2.1 ++ L14)))
      = (stO i v58 v60 (arg9.view.read (Elt F) X9) (arg10.view.read (Elt F) X10) (arg11.view.read (Elt F) X11) ⟨arg13.view.read (Elt F) (arg13.view.writes (Elt F) arg13.view.junk L13), arg14.view.read (Elt F) (arg14.view.writes (Elt F) arg14.view.junk L14), arg15.view.read (Elt F) (arg15.view.writes (Elt F) arg15.view.junk L15), arg16.view.read (Elt F) (arg16.view.writes (Elt F) arg16.view.junk L16)⟩ (Scf.trips (k0_t3_loop i).lb (k0_t3_loop i).ub (k0_t3_loop i).st)).a1 := by
  rw [trips4]
  show arg14.view.read (Elt F) (arg14.view.writes (Elt F) arg14.view.junk ((pb_k0_t3 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 (arg13.view.writes (Elt F) arg13.view.junk L13) (arg14.view.writes (Elt F) arg14.view.junk L14) (arg15.view.writes (Elt F) arg15.view.junk L15) (arg16.view.writes (Elt F) arg16.view.junk L16) (Scf.trips (k0_t3_loop i).lb (k0_t3_loop i).ub (k0_t3_loop i).st)).2.1 ++ L14)) = _
  rw [View.writes_append]
  exact (pb3_read (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 (arg13.view.writes (Elt F) arg13.view.junk L13) (arg14.view.writes (Elt F) arg14.view.junk L14) (arg15.view.writes (Elt F) arg15.view.junk L15) (arg16.view.writes (Elt F) arg16.view.junk L16) _ le_rfl).2.1

/-- Both online loops: what `m2` reads after them. -/
theorem loopO_3 (v83 : BitVec 32) (G13 : BufTy.Contents (Elt F) arg13.view.ty) (G14 : BufTy.Contents (Elt F) arg14.view.ty) (G15 : BufTy.Contents (Elt F) arg15.view.ty) (G16 : BufTy.Contents (Elt F) arg16.view.ty) (L14 L16 : List (View.Piece (Elt F) S512x256 .f32)) (L13 L15 : List (View.Piece (Elt F) S512x1 .f32)) :
    arg15.view.read (Elt F) (arg15.view.writes (Elt F) arg15.view.junk ((pb_k0_t4 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 v83 X9 X10 X11 G13 G14 G15 G16 (Scf.trips (k0_t4_loop i).lb (k0_t4_loop i).ub (k0_t4_loop i).st)).2.2.1 ++ ((pb_k0_t3 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 (arg13.view.writes (Elt F) arg13.view.junk L13) (arg14.view.writes (Elt F) arg14.view.junk L14) (arg15.view.writes (Elt F) arg15.view.junk L15) (arg16.view.writes (Elt F) arg16.view.junk L16) (Scf.trips (k0_t3_loop i).lb (k0_t3_loop i).ub (k0_t3_loop i).st)).2.2.1 ++ L15)))
      = (stO i v58 v60 (arg9.view.read (Elt F) X9) (arg10.view.read (Elt F) X10) (arg11.view.read (Elt F) X11) ⟨arg13.view.read (Elt F) (arg13.view.writes (Elt F) arg13.view.junk L13), arg14.view.read (Elt F) (arg14.view.writes (Elt F) arg14.view.junk L14), arg15.view.read (Elt F) (arg15.view.writes (Elt F) arg15.view.junk L15), arg16.view.read (Elt F) (arg16.view.writes (Elt F) arg16.view.junk L16)⟩ (Scf.trips (k0_t3_loop i).lb (k0_t3_loop i).ub (k0_t3_loop i).st)).m2 := by
  rw [trips4]
  show arg15.view.read (Elt F) (arg15.view.writes (Elt F) arg15.view.junk ((pb_k0_t3 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 (arg13.view.writes (Elt F) arg13.view.junk L13) (arg14.view.writes (Elt F) arg14.view.junk L14) (arg15.view.writes (Elt F) arg15.view.junk L15) (arg16.view.writes (Elt F) arg16.view.junk L16) (Scf.trips (k0_t3_loop i).lb (k0_t3_loop i).ub (k0_t3_loop i).st)).2.2.1 ++ L15)) = _
  rw [View.writes_append]
  exact (pb3_read (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 (arg13.view.writes (Elt F) arg13.view.junk L13) (arg14.view.writes (Elt F) arg14.view.junk L14) (arg15.view.writes (Elt F) arg15.view.junk L15) (arg16.view.writes (Elt F) arg16.view.junk L16) _ le_rfl).2.2.1

/-- Both online loops: what `a2` reads after them. -/
theorem loopO_4 (v83 : BitVec 32) (G13 : BufTy.Contents (Elt F) arg13.view.ty) (G14 : BufTy.Contents (Elt F) arg14.view.ty) (G15 : BufTy.Contents (Elt F) arg15.view.ty) (G16 : BufTy.Contents (Elt F) arg16.view.ty) (L14 L16 : List (View.Piece (Elt F) S512x256 .f32)) (L13 L15 : List (View.Piece (Elt F) S512x1 .f32)) :
    arg16.view.read (Elt F) (arg16.view.writes (Elt F) arg16.view.junk ((pb_k0_t4 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 v83 X9 X10 X11 G13 G14 G15 G16 (Scf.trips (k0_t4_loop i).lb (k0_t4_loop i).ub (k0_t4_loop i).st)).2.2.2 ++ ((pb_k0_t3 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 (arg13.view.writes (Elt F) arg13.view.junk L13) (arg14.view.writes (Elt F) arg14.view.junk L14) (arg15.view.writes (Elt F) arg15.view.junk L15) (arg16.view.writes (Elt F) arg16.view.junk L16) (Scf.trips (k0_t3_loop i).lb (k0_t3_loop i).ub (k0_t3_loop i).st)).2.2.2 ++ L16)))
      = (stO i v58 v60 (arg9.view.read (Elt F) X9) (arg10.view.read (Elt F) X10) (arg11.view.read (Elt F) X11) ⟨arg13.view.read (Elt F) (arg13.view.writes (Elt F) arg13.view.junk L13), arg14.view.read (Elt F) (arg14.view.writes (Elt F) arg14.view.junk L14), arg15.view.read (Elt F) (arg15.view.writes (Elt F) arg15.view.junk L15), arg16.view.read (Elt F) (arg16.view.writes (Elt F) arg16.view.junk L16)⟩ (Scf.trips (k0_t3_loop i).lb (k0_t3_loop i).ub (k0_t3_loop i).st)).a2 := by
  rw [trips4]
  show arg16.view.read (Elt F) (arg16.view.writes (Elt F) arg16.view.junk ((pb_k0_t3 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 (arg13.view.writes (Elt F) arg13.view.junk L13) (arg14.view.writes (Elt F) arg14.view.junk L14) (arg15.view.writes (Elt F) arg15.view.junk L15) (arg16.view.writes (Elt F) arg16.view.junk L16) (Scf.trips (k0_t3_loop i).lb (k0_t3_loop i).ub (k0_t3_loop i).st)).2.2.2 ++ L16)) = _
  rw [View.writes_append]
  exact (pb3_read (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v0 v58 v60 X9 X10 X11 (arg13.view.writes (Elt F) arg13.view.junk L13) (arg14.view.writes (Elt F) arg14.view.junk L14) (arg15.view.writes (Elt F) arg15.view.junk L15) (arg16.view.writes (Elt F) arg16.view.junk L16) _ le_rfl).2.2.2

end

end Cert.KernelIdeal.Val

end
-- ==== Proof.KRow.lean ====
/- The accumulators of one block, row by row: each holds the weighted sum over the keys the row sees, in the plain form with
   nothing subtracted from the scores and in the online form with a real number subtracted. -/
module

public import proofs.«01_k».proof.Proof.Row
public import proofs.«01_k».proof.Proof.KTrips
public import Idealize.ShloMosaic.Lib.Pipeline.ValueKit

@[expose] public section
set_option maxRecDepth 16384
noncomputable section
namespace Cert.KernelIdeal.Val
open Idealize.ShloMosaic Idealize.ShloMosaic.TcCoe Idealize.SL.Sem
open Cert.KernelIdeal Cert.KernelIdeal.Gen Cert.Row

/-- Row `r` of query block `t` sees key `j`: the key's chunk is not after the row's. -/
def vis (t r j : ℕ) : Prop := j / 64 ≤ (512 * t + r) / 64

instance (t r : ℕ) : DecidablePred (vis t r) := fun j => inferInstanceAs (Decidable (_ ≤ _))

theorem win_k512 (x : Vec Ideal S1x1x4096x128 .bf16) (off : Fin 4 → ℕ) (inb) (b : ℕ) (h : off = ![0, 0, b, 0]) (j : Fin 512) (d : Fin 128) (hb : b + 512 ≤ 4096) :
    VecWindow.window x off S1x1x512x128.size inb (ix4 0 0 j d) = x (ix4 0 0 ⟨b + j.val, by omega⟩ d) := by
  subst h
  refine congrArg x (funext fun a => Fin.ext ((ValueKit.rect_emb_unit_val _ _ _ _ a).trans ?_))
  fin_cases a <;> first | rfl | exact Nat.zero_add _

theorem win_k256 (x : Vec Ideal S1x1x4096x128 .bf16) (off : Fin 4 → ℕ) (inb) (b : ℕ) (h : off = ![0, 0, b, 0]) (j : Fin 256) (d : Fin 128) (hb : b + 256 ≤ 4096) :
    VecWindow.window x off S1x1x256x128.size inb (ix4 0 0 j d) = x (ix4 0 0 ⟨b + j.val, by omega⟩ d) := by
  subst h
  refine congrArg x (funext fun a => Fin.ext ((ValueKit.rect_emb_unit_val _ _ _ _ a).trans ?_))
  fin_cases a <;> first | rfl | exact Nat.zero_add _

theorem win_v512 (x : Vec Ideal S1x1x4096x256 .bf16) (off : Fin 4 → ℕ) (inb) (b : ℕ) (h : off = ![0, 0, b, 0]) (j : Fin 512) (d : Fin 256) (hb : b + 512 ≤ 4096) :
    VecWindow.window x off S1x1x512x256.size inb (ix4 0 0 j d) = x (ix4 0 0 ⟨b + j.val, by omega⟩ d) := by
  subst h
  refine congrArg x (funext fun a => Fin.ext ((ValueKit.rect_emb_unit_val _ _ _ _ a).trans ?_))
  fin_cases a <;> first | rfl | exact Nat.zero_add _

theorem win_v256 (x : Vec Ideal S1x1x4096x256 .bf16) (off : Fin 4 → ℕ) (inb) (b : ℕ) (h : off = ![0, 0, b, 0]) (j : Fin 256) (d : Fin 256) (hb : b + 256 ≤ 4096) :
    VecWindow.window x off S1x1x256x256.size inb (ix4 0 0 j d) = x (ix4 0 0 ⟨b + j.val, by omega⟩ d) := by
  subst h
  refine congrArg x (funext fun a => Fin.ext ((ValueKit.rect_emb_unit_val _ _ _ _ a).trans ?_))
  fin_cases a <;> first | rfl | exact Nat.zero_add _

/-- The upper and the lower half of a table of 512 rows. -/
theorem win_b0 (x : Vec Ideal S512x512 .f32) (inb) (r c : Fin 256) :
    VecWindow.window x ![0, 0] S256x256.size inb (ix2 r c) = x (ix2 ⟨r.val, by omega⟩ ⟨c.val, by omega⟩) := by
  refine congrArg x (funext fun a => Fin.ext ((ValueKit.rect_emb_unit_val _ _ _ _ a).trans ?_))
  fin_cases a <;> first | rfl | exact Nat.zero_add _

theorem win_b1 (x : Vec Ideal S512x512 .f32) (inb) (r : Fin 256) (c : Fin 512) :
    VecWindow.window x ![256, 0] S256x512.size inb (ix2 r c) = x (ix2 ⟨256 + r.val, by omega⟩ c) := by
  refine congrArg x (funext fun a => Fin.ext ((ValueKit.rect_emb_unit_val _ _ _ _ a).trans ?_))
  fin_cases a <;> first | rfl | exact Nat.zero_add _

theorem win_a0 (x : Vec Ideal S512x256 .f32) (inb) (r : Fin 256) (c : Fin 256) :
    VecWindow.window x ![0, 0] S256x256.size inb (ix2 r c) = x (ix2 ⟨r.val, by omega⟩ c) := by
  refine congrArg x (funext fun a => Fin.ext ((ValueKit.rect_emb_unit_val _ _ _ _ a).trans ?_))
  fin_cases a <;> first | rfl | exact Nat.zero_add _

theorem win_a1 (x : Vec Ideal S512x256 .f32) (inb) (r : Fin 256) (c : Fin 256) :
    VecWindow.window x ![256, 0] S256x256.size inb (ix2 r c) = x (ix2 ⟨256 + r.val, by omega⟩ c) := by
  refine congrArg x (funext fun a => Fin.ext ((ValueKit.rect_emb_unit_val _ _ _ _ a).trans ?_))
  fin_cases a <;> first | rfl | exact Nat.zero_add _

theorem win_m0 (x : Vec Ideal S512x1 .f32) (inb) (r : Fin 256) :
    VecWindow.window x ![0, 0] S256x1.size inb (ix2 r 0) = x (ix2 ⟨r.val, by omega⟩ 0) := by
  refine congrArg x (funext fun a => Fin.ext ((ValueKit.rect_emb_unit_val _ _ _ _ a).trans ?_))
  fin_cases a <;> first | rfl | exact Nat.zero_add _

theorem win_m1 (x : Vec Ideal S512x1 .f32) (inb) (r : Fin 256) :
    VecWindow.window x ![256, 0] S256x1.size inb (ix2 r 0) = x (ix2 ⟨256 + r.val, by omega⟩ 0) := by
  refine congrArg x (funext fun a => Fin.ext ((ValueKit.rect_emb_unit_val _ _ _ _ a).trans ?_))
  fin_cases a <;> first | rfl | exact Nat.zero_add _

/-- What was put in the upper half, read there, and what was put in the lower half. -/
theorem put0_in (x : Vec Ideal S512x256 .f32) (w : Vec Ideal S256x256 .f32) (r : Fin 512) (e : Fin 256) (h : r.val < 256) :
    VecWindow.put x ![0, 0] S256x256.size w (ix2 r e) = w (ix2 ⟨r.val, h⟩ e) := by
  unfold VecWindow.put
  rw [dif_pos (by intro a; fin_cases a <;> simp [ix2, S256x256] <;> omega)]
  refine congrArg w (funext fun a => Fin.ext ?_)
  fin_cases a <;> rfl

theorem put0_out (x : Vec Ideal S512x256 .f32) (w : Vec Ideal S256x256 .f32) (r : Fin 512) (e : Fin 256) (h : ¬ r.val < 256) :
    VecWindow.put x ![0, 0] S256x256.size w (ix2 r e) = x (ix2 r e) := by
  unfold VecWindow.put
  rw [dif_neg (fun hh => h (by have h2 : r.val < 0 + 256 := (hh 0).2; omega))]

theorem put0m_out (x : Vec Ideal S512x1 .f32) (w : Vec Ideal S256x1 .f32) (r : Fin 512) (h : ¬ r.val < 256) :
    VecWindow.put x ![0, 0] S256x1.size w (ix2 r 0) = x (ix2 r 0) := by
  unfold VecWindow.put
  rw [dif_neg (fun hh => h (by have h2 : r.val < 0 + 256 := (hh 0).2; omega))]

theorem put1_in (x : Vec Ideal S512x256 .f32) (w : Vec Ideal S256x256 .f32) (r : Fin 512) (e : Fin 256) (h : ¬ r.val < 256) :
    VecWindow.put x ![256, 0] S256x256.size w (ix2 r e) = w (ix2 ⟨r.val - 256, by omega⟩ e) := by
  unfold VecWindow.put
  rw [dif_pos (by intro a; fin_cases a <;> simp [ix2, S256x256] <;> omega)]
  refine congrArg w (funext fun a => Fin.ext ?_)
  fin_cases a <;> rfl

theorem put1_out (x : Vec Ideal S512x256 .f32) (w : Vec Ideal S256x256 .f32) (r : Fin 512) (e : Fin 256) (h : r.val < 256) :
    VecWindow.put x ![256, 0] S256x256.size w (ix2 r e) = x (ix2 r e) := by
  unfold VecWindow.put
  rw [dif_neg (fun hh => absurd (show 256 ≤ r.val from (hh 0).1) (by omega))]

end Cert.KernelIdeal.Val
end
-- ==== Proof.KAcc.lean ====
/- The accumulators of one block after the loop and the two halves of its diagonal tile: the weighted sums over all the keys
   each row sees. -/
module

public import proofs.«01_k».proof.Proof.KRow

@[expose] public section
set_option maxRecDepth 16384
noncomputable section
namespace Cert.KernelIdeal.Val
open Idealize.ShloMosaic Idealize.ShloMosaic.TcCoe Idealize.SL.Sem
open Cert.KernelIdeal Cert.KernelIdeal.Gen Cert.Row

theorem put0_lo (x : Vec Ideal S512x256 .f32) (w : Vec Ideal S256x256 .f32) (r : Fin 256) (e : Fin 256) :
    VecWindow.put x ![0, 0] S256x256.size w (ix2 (⟨r.val, by omega⟩ : Fin 512) e) = w (ix2 r e) := put0_in x w _ e r.isLt

theorem put1_hi (x : Vec Ideal S512x256 .f32) (w : Vec Ideal S256x256 .f32) (r : Fin 256) (e : Fin 256) :
    VecWindow.put x ![256, 0] S256x256.size w (ix2 (⟨256 + r.val, by omega⟩ : Fin 512) e) = w (ix2 r e) := by
  rw [put1_in x w _ e (by simp)]
  exact congrArg (fun z => w (ix2 z e)) (Fin.ext (by simp))

/-- The scores of a block's queries against the keys are real numbers. -/
def Sc (q : Vec Ideal S1x1x512x128 .bf16) (k : Vec Ideal S1x1x4096x128 .bf16) (s : ℕ → ℕ → ℝ) : Prop :=
  ∀ (r : Fin 512) (j : Fin 4096), ∑ d : Fin 128, q (ix4 0 0 r d) * k (ix4 0 0 j d) = ((s r.val j.val : ℝ) : EReal)

/-- The values, and the column after them, are real numbers. -/
def Vl (v : Vec Ideal S1x1x4096x256 .bf16) (w : ℕ → ℕ → ℝ) : Prop := ∀ (j : Fin 4096) (e : Fin 256), e.val < 129 → v (ix4 0 0 j e) = ((w e.val j.val : ℝ) : EReal)

/-- The table added on the diagonal: zero where the key's chunk is not after the query's, negative infinity elsewhere. -/
def Bi (x2 : Vec Ideal S512x512 .f32) : Prop := ∀ r c : Fin 512, x2 (ix2 r c) = if c.val / 64 ≤ r.val / 64 then (0 : EReal) else ⊥

variable {q q1 q2 : Vec Ideal S1x1x512x128 .bf16} {k k1 k2 : Vec Ideal S1x1x4096x128 .bf16} {v : Vec Ideal S1x1x4096x256 .bf16} {x2 : Vec Ideal S512x512 .f32}
  {s s1 s2 w : ℕ → ℕ → ℝ}

theorem vl512 (hv : Vl v w) {off inb} (t : ℕ) (h : off = ![0, 0, 512 * t, 0]) (ht : t < 8) (e : Fin 256) (he : e.val < 129) (j : Fin 512) :
    VecWindow.window v off S1x1x512x256.size inb (ix4 0 0 j e) = ((w e.val (512 * t + j.val) : ℝ) : EReal) := by
  rw [win_v512 v off inb _ h j e (by omega)]; exact hv _ _ he

theorem vl256 (hv : Vl v w) {off inb} (t : ℕ) (h : off = ![0, 0, 512 * t, 0]) (ht : t < 8) (e : Fin 256) (he : e.val < 129) (j : Fin 256) :
    VecWindow.window v off S1x1x256x256.size inb (ix4 0 0 j e) = ((w e.val (512 * t + j.val) : ℝ) : EReal) := by
  rw [win_v256 v off inb _ h j e (by omega)]; exact hv _ _ he

/-- A whole tile before the diagonal: every key is seen. -/
theorem sc_full (hs : Sc q k s) {off inb} (t i2 : ℕ) (h : off = ![0, 0, 512 * t, 0]) (ht : t < i2) (hi : i2 < 8) (r : Fin 512) (j : Fin 512) :
    (∑ d : Fin 128, q (ix4 0 0 r d) * VecWindow.window k off S1x1x512x128.size inb (ix4 0 0 j d)) =
      if vis i2 r.val (512 * t + j.val) then ((s r.val (512 * t + j.val) : ℝ) : EReal) else ⊥ := by
  rw [if_pos (by unfold vis; omega)]
  simp only [win_k512 k off inb _ h j _ (show 512 * t + 512 ≤ 4096 by omega)]
  exact hs r ⟨512 * t + j.val, by omega⟩

theorem add_bias (x : ℝ) (p p' : Prop) [Decidable p] [Decidable p'] (h : p ↔ p') : (x : EReal) + (if p then (0 : EReal) else ⊥) = if p' then (x : EReal) else ⊥ := by
  by_cases hp : p
  · rw [if_pos hp, if_pos (h.mp hp), add_zero]
  · rw [if_neg hp, if_neg (fun h' => hp (h.mpr h')), EReal.add_bot]

/-- The diagonal tile's upper half: the table keeps the keys that are seen. -/
theorem sc_lo (hs : Sc q k s) (hb : Bi x2) {off inb inb2} (i2 : ℕ) (h : off = ![0, 0, 512 * i2, 0]) (hi : i2 < 8) (r : Fin 256) (j : Fin 256) :
    (∑ d : Fin 128, q (ix4 0 0 ⟨r.val, by omega⟩ d) * VecWindow.window k off S1x1x256x128.size inb (ix4 0 0 j d)) + VecWindow.window x2 ![0, 0] S256x256.size inb2 (ix2 r j) =
      if vis i2 r.val (512 * i2 + j.val) then ((s r.val (512 * i2 + j.val) : ℝ) : EReal) else ⊥ := by
  simp only [win_k256 k off inb _ h j _ (show 512 * i2 + 256 ≤ 4096 by omega)]
  rw [win_b0, hb, hs]
  exact add_bias _ _ _ (by unfold vis; simp only []; omega)

/-- Its lower half. -/
theorem sc_hi (hs : Sc q k s) (hb : Bi x2) {off inb inb2} (i2 : ℕ) (h : off = ![0, 0, 512 * i2, 0]) (hi : i2 < 8) (r : Fin 256) (j : Fin 512) :
    (∑ d : Fin 128, q (ix4 0 0 ⟨256 + r.val, by omega⟩ d) * VecWindow.window k off S1x1x512x128.size inb (ix4 0 0 j d)) + VecWindow.window x2 ![256, 0] S256x512.size inb2 (ix2 r j) =
      if vis i2 (256 + r.val) (512 * i2 + j.val) then ((s (256 + r.val) (512 * i2 + j.val) : ℝ) : EReal) else ⊥ := by
  simp only [win_k512 k off inb _ h j _ (show 512 * i2 + 512 ≤ 4096 by omega)]
  rw [win_b1, hb, hs]
  exact add_bias _ _ _ (by unfold vis; simp only []; omega)

/-- The literal the running maxima start at is a real number. -/
theorem start_real : ∃ μ : ℝ, Ideal.ofBits .f32 0xF149F2CA#32 = (μ : EReal) := by
  simp only [Ideal.ofBits, Ideal.ieee]
  rw [if_neg (by decide), if_neg (by decide)]
  exact ⟨_, rfl⟩

theorem i2_lt (i : grid0.Coords) : (i 2).val < 8 := (i 2).isLt

theorem wsum_zero (p : ℕ → Prop) [DecidablePred p] (s : ℕ → ℝ) (μ : ℝ) (v : ℕ → ℝ) : wsum (512 * 0) p s μ v = 0 := by
  simp [wsum]

/-- Plain form, stream 1: the accumulator before trip `t`. -/
theorem stP1_at (i : grid0.Coords) (hs : Sc q1 k1 s) (hv : Vl v w) (r : Fin 512) (e : Fin 256) (he : e.val < 129) : ∀ t, t ≤ (i 2).val →
    (stP i q1 q2 k1 k2 v (k0_pay4 (F := Ideal)) (k0_pay5 (F := Ideal)) t).1 (ix2 r e) = ((wsum (512 * t) (vis (i 2).val r.val) (s r.val) 0 (w e.val) : ℝ) : EReal)
  | 0, _ => by
    rw [wsum_zero]; exact pay4_at r e
  | t + 1, ht => by
    have hlt : t < (k0_t1_loop i).trips := lt_of_lt_of_eq ht (trips1 i).symm
    have hi := i2_lt i
    rw [stP, dif_pos hlt]
    refine (pay7_at _ _ _ _ r e).trans ?_
    exact step_plain (sc_full hs t _ (k0_off2_eq i ⟨t, hlt⟩) ht hi r) (vl512 hv t (k0_off1_eq i ⟨t, hlt⟩) (by omega) e he) (stP1_at i hs hv r e he t (Nat.le_of_succ_le ht))

/-- Plain form, stream 1: the accumulator at the end. -/
theorem accP1 (i : grid0.Coords) (hs : Sc q1 k1 s) (hv : Vl v w) (hb : Bi x2) (r : Fin 512) :
    ∃ μ : ℝ, ∀ e : Fin 256, e.val < 129 → hiP1 i x2 q1 q2 k1 k2 v (ix2 r e) = ((wsum 4096 (vis (i 2).val r.val) (s r.val) μ (w e.val) : ℝ) : EReal) := by
  have hi := i2_lt i
  refine ⟨0, fun e he => ?_⟩
  by_cases hr : r.val < 256
  · obtain ⟨r', rfl⟩ : ∃ r' : Fin 256, r = ⟨r'.val, Nat.lt_of_lt_of_le r'.isLt (by decide)⟩ := ⟨⟨r.val, hr⟩, rfl⟩
    rw [hiP1, put1_out _ _ _ _ hr, loP1, put0_lo]
    refine (pay15_at _ _ _ _ _ r' e).trans ?_
    refine (step_plain (sc_lo hs hb _ (k0_off6_eq i) hi r') (vl256 hv _ (k0_off5_eq i) hi e he) ?_).trans
      (congrArg _ (wsum_ext (p := vis (i 2).val r'.val) (by omega) (fun j hj _ => by unfold vis; omega) _))
    rw [win_a0, trips1]
    exact stP1_at i hs hv _ e he _ le_rfl
  · obtain ⟨r', rfl⟩ : ∃ r' : Fin 256, r = ⟨256 + r'.val, Nat.add_lt_add_left r'.isLt 256⟩ := ⟨⟨r.val - 256, by omega⟩, Fin.ext (by simp; omega)⟩
    rw [hiP1, put1_hi]
    refine (pay65_at _ _ _ _ _ r' e).trans ?_
    refine (step_plain (sc_hi hs hb _ (k0_off8_eq i) hi r') (vl512 hv _ (k0_off7_eq i) hi e he) ?_).trans
      (congrArg _ (wsum_ext (p := vis (i 2).val (256 + r'.val)) (by omega) (fun j hj _ => by unfold vis; omega) _))
    rw [win_a1, loP1, put0_out _ _ _ _ hr, trips1]
    exact stP1_at i hs hv _ e he _ le_rfl

/-- Plain form, stream 2: the accumulator before trip `t`. -/
theorem stP2_at (i : grid0.Coords) (hs : Sc q2 k2 s) (hv : Vl v w) (r : Fin 512) (e : Fin 256) (he : e.val < 129) : ∀ t, t ≤ (i 2).val →
    (stP i q1 q2 k1 k2 v (k0_pay4 (F := Ideal)) (k0_pay5 (F := Ideal)) t).2 (ix2 r e) = ((wsum (512 * t) (vis (i 2).val r.val) (s r.val) 0 (w e.val) : ℝ) : EReal)
  | 0, _ => by
    rw [wsum_zero]; exact pay5_at r e
  | t + 1, ht => by
    have hlt : t < (k0_t1_loop i).trips := lt_of_lt_of_eq ht (trips1 i).symm
    have hi := i2_lt i
    rw [stP, dif_pos hlt]
    refine (pay8_at _ _ _ _ r e).trans ?_
    exact step_plain (sc_full hs t _ (k0_off2_eq i ⟨t, hlt⟩) ht hi r) (vl512 hv t (k0_off1_eq i ⟨t, hlt⟩) (by omega) e he) (stP2_at i hs hv r e he t (Nat.le_of_succ_le ht))

/-- Plain form, stream 2: the accumulator at the end. -/
theorem accP2 (i : grid0.Coords) (hs : Sc q2 k2 s) (hv : Vl v w) (hb : Bi x2) (r : Fin 512) :
    ∃ μ : ℝ, ∀ e : Fin 256, e.val < 129 → hiP2 i x2 q1 q2 k1 k2 v (ix2 r e) = ((wsum 4096 (vis (i 2).val r.val) (s r.val) μ (w e.val) : ℝ) : EReal) := by
  have hi := i2_lt i
  refine ⟨0, fun e he => ?_⟩
  by_cases hr : r.val < 256
  · obtain ⟨r', rfl⟩ : ∃ r' : Fin 256, r = ⟨r'.val, Nat.lt_of_lt_of_le r'.isLt (by decide)⟩ := ⟨⟨r.val, hr⟩, rfl⟩
    rw [hiP2, put1_out _ _ _ _ hr, loP2, put0_lo]
    refine (pay16_at _ _ _ _ _ r' e).trans ?_
    refine (step_plain (sc_lo hs hb _ (k0_off6_eq i) hi r') (vl256 hv _ (k0_off5_eq i) hi e he) ?_).trans
      (congrArg _ (wsum_ext (p := vis (i 2).val r'.val) (by omega) (fun j hj _ => by unfold vis; omega) _))
    rw [win_a0, trips1]
    exact stP2_at i hs hv _ e he _ le_rfl
  · obtain ⟨r', rfl⟩ : ∃ r' : Fin 256, r = ⟨256 + r'.val, Nat.add_lt_add_left r'.isLt 256⟩ := ⟨⟨r.val - 256, by omega⟩, Fin.ext (by simp; omega)⟩
    rw [hiP2, put1_hi]
    refine (pay66_at _ _ _ _ _ r' e).trans ?_
    refine (step_plain (sc_hi hs hb _ (k0_off8_eq i) hi r') (vl512 hv _ (k0_off7_eq i) hi e he) ?_).trans
      (congrArg _ (wsum_ext (p := vis (i 2).val (256 + r'.val)) (by omega) (fun j hj _ => by unfold vis; omega) _))
    rw [win_a1, loP2, put0_out _ _ _ _ hr, trips1]
    exact stP2_at i hs hv _ e he _ le_rfl

/-- The state of the online form before any trip. -/
abbrev st0 : OnSt Ideal := ⟨k0_pay35 (F := Ideal), k0_pay34 (F := Ideal), k0_pay37 (F := Ideal), k0_pay36 (F := Ideal)⟩

/-- Online form, stream 1: the running maximum is a real number, and the accumulator is taken with it subtracted. -/
theorem stO1_at (i : grid0.Coords) (hs : Sc q1 k1 s) (hv : Vl v w) (r : Fin 512) : ∀ t, t ≤ (i 2).val →
    ∃ μ : ℝ, (stO i q1 q2 k1 k2 v st0 t).m1 (ix2 r 0) = (μ : EReal) ∧ ∀ e : Fin 256, e.val < 129 →
      (stO i q1 q2 k1 k2 v st0 t).a1 (ix2 r e) = ((wsum (512 * t) (vis (i 2).val r.val) (s r.val) μ (w e.val) : ℝ) : EReal)
  | 0, _ => by
    obtain ⟨μ, h⟩ := start_real
    refine ⟨μ, (pay35_at r).trans h, fun e he => ?_⟩
    rw [wsum_zero]; exact pay34_at r e
  | t + 1, ht => by
    have hlt : t < (k0_t3_loop i).trips := lt_of_lt_of_eq ht (trips3 i).symm
    have hi := i2_lt i
    obtain ⟨μ, hm, ha⟩ := stO1_at i hs hv r t (Nat.le_of_succ_le ht)
    have hS := sc_full (inb := k0_off10_inb i ⟨t, hlt⟩) hs t _ (k0_off10_eq i ⟨t, hlt⟩) ht hi r
    obtain ⟨μ', hM⟩ := max_real hS μ
    rw [← hm] at hM
    rw [stO, dif_pos hlt]
    refine ⟨μ', (pay25_at _ _ _ r).trans hM, fun e he => ?_⟩
    refine (pay24_at _ _ _ _ _ r e).trans ?_
    exact step_online hS (vl512 hv t (k0_off9_eq i ⟨t, hlt⟩) (by omega) e he) hm hM (ha e he)

/-- Online form, stream 1: the accumulator at the end. -/
theorem accO1 (i : grid0.Coords) (hs : Sc q1 k1 s) (hv : Vl v w) (hb : Bi x2) (r : Fin 512) :
    ∃ μ : ℝ, ∀ e : Fin 256, e.val < 129 → hiO1 i x2 q1 q2 k1 k2 v (ix2 r e) = ((wsum 4096 (vis (i 2).val r.val) (s r.val) μ (w e.val) : ℝ) : EReal) := by
  have hi := i2_lt i
  obtain ⟨μ, hm, ha⟩ := stO1_at (q1 := q1) (q2 := q2) (k1 := k1) (k2 := k2) i hs hv r _ le_rfl
  by_cases hr : r.val < 256
  · obtain ⟨r', rfl⟩ : ∃ r' : Fin 256, r = ⟨r'.val, Nat.lt_of_lt_of_le r'.isLt (by decide)⟩ := ⟨⟨r.val, hr⟩, rfl⟩
    have hS := sc_lo (inb := k0_off14_inb i) (inb2 := inb_S512x512_S256x256_0_0) hs hb _ (k0_off14_eq i) hi r'
    obtain ⟨μ', hM⟩ := max_real hS μ
    refine ⟨μ', fun e he => ?_⟩
    rw [hiO1, put1_out _ _ _ _ hr, loO1, put0_lo, trips3]
    refine (pay49_at _ _ _ _ _ _ r' e).trans ?_
    rw [win_m0, win_a0]
    rw [← hm] at hM
    exact (step_online hS (vl256 hv _ (k0_off13_eq i) hi e he) hm hM (ha e he)).trans
      (congrArg _ (wsum_ext (p := vis (i 2).val r'.val) (by omega) (fun j hj _ => by unfold vis; omega) _))
  · obtain ⟨r', rfl⟩ : ∃ r' : Fin 256, r = ⟨256 + r'.val, Nat.add_lt_add_left r'.isLt 256⟩ := ⟨⟨r.val - 256, by omega⟩, Fin.ext (by simp; omega)⟩
    have hS := sc_hi (inb := k0_off16_inb i) (inb2 := inb_S512x512_S256x512_256_0) hs hb _ (k0_off16_eq i) hi r'
    obtain ⟨μ', hM⟩ := max_real hS μ
    refine ⟨μ', fun e he => ?_⟩
    rw [hiO1, put1_hi]
    refine (pay60_at _ _ _ _ _ _ r' e).trans ?_
    rw [win_m1, win_a1, loM1, loO1, put0_out _ _ _ _ hr, put0m_out _ _ _ hr, trips3]
    rw [← hm] at hM
    exact (step_online hS (vl512 hv _ (k0_off15_eq i) hi e he) hm hM (ha e he)).trans
      (congrArg _ (wsum_ext (p := vis (i 2).val (256 + r'.val)) (by omega) (fun j hj _ => by unfold vis; omega) _))

/-- Online form, stream 2: the running maximum is a real number, and the accumulator is taken with it subtracted. -/
theorem stO2_at (i : grid0.Coords) (hs : Sc q2 k2 s) (hv : Vl v w) (r : Fin 512) : ∀ t, t ≤ (i 2).val →
    ∃ μ : ℝ, (stO i q1 q2 k1 k2 v st0 t).m2 (ix2 r 0) = (μ : EReal) ∧ ∀ e : Fin 256, e.val < 129 →
      (stO i q1 q2 k1 k2 v st0 t).a2 (ix2 r e) = ((wsum (512 * t) (vis (i 2).val r.val) (s r.val) μ (w e.val) : ℝ) : EReal)
  | 0, _ => by
    obtain ⟨μ, h⟩ := start_real
    refine ⟨μ, (pay37_at r).trans h, fun e he => ?_⟩
    rw [wsum_zero]; exact pay36_at r e
  | t + 1, ht => by
    have hlt : t < (k0_t3_loop i).trips := lt_of_lt_of_eq ht (trips3 i).symm
    have hi := i2_lt i
    obtain ⟨μ, hm, ha⟩ := stO2_at i hs hv r t (Nat.le_of_succ_le ht)
    have hS := sc_full (inb := k0_off10_inb i ⟨t, hlt⟩) hs t _ (k0_off10_eq i ⟨t, hlt⟩) ht hi r
    obtain ⟨μ', hM⟩ := max_real hS μ
    rw [← hm] at hM
    rw [stO, dif_pos hlt]
    refine ⟨μ', (pay40_at _ _ _ r).trans hM, fun e he => ?_⟩
    refine (pay39_at _ _ _ _ _ r e).trans ?_
    exact step_online hS (vl512 hv t (k0_off9_eq i ⟨t, hlt⟩) (by omega) e he) hm hM (ha e he)

/-- Online form, stream 2: the accumulator at the end. -/
theorem accO2 (i : grid0.Coords) (hs : Sc q2 k2 s) (hv : Vl v w) (hb : Bi x2) (r : Fin 512) :
    ∃ μ : ℝ, ∀ e : Fin 256, e.val < 129 → hiO2 i x2 q1 q2 k1 k2 v (ix2 r e) = ((wsum 4096 (vis (i 2).val r.val) (s r.val) μ (w e.val) : ℝ) : EReal) := by
  have hi := i2_lt i
  obtain ⟨μ, hm, ha⟩ := stO2_at (q1 := q1) (q2 := q2) (k1 := k1) (k2 := k2) i hs hv r _ le_rfl
  by_cases hr : r.val < 256
  · obtain ⟨r', rfl⟩ : ∃ r' : Fin 256, r = ⟨r'.val, Nat.lt_of_lt_of_le r'.isLt (by decide)⟩ := ⟨⟨r.val, hr⟩, rfl⟩
    have hS := sc_lo (inb := k0_off14_inb i) (inb2 := inb_S512x512_S256x256_0_0) hs hb _ (k0_off14_eq i) hi r'
    obtain ⟨μ', hM⟩ := max_real hS μ
    refine ⟨μ', fun e he => ?_⟩
    rw [hiO2, put1_out _ _ _ _ hr, loO2, put0_lo, trips3]
    refine (pay52_at _ _ _ _ _ _ r' e).trans ?_
    rw [win_m0, win_a0]
    rw [← hm] at hM
    exact (step_online hS (vl256 hv _ (k0_off13_eq i) hi e he) hm hM (ha e he)).trans
      (congrArg _ (wsum_ext (p := vis (i 2).val r'.val) (by omega) (fun j hj _ => by unfold vis; omega) _))
  · obtain ⟨r', rfl⟩ : ∃ r' : Fin 256, r = ⟨256 + r'.val, Nat.add_lt_add_left r'.isLt 256⟩ := ⟨⟨r.val - 256, by omega⟩, Fin.ext (by simp; omega)⟩
    have hS := sc_hi (inb := k0_off16_inb i) (inb2 := inb_S512x512_S256x512_256_0) hs hb _ (k0_off16_eq i) hi r'
    obtain ⟨μ', hM⟩ := max_real hS μ
    refine ⟨μ', fun e he => ?_⟩
    rw [hiO2, put1_hi]
    refine (pay67_at _ _ _ _ _ _ r' e).trans ?_
    rw [win_m1, win_a1, loM2, loO2, put0_out _ _ _ _ hr, put0m_out _ _ _ hr, trips3]
    rw [← hm] at hM
    exact (step_online hS (vl512 hv _ (k0_off15_eq i) hi e he) hm hM (ha e he)).trans
      (congrArg _ (wsum_ext (p := vis (i 2).val (256 + r'.val)) (by omega) (fun j hj _ => by unfold vis; omega) _))

end Cert.KernelIdeal.Val
end
-- ==== Proof.Whole.lean ====
/- A load of a whole buffer reads what the buffer holds. -/
module

public import Idealize.ShloMosaic.Lib.VecWindow

@[expose] public section

namespace Cert

open Idealize.ShloMosaic

/-- A load of a whole buffer holding `x` reads `x`. -/
theorem ld_full {F : FTy → Type} {sig : RefSig} {κ : Kind} {sp : Space} {s : Shape} {e : EltTy} {m : Memref sig κ sp s e} (h : m.IsWhole) (x : s.Idx → Elt F e) (off : Fin s.rank → ℕ)
    (inb : ∀ a, off a + s.size a ≤ s.size a) :
    m.view.readAt (Elt F) (Rect.unit off s.size inb).toLoadRect (h.unread x) = x :=
  (View.readAt_full m.view _ inb).trans (h.read_unread x)

end Cert

end
-- ==== Proof.KPoints.lean ====
/- The schedule of the idealized kernel's call on its grid: at which points the pipeline fetches each
   window and at which it writes it back, taken over from the text the frame-only certificate of the same program
   generates. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg6)) is fetched at the first point only, at any contents of the tables (its index map reads none). -/
theorem fetch0_0 (a : (pcfg0 (F := F)).Adm) : ∀ t : Fin (cfg0 a).N, ((cfg0 a).win 0).fetch t = true ↔ t.val % 256 = 0 :=
  (fun t => Pipeline.Window.fetchOf_const cc0_transform_0 (fun _ _ => rfl) (n := 256) (by decide) t : ∀ t : Fin grid0.N, Pipeline.Window.fetchOf grid0 false cc0_transform_0 t = true ↔ t.val % 256 = 0)
/-- Window 1 (operand 2 (%11)) is fetched at the first point only, at any contents of the tables (its index map reads none). -/
theorem fetch0_1 (a : (pcfg0 (F := F)).Adm) : ∀ t : Fin (cfg0 a).N, ((cfg0 a).win 1).fetch t = true ↔ t.val % 256 = 0 :=
  (fun t => Pipeline.Window.fetchOf_const cc0_transform_1 (fun _ _ => rfl) (n := 256) (by decide) t : ∀ t : Fin grid0.N, Pipeline.Window.fetchOf grid0 false cc0_transform_1 t = true ↔ t.val % 256 = 0)
/-- Window 2 (operand 3 (%10)) is fetched at the first point only, at any contents of the tables (its index map reads none). -/
theorem fetch0_2 (a : (pcfg0 (F := F)).Adm) : ∀ t : Fin (cfg0 a).N, ((cfg0 a).win 2).fetch t = true ↔ t.val % 256 = 0 :=
  (fun t => Pipeline.Window.fetchOf_const cc0_transform_2 (fun _ _ => rfl) (n := 256) (by decide) t : ∀ t : Fin grid0.N, Pipeline.Window.fetchOf grid0 false cc0_transform_2 t = true ↔ t.val % 256 = 0)
/-- Window 3 (operand 4 (%arg1)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 2 (by decide) (by decide) (Pipeline.Window.sep_of_coord cc0_transform_3 2 2 (fun _ => rfl) (by decide)) (P := 1) (by decide) t).mpr (Nat.mod_one _) : ∀ t : Fin grid0.N, Pipeline.Window.fetchOf grid0 false cc0_transform_3 t = true)
/-- Window 4 (operand 5 (%arg2)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 2 (by decide) (by decide) (Pipeline.Window.sep_of_coord cc0_transform_4 2 2 (fun _ => rfl) (by decide)) (P := 1) (by decide) t).mpr (Nat.mod_one _) : ∀ t : Fin grid0.N, Pipeline.Window.fetchOf grid0 false cc0_transform_4 t = true)
/-- Window 5 (operand 6 (%arg3)) is fetched at the points ≡ 0 (mod 8), at any contents of the tables (its index map reads none). -/
theorem fetch0_5 (a : (pcfg0 (F := F)).Adm) : ∀ t : Fin (cfg0 a).N, ((cfg0 a).win 5).fetch t = true ↔ t.val % 8 = 0 :=
  (fun t => Pipeline.Window.fetchOf_reads cc0_transform_5 reads0_5 hreads0_5 1 (by decide) (by decide) (Pipeline.Window.sep_of_coord cc0_transform_5 1 1 (fun _ => rfl) (by decide)) (P := 8) (by decide) t : ∀ t : Fin grid0.N, Pipeline.Window.fetchOf grid0 false cc0_transform_5 t = true ↔ t.val % 8 = 0)
/-- Window 6 (operand 7 (%arg4)) is fetched at the points ≡ 0 (mod 8), at any contents of the tables (its index map reads none). -/
theorem fetch0_6 (a : (pcfg0 (F := F)).Adm) : ∀ t : Fin (cfg0 a).N, ((cfg0 a).win 6).fetch t = true ↔ t.val % 8 = 0 :=
  (fun t => Pipeline.Window.fetchOf_reads cc0_transform_6 reads0_6 hreads0_6 1 (by decide) (by decide) (Pipeline.Window.sep_of_coord cc0_transform_6 1 1 (fun _ => rfl) (by decide)) (P := 8) (by decide) t : ∀ t : Fin grid0.N, Pipeline.Window.fetchOf grid0 false cc0_transform_6 t = true ↔ t.val % 8 = 0)
/-- Window 7 (operand 8 (%arg5)) is fetched at the points ≡ 0 (mod 8), at any contents of the tables (its index map reads none). -/
theorem fetch0_7 (a : (pcfg0 (F := F)).Adm) : ∀ t : Fin (cfg0 a).N, ((cfg0 a).win 7).fetch t = true ↔ t.val % 8 = 0 :=
  (fun t => Pipeline.Window.fetchOf_reads cc0_transform_7 reads0_7 hreads0_7 1 (by decide) (by decide) (Pipeline.Window.sep_of_coord cc0_transform_7 1 1 (fun _ => rfl) (by decide)) (P := 8) (by decide) t : ∀ t : Fin grid0.N, Pipeline.Window.fetchOf grid0 false cc0_transform_7 t = true ↔ t.val % 8 = 0)
/-- Window 8 (result 0 (%12)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 2 (by decide) (by decide) (Pipeline.Window.sep_of_coord cc0_transform_8 2 1 (fun _ => rfl) (by decide)) (P := 1) (m := 0) (by decide) rfl t).mpr (Nat.mod_one _) : ∀ t : Fin grid0.N, Pipeline.Window.flushOf grid0 true cc0_transform_8 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__diff_attn_kernel (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.KernelIdeal.Gen

end
-- ==== Proof.KRuns.lean ====
/- What the runs of the idealized kernel's body share: the buffers' contents before the call, the windows'
   blocks, the branch conditions, the staging and scratch memrefs; taken over from the text the frame-only
   certificate of the same program generates. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.KPoints
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S1 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      (Pipeline.RDat.FramePost.arr_in h c 3 rfl).trans ((hA c 3).trans (V_main_arg1 m c)),
      (Pipeline.RDat.FramePost.arr_in h c 4 rfl).trans ((hA c 4).trans (V_main_arg2 m c)),
      (Pipeline.RDat.FramePost.arr_in h c 5 rfl).trans ((hA c 5).trans (V_main_arg3 m c)),
      (Pipeline.RDat.FramePost.arr_in h c 6 rfl).trans ((hA c 6).trans (V_main_arg4 m c)),
      (Pipeline.RDat.FramePost.arr_in h c 7 rfl).trans ((hA c 7).trans (V_main_arg5 m c)),
      (Pipeline.RDat.FramePost.arr_in h c 0 rfl).trans ((hA c 0).trans (V_main_arg6 m c)),
      ((h c).2 main_arg7 (by decide : main_arg7 ∈ Pipeline.restRefs sig spec0)).trans (V_main_arg7 m c)⟩) h

/-! ## The body's branch conditions -/

/-- The condition of the body's `scf.if` 0: over WORDS the body reads from its tables or input SMEM windows
    (`v1`), so no function of the point — a case variable: a hypothesis of each run, a `by_cases`
    of the obligation and an `if` of `outsAt`, stated over the argument blocks' words there. -/
abbrev cond0_0 (i : grid0.Coords) (v1 : BitVec 32) : Prop := (Scalar.cmpi .ne (Scalar.extui (Scalar.cmpi .eq v1 1#32)) 0#32) = 1#1

/-- The condition of the body's `scf.if` 1: over WORDS the body reads from its tables or input SMEM windows
    (`v5`), so no function of the point — a case variable: a hypothesis of each run, a `by_cases`
    of the obligation and an `if` of `outsAt`, stated over the argument blocks' words there. -/
abbrev cond0_1 (i : grid0.Coords) (v5 : BitVec 32) : Prop := (Scalar.cmpi .ne (Scalar.extui (Scalar.cmpi .ne v5 1#32)) 0#32) = 1#1

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S4x64 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S512x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x512x128 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x512x128 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x4096x128 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x4096x128 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x4096x256 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x512x128 .bf16 := spec0_8.stage ((cfgM m hO).slots t 8)
abbrev hs0_8 (hO : Ok m) (t : Fin (cfgM m hO).N) : (ms0_8 m hO t).IsWhole := hstage0_8 (((cfgM m hO).slots t 8).cast nbuf0_8)
/-- The scratch operands: whole scoped buffers of the kernel's own, passed beside the windows. -/
abbrev scM0_0 : Memref sig .tc .vmem S512x1 .f32 := Memref.whole cc0_scratch0
abbrev scM0_1 : Memref sig .tc .vmem S512x256 .f32 := Memref.whole cc0_scratch1
abbrev scM0_2 : Memref sig .tc .vmem S512x1 .f32 := Memref.whole cc0_scratch2
abbrev scM0_3 : Memref sig .tc .vmem S512x256 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.KRunP.lean ====
/- The run of the kernel's body where the flag selects the plain softmax form, with the block it stores named. -/
module

public import proofs.«01_k».proof.Proof.KRuns
public import proofs.«01_k».proof.Proof.KState

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4000000 in
/-- The body in the plain form: from the windows' blocks it stores a block that is a function of them. -/
@[irreducible] def runP (c : Dev nD) (i : grid0.Coords) (arg4 : Memref sig .tc .vmem S4x64 .f32) (harg4 : arg4.IsWhole) (arg5 : Memref sig .tc .vmem S1x128 .f32) (harg5 : arg5.IsWhole) (arg6 : Memref sig .tc .vmem S512x512 .f32) (harg6 : arg6.IsWhole) (arg7 : Memref sig .tc .vmem S1x1x512x128 .bf16) (harg7 : arg7.IsWhole) (arg8 : Memref sig .tc .vmem S1x1x512x128 .bf16) (harg8 : arg8.IsWhole) (arg9 : Memref sig .tc .vmem S1x1x4096x128 .bf16) (harg9 : arg9.IsWhole) (arg10 : Memref sig .tc .vmem S1x1x4096x128 .bf16) (harg10 : arg10.IsWhole) (arg11 : Memref sig .tc .vmem S1x1x4096x256 .bf16) (harg11 : arg11.IsWhole) (arg12 : Memref sig .tc .vmem S1x512x128 .bf16) (harg12 : arg12.IsWhole) (arg13 : Memref sig .tc .vmem S512x1 .f32) (harg13 : arg13.IsWhole) (arg14 : Memref sig .tc .vmem S512x256 .f32) (harg14 : arg14.IsWhole) (arg15 : Memref sig .tc .vmem S512x1 .f32) (harg15 : arg15.IsWhole) (arg16 : Memref sig .tc .vmem S512x256 .f32) (harg16 : arg16.IsWhole)
    (x0 : Vec F S4x64 .f32) (x1 : Vec F S1x128 .f32) (x2 : Vec F S512x512 .f32) (x3 : Vec F S1x1x512x128 .bf16) (x4 : Vec F S1x1x512x128 .bf16) (x5 : Vec F S1x1x4096x128 .bf16) (x6 : Vec F S1x1x4096x128 .bf16) (x7 : Vec F S1x1x4096x256 .bf16) (xt0 : TbBuf0 (F := F) c tbM0_0) (hc0 : cond0_0 i (tbM0_0.view.readAt (Elt F) (Rect.unit (s := S1) ![0] S1.size inb_S1_S1_0).toLoadRect xt0 (Shape.Idx.first (numel1_S1.symm ▸ Nat.one_pos)))) (hc1 : ¬cond0_1 i (tbM0_0.view.readAt (Elt F) (Rect.unit (s := S1) ![0] S1.size inb_S1_S1_0).toLoadRect xt0 (Shape.Idx.first (numel1_S1.symm ▸ Nat.one_pos)))) :
      { OUT : Vec F S1x512x128 .bf16 // ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare OUT ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
          ⊢ wp frame (wpE (defs₀ (F := F)) Variants.none c none) E (cc0__diff_attn_kernel i tbM0_0 htbM0_0 arg4 harg4 arg5 harg5 arg6 harg6 arg7 harg7 arg8 harg8 arg9 harg9 arg10 harg10 arg11 harg11 arg12 harg12 arg13 harg13 arg14 harg14 arg15 harg15 arg16 harg16) K } := by
    refine ⟨?_, fun E K => ?run⟩
    case run =>
      simp only [cc0__diff_attn_kernel_eq_skeleton]; unfold cc0__diff_attn_kernel_skel
      simp only [k0_part9_eq_skeleton, k0_part1_eq_skeleton, k0_part2_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, HT0, Hk⟩
      obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
      sl_exec (disch := first | sl_exact hc0 | sl_exact hc1)
      sl_step
      iapply Hk
      isplitl [H0]
      · iexists _; isplitr; · ipureintro; exact harg4.read_unread _
        iexact H0
      isplitl [H1]
      · iexists _; isplitr; · ipureintro; exact harg5.read_unread _
        iexact H1
      isplitl [H2]
      · iexists _; isplitr; · ipureintro; exact harg6.read_unread _
        iexact H2
      isplitl [H3]
      · iexists _; isplitr; · ipureintro; exact harg7.read_unread _
        iexact H3
      isplitl [H4]
      · iexists _; isplitr; · ipureintro; exact harg8.read_unread _
        iexact H4
      isplitl [H5]
      · iexists _; isplitr; · ipureintro; exact harg9.read_unread _
        iexact H5
      isplitl [H6]
      · iexists _; isplitr; · ipureintro; exact harg10.read_unread _
        iexact H6
      isplitl [H7]
      · iexists _; isplitr; · ipureintro; exact harg11.read_unread _
        iexact H7
      isplitl [H8]
      · iexists _; isplitr; swap; · iexact H8
        ipureintro; exact View.read_writes_full arg12.view f8 _ _ _
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      iexact HT0

end Cert.KernelIdeal.Gen

end
-- ==== Proof.KRunO.lean ====
/- The run of the kernel's body where the flag selects the online softmax form, with the block it stores named. -/
module

public import proofs.«01_k».proof.Proof.KRuns
public import proofs.«01_k».proof.Proof.KState

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4000000 in
/-- The body in the online form: from the windows' blocks it stores a block that is a function of them. -/
@[irreducible] def runO (c : Dev nD) (i : grid0.Coords) (arg4 : Memref sig .tc .vmem S4x64 .f32) (harg4 : arg4.IsWhole) (arg5 : Memref sig .tc .vmem S1x128 .f32) (harg5 : arg5.IsWhole) (arg6 : Memref sig .tc .vmem S512x512 .f32) (harg6 : arg6.IsWhole) (arg7 : Memref sig .tc .vmem S1x1x512x128 .bf16) (harg7 : arg7.IsWhole) (arg8 : Memref sig .tc .vmem S1x1x512x128 .bf16) (harg8 : arg8.IsWhole) (arg9 : Memref sig .tc .vmem S1x1x4096x128 .bf16) (harg9 : arg9.IsWhole) (arg10 : Memref sig .tc .vmem S1x1x4096x128 .bf16) (harg10 : arg10.IsWhole) (arg11 : Memref sig .tc .vmem S1x1x4096x256 .bf16) (harg11 : arg11.IsWhole) (arg12 : Memref sig .tc .vmem S1x512x128 .bf16) (harg12 : arg12.IsWhole) (arg13 : Memref sig .tc .vmem S512x1 .f32) (harg13 : arg13.IsWhole) (arg14 : Memref sig .tc .vmem S512x256 .f32) (harg14 : arg14.IsWhole) (arg15 : Memref sig .tc .vmem S512x1 .f32) (harg15 : arg15.IsWhole) (arg16 : Memref sig .tc .vmem S512x256 .f32) (harg16 : arg16.IsWhole)
    (x0 : Vec F S4x64 .f32) (x1 : Vec F S1x128 .f32) (x2 : Vec F S512x512 .f32) (x3 : Vec F S1x1x512x128 .bf16) (x4 : Vec F S1x1x512x128 .bf16) (x5 : Vec F S1x1x4096x128 .bf16) (x6 : Vec F S1x1x4096x128 .bf16) (x7 : Vec F S1x1x4096x256 .bf16) (xt0 : TbBuf0 (F := F) c tbM0_0) (hc0 : ¬cond0_0 i (tbM0_0.view.readAt (Elt F) (Rect.unit (s := S1) ![0] S1.size inb_S1_S1_0).toLoadRect xt0 (Shape.Idx.first (numel1_S1.symm ▸ Nat.one_pos)))) (hc1 : cond0_1 i (tbM0_0.view.readAt (Elt F) (Rect.unit (s := S1) ![0] S1.size inb_S1_S1_0).toLoadRect xt0 (Shape.Idx.first (numel1_S1.symm ▸ Nat.one_pos)))) :
      { OUT : Vec F S1x512x128 .bf16 // ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare OUT ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
          ⊢ wp frame (wpE (defs₀ (F := F)) Variants.none c none) E (cc0__diff_attn_kernel i tbM0_0 htbM0_0 arg4 harg4 arg5 harg5 arg6 harg6 arg7 harg7 arg8 harg8 arg9 harg9 arg10 harg10 arg11 harg11 arg12 harg12 arg13 harg13 arg14 harg14 arg15 harg15 arg16 harg16) K } := by
    refine ⟨?_, fun E K => ?run⟩
    case run =>
      simp only [cc0__diff_attn_kernel_eq_skeleton]; unfold cc0__diff_attn_kernel_skel
      simp only [k0_part9_eq_skeleton, k0_part5_eq_skeleton, k0_part6_eq_skeleton, k0_part7_eq_skeleton, k0_part8_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, HT0, Hk⟩
      obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
      sl_exec (disch := first | sl_exact hc0 | sl_exact hc1)
      sl_step
      iapply Hk
      isplitl [H0]
      · iexists _; isplitr; · ipureintro; exact harg4.read_unread _
        iexact H0
      isplitl [H1]
      · iexists _; isplitr; · ipureintro; exact harg5.read_unread _
        iexact H1
      isplitl [H2]
      · iexists _; isplitr; · ipureintro; exact harg6.read_unread _
        iexact H2
      isplitl [H3]
      · iexists _; isplitr; · ipureintro; exact harg7.read_unread _
        iexact H3
      isplitl [H4]
      · iexists _; isplitr; · ipureintro; exact harg8.read_unread _
        iexact H4
      isplitl [H5]
      · iexists _; isplitr; · ipureintro; exact harg9.read_unread _
        iexact H5
      isplitl [H6]
      · iexists _; isplitr; · ipureintro; exact harg10.read_unread _
        iexact H6
      isplitl [H7]
      · iexists _; isplitr; · ipureintro; exact harg11.read_unread _
        iexact H7
      isplitl [H8]
      · iexists _; isplitr; swap; · iexact H8
        ipureintro; exact View.read_writes_full arg12.view f8 _ _ _
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      iexact HT0

end Cert.KernelIdeal.Gen

end
-- ==== Proof.KVal.lean ====
/- The blocks the two runs store are the pure values of `KState`: each name the executor gave is read back into them. -/
module

public import proofs.«01_k».proof.Proof.Whole
public import proofs.«01_k».proof.Proof.KRunP
public import proofs.«01_k».proof.Proof.KRunO
public import proofs.«01_k».proof.Proof.KTrips

@[expose] public section

set_option maxRecDepth 16384

noncomputable section

namespace Cert.KernelIdeal.Val

open Idealize.ShloMosaic Idealize.ShloMosaic.TcCoe Idealize.SL.Sem
open Cert.KernelIdeal Cert.KernelIdeal.Gen

variable {F : FTy → Type} [FloatOps F]
variable (c : Dev nD) (i : grid0.Coords) (arg4 : Memref sig .tc .vmem S4x64 .f32) (harg4 : arg4.IsWhole) (arg5 : Memref sig .tc .vmem S1x128 .f32) (harg5 : arg5.IsWhole) (arg6 : Memref sig .tc .vmem S512x512 .f32) (harg6 : arg6.IsWhole) (arg7 : Memref sig .tc .vmem S1x1x512x128 .bf16) (harg7 : arg7.IsWhole) (arg8 : Memref sig .tc .vmem S1x1x512x128 .bf16) (harg8 : arg8.IsWhole) (arg9 : Memref sig .tc .vmem S1x1x4096x128 .bf16) (harg9 : arg9.IsWhole) (arg10 : Memref sig .tc .vmem S1x1x4096x128 .bf16) (harg10 : arg10.IsWhole) (arg11 : Memref sig .tc .vmem S1x1x4096x256 .bf16) (harg11 : arg11.IsWhole) (arg12 : Memref sig .tc .vmem S1x512x128 .bf16) (harg12 : arg12.IsWhole) (arg13 : Memref sig .tc .vmem S512x1 .f32) (harg13 : arg13.IsWhole) (arg14 : Memref sig .tc .vmem S512x256 .f32) (harg14 : arg14.IsWhole) (arg15 : Memref sig .tc .vmem S512x1 .f32) (harg15 : arg15.IsWhole) (arg16 : Memref sig .tc .vmem S512x256 .f32) (harg16 : arg16.IsWhole)
  (x0 : Vec F S4x64 .f32) (x1 : Vec F S1x128 .f32) (x2 : Vec F S512x512 .f32) (x3 : Vec F S1x1x512x128 .bf16) (x4 : Vec F S1x1x512x128 .bf16) (x5 : Vec F S1x1x4096x128 .bf16) (x6 : Vec F S1x1x4096x128 .bf16) (x7 : Vec F S1x1x4096x256 .bf16)

/-- A load at a rectangle of a whole buffer holding `x` reads the window of `x`. -/
theorem ld_unread {sp : Space} {s : Shape} {e : EltTy} {m : Memref sig .tc sp s e} (h : m.IsWhole) (x : s.Idx → Elt F e) (off size : Fin s.rank → ℕ)
    (inb : ∀ a, off a + size a ≤ s.size a) :
    m.view.readAt (Elt F) (Rect.unit off size inb).toLoadRect (h.unread x) = VecWindow.window x off size inb :=
  congrArg (fun z => VecWindow.window z off size inb) (h.read_unread x)

/-- A load of the whole query block. -/
theorem ld_q (x : Vec F S1x1x512x128 .bf16) (inb) :
    VecWindow.window x ![0, 0, 0, 0] ![1, 1, 512, 128] inb = x :=
  funext fun y => congrArg x (Rect.emb_unit_full (s := S1x1x512x128) inb y)

/-- The plain recursion from the loaded blocks is the recursion from the blocks. -/
theorem stP_raw : stP i (arg7.view.readAt (Elt F) (Rect.unit (s := S1x1x512x128) ![0, 0, 0, 0] S1x1x512x128.size inb_S1x1x512x128_S1x1x512x128_0_0_0_0).toLoadRect (harg7.unread x3)) (arg8.view.readAt (Elt F) (Rect.unit (s := S1x1x512x128) ![0, 0, 0, 0] S1x1x512x128.size inb_S1x1x512x128_S1x1x512x128_0_0_0_0).toLoadRect (harg8.unread x4)) (arg9.view.read (Elt F) (harg9.unread x5)) (arg10.view.read (Elt F) (harg10.unread x6)) (arg11.view.read (Elt F) (harg11.unread x7)) (arg14.view.read (Elt F) (arg14.view.writes (Elt F) arg14.view.junk runP.sl.HS1_1)) (arg16.view.read (Elt F) (arg16.view.writes (Elt F) arg16.view.junk runP.sl.HS3_1)) (Scf.trips (k0_t1_loop i).lb (k0_t1_loop i).ub (k0_t1_loop i).st)
    = (stP i x3 x4 x5 x6 x7 k0_pay4 k0_pay5 (Scf.trips (k0_t1_loop i).lb (k0_t1_loop i).ub (k0_t1_loop i).st)) := by
  have e1 : (arg14.view.read (Elt F) (arg14.view.writes (Elt F) arg14.view.junk runP.sl.HS1_1)) = (k0_pay4 : Vec F S512x256 .f32) := View.read_writes_full arg14.view _ _ _ _
  have e2 : (arg16.view.read (Elt F) (arg16.view.writes (Elt F) arg16.view.junk runP.sl.HS3_1)) = (k0_pay5 : Vec F S512x256 .f32) := View.read_writes_full arg16.view _ _ _ _
  rw [ld_full, ld_full, harg9.read_unread, harg10.read_unread, harg11.read_unread, e1, e2]

/-- The executor's `v96`. -/
theorem v96P : runP.sl.v96 c i arg4 harg4 arg5 harg5 arg6 harg6 arg7 harg7 arg8 harg8 arg9 harg9 arg10 harg10 arg11 harg11 arg12 harg12 arg13 harg13 arg14 harg14 arg15 harg15 arg16 harg16 x3 x4 x5 x6 x7
    = VecWindow.window (stP i x3 x4 x5 x6 x7 k0_pay4 k0_pay5 (Scf.trips (k0_t1_loop i).lb (k0_t1_loop i).ub (k0_t1_loop i).st)).1 ![0, 0] S256x256.size inb_S512x256_S256x256_0_0 := by
  exact congrArg (fun a : Vec F S512x256 .f32 => VecWindow.window a ![0, 0] S256x256.size inb_S512x256_S256x256_0_0) ((loopP_1 (F := F) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (runP.sl.v0 i) (arg7.view.readAt (Elt F) (Rect.unit (s := S1x1x512x128) ![0, 0, 0, 0] S1x1x512x128.size inb_S1x1x512x128_S1x1x512x128_0_0_0_0).toLoadRect (harg7.unread x3)) (arg8.view.readAt (Elt F) (Rect.unit (s := S1x1x512x128) ![0, 0, 0, 0] S1x1x512x128.size inb_S1x1x512x128_S1x1x512x128_0_0_0_0).toLoadRect (harg8.unread x4)) (harg9.unread x5) (harg10.unread x6) (harg11.unread x7) _ _ runP.sl.HS1_1 runP.sl.HS3_1).trans (congrArg Prod.fst (stP_raw (i := i) (harg7 := harg7) (harg8 := harg8) (harg9 := harg9) (harg10 := harg10) (harg11 := harg11) ..)))

/-- The executor's `v104`. -/
theorem v104P : runP.sl.v104 c i arg4 harg4 arg5 harg5 arg6 harg6 arg7 harg7 arg8 harg8 arg9 harg9 arg10 harg10 arg11 harg11 arg12 harg12 arg13 harg13 arg14 harg14 arg15 harg15 arg16 harg16 x3 x4 x5 x6 x7
    = VecWindow.window (stP i x3 x4 x5 x6 x7 k0_pay4 k0_pay5 (Scf.trips (k0_t1_loop i).lb (k0_t1_loop i).ub (k0_t1_loop i).st)).2 ![0, 0] S256x256.size inb_S512x256_S256x256_0_0 := by
  exact congrArg (fun a : Vec F S512x256 .f32 => VecWindow.window a ![0, 0] S256x256.size inb_S512x256_S256x256_0_0) ((loopP_2 (F := F) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (runP.sl.v0 i) (arg7.view.readAt (Elt F) (Rect.unit (s := S1x1x512x128) ![0, 0, 0, 0] S1x1x512x128.size inb_S1x1x512x128_S1x1x512x128_0_0_0_0).toLoadRect (harg7.unread x3)) (arg8.view.readAt (Elt F) (Rect.unit (s := S1x1x512x128) ![0, 0, 0, 0] S1x1x512x128.size inb_S1x1x512x128_S1x1x512x128_0_0_0_0).toLoadRect (harg8.unread x4)) (harg9.unread x5) (harg10.unread x6) (harg11.unread x7) _ _ runP.sl.HS1_1 runP.sl.HS3_1).trans (congrArg Prod.snd (stP_raw (i := i) (harg7 := harg7) (harg8 := harg8) (harg9 := harg9) (harg10 := harg10) (harg11 := harg11) ..)))

/-- The loaded, converted second query block. -/
theorem r_2_p : runP.sl.r_2 c arg8 harg8 x4
    = k0_pay3 x4 := by
  exact congrArg k0_pay3 (ld_full (F := F) harg8 x4 _ inb_S1x1x512x128_S1x1x512x128_0_0_0_0)

/-- The loaded, converted first query block. -/
theorem r_1_p : runP.sl.r_1 c arg7 harg7 x3
    = k0_pay2 x3 := by
  exact congrArg k0_pay2 (ld_full (F := F) harg7 x3 _ inb_S1x1x512x128_S1x1x512x128_0_0_0_0)

/-- Its upper half. -/
theorem r_5_p : runP.sl.r_5 c arg7 harg7 x3
    = k0_pay14 x3 := by
  exact congrArg k0_pay14 (ld_full (F := F) harg7 x3 _ inb_S1x1x512x128_S1x1x512x128_0_0_0_0)

/-- Its lower half. -/
theorem r_8_p : runP.sl.r_8 c arg7 harg7 x3
    = k0_pay19 (k0_pay2 x3) := by
  exact congrArg k0_pay19 (r_1_p c arg7 harg7 x3)

/-- After the upper half, first accumulator. -/
theorem loP1_eq : (arg14.view.read (Elt F) (arg14.view.writes (Elt F) arg14.view.junk (runP.sl.HS1_1_1 c i arg4 harg4 arg5 harg5 arg6 harg6 arg7 harg7 arg8 harg8 arg9 harg9 arg10 harg10 arg11 harg11 arg12 harg12 arg13 harg13 arg14 harg14 arg15 harg15 arg16 harg16 x2 x3 x4 x5 x6 x7)))
    = loP1 i x2 x3 x4 x5 x6 x7 := by
  unfold runP.sl.HS1_1_1
  refine (View.read_writes_cons_put arg14.view _ _ _ _ rfl).trans ?_
  refine (congrArg (fun a => VecWindow.put a _ _ _) ((loopP_1 (F := F) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (runP.sl.v0 i) (arg7.view.readAt (Elt F) (Rect.unit (s := S1x1x512x128) ![0, 0, 0, 0] S1x1x512x128.size inb_S1x1x512x128_S1x1x512x128_0_0_0_0).toLoadRect (harg7.unread x3)) (arg8.view.readAt (Elt F) (Rect.unit (s := S1x1x512x128) ![0, 0, 0, 0] S1x1x512x128.size inb_S1x1x512x128_S1x1x512x128_0_0_0_0).toLoadRect (harg8.unread x4)) (harg9.unread x5) (harg10.unread x6) (harg11.unread x7) _ _ runP.sl.HS1_1 runP.sl.HS3_1).trans (congrArg Prod.fst (stP_raw (i := i) (harg7 := harg7) (harg8 := harg8) (harg9 := harg9) (harg10 := harg10) (harg11 := harg11) ..)))).trans ?_
  rw [r_5_p, v96P]
  unfold loP1 runP.sl.r_3 runP.sl.r_4
  simp only [ld_unread]

/-- After the upper half, second accumulator. -/
theorem loP2_eq : (arg16.view.read (Elt F) (arg16.view.writes (Elt F) arg16.view.junk (runP.sl.HS3_1_1 c i arg4 harg4 arg5 harg5 arg6 harg6 arg7 harg7 arg8 harg8 arg9 harg9 arg10 harg10 arg11 harg11 arg12 harg12 arg13 harg13 arg14 harg14 arg15 harg15 arg16 harg16 x2 x3 x4 x5 x6 x7)))
    = loP2 i x2 x3 x4 x5 x6 x7 := by
  unfold runP.sl.HS3_1_1
  refine (View.read_writes_cons_put arg16.view _ _ _ _ rfl).trans ?_
  refine (congrArg (fun a => VecWindow.put a _ _ _) ((loopP_2 (F := F) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (runP.sl.v0 i) (arg7.view.readAt (Elt F) (Rect.unit (s := S1x1x512x128) ![0, 0, 0, 0] S1x1x512x128.size inb_S1x1x512x128_S1x1x512x128_0_0_0_0).toLoadRect (harg7.unread x3)) (arg8.view.readAt (Elt F) (Rect.unit (s := S1x1x512x128) ![0, 0, 0, 0] S1x1x512x128.size inb_S1x1x512x128_S1x1x512x128_0_0_0_0).toLoadRect (harg8.unread x4)) (harg9.unread x5) (harg10.unread x6) (harg11.unread x7) _ _ runP.sl.HS1_1 runP.sl.HS3_1).trans (congrArg Prod.snd (stP_raw (i := i) (harg7 := harg7) (harg8 := harg8) (harg9 := harg9) (harg10 := harg10) (harg11 := harg11) ..)))).trans ?_
  rw [r_2_p, v104P]
  unfold loP2 runP.sl.r_3 runP.sl.r_4
  simp only [ld_unread]

/-- The executor's `v129`. -/
theorem v129P : runP.sl.v129 c i arg4 harg4 arg5 harg5 arg6 harg6 arg7 harg7 arg8 harg8 arg9 harg9 arg10 harg10 arg11 harg11 arg12 harg12 arg13 harg13 arg14 harg14 arg15 harg15 arg16 harg16 x2 x3 x4 x5 x6 x7
    = VecWindow.window (loP1 i x2 x3 x4 x5 x6 x7) ![256, 0] S256x256.size inb_S512x256_S256x256_256_0 := by
  have h := (loP1_eq c i arg4 harg4 arg5 harg5 arg6 harg6 arg7 harg7 arg8 harg8 arg9 harg9 arg10 harg10 arg11 harg11 arg12 harg12 arg13 harg13 arg14 harg14 arg15 harg15 arg16 harg16 x2 x3 x4 x5 x6 x7)
  exact congrArg (fun a : Vec F S512x256 .f32 => VecWindow.window a ![256, 0] S256x256.size inb_S512x256_S256x256_256_0) h

/-- The executor's `v137`. -/
theorem v137P : runP.sl.v137 c i arg4 harg4 arg5 harg5 arg6 harg6 arg7 harg7 arg8 harg8 arg9 harg9 arg10 harg10 arg11 harg11 arg12 harg12 arg13 harg13 arg14 harg14 arg15 harg15 arg16 harg16 x2 x3 x4 x5 x6 x7
    = VecWindow.window (loP2 i x2 x3 x4 x5 x6 x7) ![256, 0] S256x256.size inb_S512x256_S256x256_256_0 := by
  have h := (loP2_eq c i arg4 harg4 arg5 harg5 arg6 harg6 arg7 harg7 arg8 harg8 arg9 harg9 arg10 harg10 arg11 harg11 arg12 harg12 arg13 harg13 arg14 harg14 arg15 harg15 arg16 harg16 x2 x3 x4 x5 x6 x7)
  exact congrArg (fun a : Vec F S512x256 .f32 => VecWindow.window a ![256, 0] S256x256.size inb_S512x256_S256x256_256_0) h

/-- After the lower half, first accumulator. -/
theorem hiP1_eq : (arg14.view.read (Elt F) (arg14.view.writes (Elt F) arg14.view.junk (runP.sl.HS1_2 c i arg4 harg4 arg5 harg5 arg6 harg6 arg7 harg7 arg8 harg8 arg9 harg9 arg10 harg10 arg11 harg11 arg12 harg12 arg13 harg13 arg14 harg14 arg15 harg15 arg16 harg16 x2 x3 x4 x5 x6 x7)))
    = hiP1 i x2 x3 x4 x5 x6 x7 := by
  unfold runP.sl.HS1_2
  refine (View.read_writes_cons_put arg14.view _ _ _ _ rfl).trans ?_
  refine (congrArg (fun a => VecWindow.put a _ _ _) (loP1_eq c i arg4 harg4 arg5 harg5 arg6 harg6 arg7 harg7 arg8 harg8 arg9 harg9 arg10 harg10 arg11 harg11 arg12 harg12 arg13 harg13 arg14 harg14 arg15 harg15 arg16 harg16 x2 x3 x4 x5 x6 x7)).trans ?_
  rw [r_8_p, v129P]
  unfold hiP1 runP.sl.r_6 runP.sl.r_7
  simp only [ld_unread]

/-- After the lower half, second accumulator. -/
theorem hiP2_eq : (arg16.view.read (Elt F) (arg16.view.writes (Elt F) arg16.view.junk (runP.sl.HS3_2 c i arg4 harg4 arg5 harg5 arg6 harg6 arg7 harg7 arg8 harg8 arg9 harg9 arg10 harg10 arg11 harg11 arg12 harg12 arg13 harg13 arg14 harg14 arg15 harg15 arg16 harg16 x2 x3 x4 x5 x6 x7)))
    = hiP2 i x2 x3 x4 x5 x6 x7 := by
  unfold runP.sl.HS3_2
  refine (View.read_writes_cons_put arg16.view _ _ _ _ rfl).trans ?_
  refine (congrArg (fun a => VecWindow.put a _ _ _) (loP2_eq c i arg4 harg4 arg5 harg5 arg6 harg6 arg7 harg7 arg8 harg8 arg9 harg9 arg10 harg10 arg11 harg11 arg12 harg12 arg13 harg13 arg14 harg14 arg15 harg15 arg16 harg16 x2 x3 x4 x5 x6 x7)).trans ?_
  rw [r_2_p, v137P]
  unfold hiP2 runP.sl.r_6 runP.sl.r_7
  simp only [ld_unread]

/-- The executor's `v25`. -/
theorem v25P : runP.sl.v25 c i arg4 harg4 arg5 harg5 arg6 harg6 arg7 harg7 arg8 harg8 arg9 harg9 arg10 harg10 arg11 harg11 arg12 harg12 arg13 harg13 arg14 harg14 arg15 harg15 arg16 harg16 x2 x3 x4 x5 x6 x7
    = hiP1 i x2 x3 x4 x5 x6 x7 := by
  exact (View.readAt_full arg14.view _ inb_S512x256_S512x256_0_0).trans (hiP1_eq c i arg4 harg4 arg5 harg5 arg6 harg6 arg7 harg7 arg8 harg8 arg9 harg9 arg10 harg10 arg11 harg11 arg12 harg12 arg13 harg13 arg14 harg14 arg15 harg15 arg16 harg16 x2 x3 x4 x5 x6 x7)

/-- The executor's `v30`. -/
theorem v30P : runP.sl.v30 c i arg4 harg4 arg5 harg5 arg6 harg6 arg7 harg7 arg8 harg8 arg9 harg9 arg10 harg10 arg11 harg11 arg12 harg12 arg13 harg13 arg14 harg14 arg15 harg15 arg16 harg16 x2 x3 x4 x5 x6 x7
    = hiP2 i x2 x3 x4 x5 x6 x7 := by
  exact (View.readAt_full arg16.view _ inb_S512x256_S512x256_0_0).trans (hiP2_eq c i arg4 harg4 arg5 harg5 arg6 harg6 arg7 harg7 arg8 harg8 arg9 harg9 arg10 harg10 arg11 harg11 arg12 harg12 arg13 harg13 arg14 harg14 arg15 harg15 arg16 harg16 x2 x3 x4 x5 x6 x7)

/-- The block the run stores is `outP` of the windows' blocks. -/
theorem runP_val (xt0 : TbBuf0 (F := F) c tbM0_0) (hc0 hc1) : (runP c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hc0 hc1).1 = outP i x0 x1 x2 x3 x4 x5 x6 x7 := by
  have e : (runP c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hc0 hc1).1 = k0_pay1 (runP.sl.r_10 c i arg4 harg4 arg5 harg5 arg6 harg6 arg7 harg7 arg8 harg8 arg9 harg9 arg10 harg10 arg11 harg11 arg12 harg12 arg13 harg13 arg14 harg14 arg15 harg15 arg16 harg16 x0 x2 x3 x4 x5 x6 x7) (runP.sl.r_11 c i arg4 harg4 arg5 harg5 arg6 harg6 arg7 harg7 arg8 harg8 arg9 harg9 arg10 harg10 arg11 harg11 arg12 harg12 arg13 harg13 arg14 harg14 arg15 harg15 arg16 harg16 x0 x2 x3 x4 x5 x6 x7)
      (arg5.view.readAt (Elt F) (Rect.unit (s := S1x128) ![0, 0] S1x128.size inb_S1x128_S1x128_0_0).toLoadRect (harg5.unread x1)) := by
    unfold runP; rfl
  rw [e, ld_full]
  unfold runP.sl.r_10 runP.sl.r_11 outP
  rw [v25P, v30P]
  have e4 : arg4.view.readAt (Elt F) (Rect.unit (s := S4x64) ![0, 0] S4x64.size inb_S4x64_S4x64_0_0).toLoadRect (harg4.unread x0) = x0 := ld_full harg4 x0 _ _
  exact congrArg (fun z => k0_pay1 (k0_pay69 z _ _) (k0_pay70 z _ _) x1) e4

/-- The online recursion from the loaded blocks is the recursion from the blocks. -/
theorem stO_raw : stO i (arg7.view.readAt (Elt F) (Rect.unit (s := S1x1x512x128) ![0, 0, 0, 0] S1x1x512x128.size inb_S1x1x512x128_S1x1x512x128_0_0_0_0).toLoadRect (harg7.unread x3)) (arg8.view.readAt (Elt F) (Rect.unit (s := S1x1x512x128) ![0, 0, 0, 0] S1x1x512x128.size inb_S1x1x512x128_S1x1x512x128_0_0_0_0).toLoadRect (harg8.unread x4)) (arg9.view.read (Elt F) (harg9.unread x5)) (arg10.view.read (Elt F) (harg10.unread x6)) (arg11.view.read (Elt F) (harg11.unread x7)) ⟨(arg13.view.read (Elt F) (arg13.view.writes (Elt F) arg13.view.junk runO.sl.HS0_1)), (arg14.view.read (Elt F) (arg14.view.writes (Elt F) arg14.view.junk runO.sl.HS1_1)), (arg15.view.read (Elt F) (arg15.view.writes (Elt F) arg15.view.junk runO.sl.HS2_1)), (arg16.view.read (Elt F) (arg16.view.writes (Elt F) arg16.view.junk runO.sl.HS3_1))⟩ (Scf.trips (k0_t3_loop i).lb (k0_t3_loop i).ub (k0_t3_loop i).st)
    = (stO i x3 x4 x5 x6 x7 ⟨k0_pay35, k0_pay34, k0_pay37, k0_pay36⟩ (Scf.trips (k0_t3_loop i).lb (k0_t3_loop i).ub (k0_t3_loop i).st)) := by
  have e1 : (arg13.view.read (Elt F) (arg13.view.writes (Elt F) arg13.view.junk runO.sl.HS0_1)) = (k0_pay35 : Vec F S512x1 .f32) := View.read_writes_full arg13.view _ _ _ _
  have e2 : (arg14.view.read (Elt F) (arg14.view.writes (Elt F) arg14.view.junk runO.sl.HS1_1)) = (k0_pay34 : Vec F S512x256 .f32) := View.read_writes_full arg14.view _ _ _ _
  have e3 : (arg15.view.read (Elt F) (arg15.view.writes (Elt F) arg15.view.junk runO.sl.HS2_1)) = (k0_pay37 : Vec F S512x1 .f32) := View.read_writes_full arg15.view _ _ _ _
  have e4 : (arg16.view.read (Elt F) (arg16.view.writes (Elt F) arg16.view.junk runO.sl.HS3_1)) = (k0_pay36 : Vec F S512x256 .f32) := View.read_writes_full arg16.view _ _ _ _
  rw [ld_full, ld_full, harg9.read_unread, harg10.read_unread, harg11.read_unread, e1, e2, e3, e4]

/-- The loaded, converted query block. -/
theorem r_1_q : runO.sl.r_1 c arg7 harg7 x3
    = k0_pay32 x3 := by
  exact congrArg k0_pay32 (ld_full (F := F) harg7 x3 _ inb_S1x1x512x128_S1x1x512x128_0_0_0_0)

/-- The loaded, converted query block. -/
theorem r_2_q : runO.sl.r_2 c arg8 harg8 x4
    = k0_pay33 x4 := by
  exact congrArg k0_pay33 (ld_full (F := F) harg8 x4 _ inb_S1x1x512x128_S1x1x512x128_0_0_0_0)

/-- The executor's `v104`. -/
theorem v104O : runO.sl.v104 c i arg4 harg4 arg5 harg5 arg6 harg6 arg7 harg7 arg8 harg8 arg9 harg9 arg10 harg10 arg11 harg11 arg12 harg12 arg13 harg13 arg14 harg14 arg15 harg15 arg16 harg16 x3 x4 x5 x6 x7
    = VecWindow.window (stO i x3 x4 x5 x6 x7 ⟨k0_pay35, k0_pay34, k0_pay37, k0_pay36⟩ (Scf.trips (k0_t3_loop i).lb (k0_t3_loop i).ub (k0_t3_loop i).st)).m1 ![0, 0] S256x1.size inb_S512x1_S256x1_0_0 := by
  exact congrArg (fun a : Vec F S512x1 .f32 => VecWindow.window a ![0, 0] S256x1.size inb_S512x1_S256x1_0_0) ((loopO_1 (F := F) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (runO.sl.v0 i) (arg7.view.readAt (Elt F) (Rect.unit (s := S1x1x512x128) ![0, 0, 0, 0] S1x1x512x128.size inb_S1x1x512x128_S1x1x512x128_0_0_0_0).toLoadRect (harg7.unread x3)) (arg8.view.readAt (Elt F) (Rect.unit (s := S1x1x512x128) ![0, 0, 0, 0] S1x1x512x128.size inb_S1x1x512x128_S1x1x512x128_0_0_0_0).toLoadRect (harg8.unread x4)) (harg9.unread x5) (harg10.unread x6) (harg11.unread x7)  (runO.sl.v83 i) _ _ _ _ runO.sl.HS1_1 runO.sl.HS3_1 runO.sl.HS0_1 runO.sl.HS2_1).trans (congrArg OnSt.m1 (stO_raw (i := i) (harg7 := harg7) (harg8 := harg8) (harg9 := harg9) (harg10 := harg10) (harg11 := harg11) ..)))

/-- The executor's `v114`. -/
theorem v114O : runO.sl.v114 c i arg4 harg4 arg5 harg5 arg6 harg6 arg7 harg7 arg8 harg8 arg9 harg9 arg10 harg10 arg11 harg11 arg12 harg12 arg13 harg13 arg14 harg14 arg15 harg15 arg16 harg16 x3 x4 x5 x6 x7
    = VecWindow.window (stO i x3 x4 x5 x6 x7 ⟨k0_pay35, k0_pay34, k0_pay37, k0_pay36⟩ (Scf.trips (k0_t3_loop i).lb (k0_t3_loop i).ub (k0_t3_loop i).st)).a1 ![0, 0] S256x256.size inb_S512x256_S256x256_0_0 := by
  exact congrArg (fun a : Vec F S512x256 .f32 => VecWindow.window a ![0, 0] S256x256.size inb_S512x256_S256x256_0_0) ((loopO_2 (F := F) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (runO.sl.v0 i) (arg7.view.readAt (Elt F) (Rect.unit (s := S1x1x512x128) ![0, 0, 0, 0] S1x1x512x128.size inb_S1x1x512x128_S1x1x512x128_0_0_0_0).toLoadRect (harg7.unread x3)) (arg8.view.readAt (Elt F) (Rect.unit (s := S1x1x512x128) ![0, 0, 0, 0] S1x1x512x128.size inb_S1x1x512x128_S1x1x512x128_0_0_0_0).toLoadRect (harg8.unread x4)) (harg9.unread x5) (harg10.unread x6) (harg11.unread x7)  (runO.sl.v83 i) _ _ _ _ runO.sl.HS1_1 runO.sl.HS3_1 runO.sl.HS0_1 runO.sl.HS2_1).trans (congrArg OnSt.a1 (stO_raw (i := i) (harg7 := harg7) (harg8 := harg8) (harg9 := harg9) (harg10 := harg10) (harg11 := harg11) ..)))

/-- The executor's `v125`. -/
theorem v125O : runO.sl.v125 c i arg4 harg4 arg5 harg5 arg6 harg6 arg7 harg7 arg8 harg8 arg9 harg9 arg10 harg10 arg11 harg11 arg12 harg12 arg13 harg13 arg14 harg14 arg15 harg15 arg16 harg16 x3 x4 x5 x6 x7
    = VecWindow.window (stO i x3 x4 x5 x6 x7 ⟨k0_pay35, k0_pay34, k0_pay37, k0_pay36⟩ (Scf.trips (k0_t3_loop i).lb (k0_t3_loop i).ub (k0_t3_loop i).st)).m2 ![0, 0] S256x1.size inb_S512x1_S256x1_0_0 := by
  exact congrArg (fun a : Vec F S512x1 .f32 => VecWindow.window a ![0, 0] S256x1.size inb_S512x1_S256x1_0_0) ((loopO_3 (F := F) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (runO.sl.v0 i) (arg7.view.readAt (Elt F) (Rect.unit (s := S1x1x512x128) ![0, 0, 0, 0] S1x1x512x128.size inb_S1x1x512x128_S1x1x512x128_0_0_0_0).toLoadRect (harg7.unread x3)) (arg8.view.readAt (Elt F) (Rect.unit (s := S1x1x512x128) ![0, 0, 0, 0] S1x1x512x128.size inb_S1x1x512x128_S1x1x512x128_0_0_0_0).toLoadRect (harg8.unread x4)) (harg9.unread x5) (harg10.unread x6) (harg11.unread x7)  (runO.sl.v83 i) _ _ _ _ runO.sl.HS1_1 runO.sl.HS3_1 runO.sl.HS0_1 runO.sl.HS2_1).trans (congrArg OnSt.m2 (stO_raw (i := i) (harg7 := harg7) (harg8 := harg8) (harg9 := harg9) (harg10 := harg10) (harg11 := harg11) ..)))

/-- The executor's `v135`. -/
theorem v135O : runO.sl.v135 c i arg4 harg4 arg5 harg5 arg6 harg6 arg7 harg7 arg8 harg8 arg9 harg9 arg10 harg10 arg11 harg11 arg12 harg12 arg13 harg13 arg14 harg14 arg15 harg15 arg16 harg16 x3 x4 x5 x6 x7
    = VecWindow.window (stO i x3 x4 x5 x6 x7 ⟨k0_pay35, k0_pay34, k0_pay37, k0_pay36⟩ (Scf.trips (k0_t3_loop i).lb (k0_t3_loop i).ub (k0_t3_loop i).st)).a2 ![0, 0] S256x256.size inb_S512x256_S256x256_0_0 := by
  exact congrArg (fun a : Vec F S512x256 .f32 => VecWindow.window a ![0, 0] S256x256.size inb_S512x256_S256x256_0_0) ((loopO_4 (F := F) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (runO.sl.v0 i) (arg7.view.readAt (Elt F) (Rect.unit (s := S1x1x512x128) ![0, 0, 0, 0] S1x1x512x128.size inb_S1x1x512x128_S1x1x512x128_0_0_0_0).toLoadRect (harg7.unread x3)) (arg8.view.readAt (Elt F) (Rect.unit (s := S1x1x512x128) ![0, 0, 0, 0] S1x1x512x128.size inb_S1x1x512x128_S1x1x512x128_0_0_0_0).toLoadRect (harg8.unread x4)) (harg9.unread x5) (harg10.unread x6) (harg11.unread x7)  (runO.sl.v83 i) _ _ _ _ runO.sl.HS1_1 runO.sl.HS3_1 runO.sl.HS0_1 runO.sl.HS2_1).trans (congrArg OnSt.a2 (stO_raw (i := i) (harg7 := harg7) (harg8 := harg8) (harg9 := harg9) (harg10 := harg10) (harg11 := harg11) ..)))

/-- Upper half, first maximum. -/
theorem loM1_eq : (arg13.view.read (Elt F) (arg13.view.writes (Elt F) arg13.view.junk (runO.sl.HS0_1_1 c i arg4 harg4 arg5 harg5 arg6 harg6 arg7 harg7 arg8 harg8 arg9 harg9 arg10 harg10 arg11 harg11 arg12 harg12 arg13 harg13 arg14 harg14 arg15 harg15 arg16 harg16 x2 x3 x4 x5 x6 x7)))
    = loM1 i x2 x3 x4 x5 x6 x7 := by
  unfold runO.sl.HS0_1_1
  refine (View.read_writes_cons_put arg13.view _ _ _ _ rfl).trans ?_
  refine (congrArg (fun a => VecWindow.put a _ _ _) ((loopO_1 (F := F) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (runO.sl.v0 i) (arg7.view.readAt (Elt F) (Rect.unit (s := S1x1x512x128) ![0, 0, 0, 0] S1x1x512x128.size inb_S1x1x512x128_S1x1x512x128_0_0_0_0).toLoadRect (harg7.unread x3)) (arg8.view.readAt (Elt F) (Rect.unit (s := S1x1x512x128) ![0, 0, 0, 0] S1x1x512x128.size inb_S1x1x512x128_S1x1x512x128_0_0_0_0).toLoadRect (harg8.unread x4)) (harg9.unread x5) (harg10.unread x6) (harg11.unread x7)  (runO.sl.v83 i) _ _ _ _ runO.sl.HS1_1 runO.sl.HS3_1 runO.sl.HS0_1 runO.sl.HS2_1).trans (congrArg OnSt.m1 (stO_raw (i := i) (harg7 := harg7) (harg8 := harg8) (harg9 := harg9) (harg10 := harg10) (harg11 := harg11) ..)))).trans ?_
  unfold runO.sl.r_5
  rw [v104O]
  unfold loM1
  first | rw [r_1_q] | rw [r_2_q]
  simp only [ld_unread]

/-- Upper half, first accumulator. -/
theorem loO1_eq : (arg14.view.read (Elt F) (arg14.view.writes (Elt F) arg14.view.junk (runO.sl.HS1_1_1 c i arg4 harg4 arg5 harg5 arg6 harg6 arg7 harg7 arg8 harg8 arg9 harg9 arg10 harg10 arg11 harg11 arg12 harg12 arg13 harg13 arg14 harg14 arg15 harg15 arg16 harg16 x2 x3 x4 x5 x6 x7)))
    = loO1 i x2 x3 x4 x5 x6 x7 := by
  unfold runO.sl.HS1_1_1
  refine (View.read_writes_cons_put arg14.view _ _ _ _ rfl).trans ?_
  refine (congrArg (fun a => VecWindow.put a _ _ _) ((loopO_2 (F := F) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (runO.sl.v0 i) (arg7.view.readAt (Elt F) (Rect.unit (s := S1x1x512x128) ![0, 0, 0, 0] S1x1x512x128.size inb_S1x1x512x128_S1x1x512x128_0_0_0_0).toLoadRect (harg7.unread x3)) (arg8.view.readAt (Elt F) (Rect.unit (s := S1x1x512x128) ![0, 0, 0, 0] S1x1x512x128.size inb_S1x1x512x128_S1x1x512x128_0_0_0_0).toLoadRect (harg8.unread x4)) (harg9.unread x5) (harg10.unread x6) (harg11.unread x7)  (runO.sl.v83 i) _ _ _ _ runO.sl.HS1_1 runO.sl.HS3_1 runO.sl.HS0_1 runO.sl.HS2_1).trans (congrArg OnSt.a1 (stO_raw (i := i) (harg7 := harg7) (harg8 := harg8) (harg9 := harg9) (harg10 := harg10) (harg11 := harg11) ..)))).trans ?_
  rw [v104O, v114O]
  unfold loO1
  first | rw [r_1_q] | rw [r_2_q]
  simp only [ld_unread]

/-- Upper half, second maximum. -/
theorem loM2_eq : (arg15.view.read (Elt F) (arg15.view.writes (Elt F) arg15.view.junk (runO.sl.HS2_1_1 c i arg4 harg4 arg5 harg5 arg6 harg6 arg7 harg7 arg8 harg8 arg9 harg9 arg10 harg10 arg11 harg11 arg12 harg12 arg13 harg13 arg14 harg14 arg15 harg15 arg16 harg16 x2 x3 x4 x5 x6 x7)))
    = loM2 i x2 x3 x4 x5 x6 x7 := by
  unfold runO.sl.HS2_1_1
  refine (View.read_writes_cons_put arg15.view _ _ _ _ rfl).trans ?_
  refine (congrArg (fun a => VecWindow.put a _ _ _) ((loopO_3 (F := F) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (runO.sl.v0 i) (arg7.view.readAt (Elt F) (Rect.unit (s := S1x1x512x128) ![0, 0, 0, 0] S1x1x512x128.size inb_S1x1x512x128_S1x1x512x128_0_0_0_0).toLoadRect (harg7.unread x3)) (arg8.view.readAt (Elt F) (Rect.unit (s := S1x1x512x128) ![0, 0, 0, 0] S1x1x512x128.size inb_S1x1x512x128_S1x1x512x128_0_0_0_0).toLoadRect (harg8.unread x4)) (harg9.unread x5) (harg10.unread x6) (harg11.unread x7)  (runO.sl.v83 i) _ _ _ _ runO.sl.HS1_1 runO.sl.HS3_1 runO.sl.HS0_1 runO.sl.HS2_1).trans (congrArg OnSt.m2 (stO_raw (i := i) (harg7 := harg7) (harg8 := harg8) (harg9 := harg9) (harg10 := harg10) (harg11 := harg11) ..)))).trans ?_
  rw [v125O]
  unfold loM2 runO.sl.r_4
  first | rw [r_1_q] | rw [r_2_q]
  simp only [ld_unread]

/-- Upper half, second accumulator. -/
theorem loO2_eq : (arg16.view.read (Elt F) (arg16.view.writes (Elt F) arg16.view.junk (runO.sl.HS3_1_1 c i arg4 harg4 arg5 harg5 arg6 harg6 arg7 harg7 arg8 harg8 arg9 harg9 arg10 harg10 arg11 harg11 arg12 harg12 arg13 harg13 arg14 harg14 arg15 harg15 arg16 harg16 x2 x3 x4 x5 x6 x7)))
    = loO2 i x2 x3 x4 x5 x6 x7 := by
  unfold runO.sl.HS3_1_1
  refine (View.read_writes_cons_put arg16.view _ _ _ _ rfl).trans ?_
  refine (congrArg (fun a => VecWindow.put a _ _ _) ((loopO_4 (F := F) Variants.none c none i tbM0_0 htbM0_0 arg4 harg4 arg5 harg5 arg6 harg6 arg7 harg7 arg8 harg8 arg9 harg9 arg10 harg10 arg11 harg11 arg12 harg12 arg13 harg13 arg14 harg14 arg15 harg15 arg16 harg16 (runO.sl.v0 i) (arg7.view.readAt (Elt F) (Rect.unit (s := S1x1x512x128) ![0, 0, 0, 0] S1x1x512x128.size inb_S1x1x512x128_S1x1x512x128_0_0_0_0).toLoadRect (harg7.unread x3)) (arg8.view.readAt (Elt F) (Rect.unit (s := S1x1x512x128) ![0, 0, 0, 0] S1x1x512x128.size inb_S1x1x512x128_S1x1x512x128_0_0_0_0).toLoadRect (harg8.unread x4)) (harg9.unread x5) (harg10.unread x6) (harg11.unread x7)  (runO.sl.v83 i) _ _ _ _ runO.sl.HS1_1 runO.sl.HS3_1 runO.sl.HS0_1 runO.sl.HS2_1).trans (congrArg OnSt.a2 (stO_raw (i := i) (harg7 := harg7) (harg8 := harg8) (harg9 := harg9) (harg10 := harg10) (harg11 := harg11) ..)))).trans ?_
  rw [v125O, v135O]
  unfold loO2 runO.sl.r_3 runO.sl.r_4
  first | rw [r_1_q] | rw [r_2_q]
  simp only [ld_unread]

/-- The executor's `v163`. -/
theorem v163O : runO.sl.v163 c i arg4 harg4 arg5 harg5 arg6 harg6 arg7 harg7 arg8 harg8 arg9 harg9 arg10 harg10 arg11 harg11 arg12 harg12 arg13 harg13 arg14 harg14 arg15 harg15 arg16 harg16 x2 x3 x4 x5 x6 x7
    = VecWindow.window (loM1 i x2 x3 x4 x5 x6 x7) ![256, 0] S256x1.size inb_S512x1_S256x1_256_0 := by
  have h := (loM1_eq c i arg4 harg4 arg5 harg5 arg6 harg6 arg7 harg7 arg8 harg8 arg9 harg9 arg10 harg10 arg11 harg11 arg12 harg12 arg13 harg13 arg14 harg14 arg15 harg15 arg16 harg16 x2 x3 x4 x5 x6 x7)
  exact congrArg (fun a : Vec F S512x1 .f32 => VecWindow.window a ![256, 0] S256x1.size inb_S512x1_S256x1_256_0) h

/-- The executor's `v173`. -/
theorem v173O : runO.sl.v173 c i arg4 harg4 arg5 harg5 arg6 harg6 arg7 harg7 arg8 harg8 arg9 harg9 arg10 harg10 arg11 harg11 arg12 harg12 arg13 harg13 arg14 harg14 arg15 harg15 arg16 harg16 x2 x3 x4 x5 x6 x7
    = VecWindow.window (loO1 i x2 x3 x4 x5 x6 x7) ![256, 0] S256x256.size inb_S512x256_S256x256_256_0 := by
  have h := (loO1_eq c i arg4 harg4 arg5 harg5 arg6 harg6 arg7 harg7 arg8 harg8 arg9 harg9 arg10 harg10 arg11 harg11 arg12 harg12 arg13 harg13 arg14 harg14 arg15 harg15 arg16 harg16 x2 x3 x4 x5 x6 x7)
  exact congrArg (fun a : Vec F S512x256 .f32 => VecWindow.window a ![256, 0] S256x256.size inb_S512x256_S256x256_256_0) h

/-- The executor's `v184`. -/
theorem v184O : runO.sl.v184 c i arg4 harg4 arg5 harg5 arg6 harg6 arg7 harg7 arg8 harg8 arg9 harg9 arg10 harg10 arg11 harg11 arg12 harg12 arg13 harg13 arg14 harg14 arg15 harg15 arg16 harg16 x2 x3 x4 x5 x6 x7
    = VecWindow.window (loM2 i x2 x3 x4 x5 x6 x7) ![256, 0] S256x1.size inb_S512x1_S256x1_256_0 := by
  have h := (loM2_eq c i arg4 harg4 arg5 harg5 arg6 harg6 arg7 harg7 arg8 harg8 arg9 harg9 arg10 harg10 arg11 harg11 arg12 harg12 arg13 harg13 arg14 harg14 arg15 harg15 arg16 harg16 x2 x3 x4 x5 x6 x7)
  exact congrArg (fun a : Vec F S512x1 .f32 => VecWindow.window a ![256, 0] S256x1.size inb_S512x1_S256x1_256_0) h

/-- The executor's `v194`. -/
theorem v194O : runO.sl.v194 c i arg4 harg4 arg5 harg5 arg6 harg6 arg7 harg7 arg8 harg8 arg9 harg9 arg10 harg10 arg11 harg11 arg12 harg12 arg13 harg13 arg14 harg14 arg15 harg15 arg16 harg16 x2 x3 x4 x5 x6 x7
    = VecWindow.window (loO2 i x2 x3 x4 x5 x6 x7) ![256, 0] S256x256.size inb_S512x256_S256x256_256_0 := by
  have h := (loO2_eq c i arg4 harg4 arg5 harg5 arg6 harg6 arg7 harg7 arg8 harg8 arg9 harg9 arg10 harg10 arg11 harg11 arg12 harg12 arg13 harg13 arg14 harg14 arg15 harg15 arg16 harg16 x2 x3 x4 x5 x6 x7)
  exact congrArg (fun a : Vec F S512x256 .f32 => VecWindow.window a ![256, 0] S256x256.size inb_S512x256_S256x256_256_0) h

/-- Lower half, first accumulator. -/
theorem hiO1_eq : (arg14.view.read (Elt F) (arg14.view.writes (Elt F) arg14.view.junk (runO.sl.HS1_2 c i arg4 harg4 arg5 harg5 arg6 harg6 arg7 harg7 arg8 harg8 arg9 harg9 arg10 harg10 arg11 harg11 arg12 harg12 arg13 harg13 arg14 harg14 arg15 harg15 arg16 harg16 x2 x3 x4 x5 x6 x7)))
    = hiO1 i x2 x3 x4 x5 x6 x7 := by
  unfold runO.sl.HS1_2
  refine (View.read_writes_cons_put arg14.view _ _ _ _ rfl).trans ?_
  refine (congrArg (fun a => VecWindow.put a _ _ _) (loO1_eq c i arg4 harg4 arg5 harg5 arg6 harg6 arg7 harg7 arg8 harg8 arg9 harg9 arg10 harg10 arg11 harg11 arg12 harg12 arg13 harg13 arg14 harg14 arg15 harg15 arg16 harg16 x2 x3 x4 x5 x6 x7)).trans ?_
  rw [v163O, v173O]
  unfold hiO1 runO.sl.r_7 runO.sl.r_8
  first | rw [r_1_q] | rw [r_2_q]
  simp only [ld_unread]

/-- Lower half, second accumulator. -/
theorem hiO2_eq : (arg16.view.read (Elt F) (arg16.view.writes (Elt F) arg16.view.junk (runO.sl.HS3_2 c i arg4 harg4 arg5 harg5 arg6 harg6 arg7 harg7 arg8 harg8 arg9 harg9 arg10 harg10 arg11 harg11 arg12 harg12 arg13 harg13 arg14 harg14 arg15 harg15 arg16 harg16 x2 x3 x4 x5 x6 x7)))
    = hiO2 i x2 x3 x4 x5 x6 x7 := by
  unfold runO.sl.HS3_2
  refine (View.read_writes_cons_put arg16.view _ _ _ _ rfl).trans ?_
  refine (congrArg (fun a => VecWindow.put a _ _ _) (loO2_eq c i arg4 harg4 arg5 harg5 arg6 harg6 arg7 harg7 arg8 harg8 arg9 harg9 arg10 harg10 arg11 harg11 arg12 harg12 arg13 harg13 arg14 harg14 arg15 harg15 arg16 harg16 x2 x3 x4 x5 x6 x7)).trans ?_
  unfold runO.sl.r_11 runO.sl.r_12
  rw [v184O, v194O]
  unfold hiO2 runO.sl.r_6 runO.sl.r_7 runO.sl.r_9
  first | rw [r_1_q] | rw [r_2_q]
  simp only [ld_unread]

/-- The executor's `v25`. -/
theorem v25O : runO.sl.v25 c i arg4 harg4 arg5 harg5 arg6 harg6 arg7 harg7 arg8 harg8 arg9 harg9 arg10 harg10 arg11 harg11 arg12 harg12 arg13 harg13 arg14 harg14 arg15 harg15 arg16 harg16 x2 x3 x4 x5 x6 x7
    = hiO1 i x2 x3 x4 x5 x6 x7 := by
  exact (View.readAt_full arg14.view _ inb_S512x256_S512x256_0_0).trans (hiO1_eq c i arg4 harg4 arg5 harg5 arg6 harg6 arg7 harg7 arg8 harg8 arg9 harg9 arg10 harg10 arg11 harg11 arg12 harg12 arg13 harg13 arg14 harg14 arg15 harg15 arg16 harg16 x2 x3 x4 x5 x6 x7)

/-- The executor's `v30`. -/
theorem v30O : runO.sl.v30 c i arg4 harg4 arg5 harg5 arg6 harg6 arg7 harg7 arg8 harg8 arg9 harg9 arg10 harg10 arg11 harg11 arg12 harg12 arg13 harg13 arg14 harg14 arg15 harg15 arg16 harg16 x2 x3 x4 x5 x6 x7
    = hiO2 i x2 x3 x4 x5 x6 x7 := by
  exact (View.readAt_full arg16.view _ inb_S512x256_S512x256_0_0).trans (hiO2_eq c i arg4 harg4 arg5 harg5 arg6 harg6 arg7 harg7 arg8 harg8 arg9 harg9 arg10 harg10 arg11 harg11 arg12 harg12 arg13 harg13 arg14 harg14 arg15 harg15 arg16 harg16 x2 x3 x4 x5 x6 x7)

/-- The block the run stores is `outO` of the windows' blocks. -/
theorem runO_val (xt0 : TbBuf0 (F := F) c tbM0_0) (hc0 hc1) : (runO c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hc0 hc1).1 = outO i x0 x1 x2 x3 x4 x5 x6 x7 := by
  have e : (runO c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xt0 hc0 hc1).1 = k0_pay1 (runO.sl.r_13 c i arg4 harg4 arg5 harg5 arg6 harg6 arg7 harg7 arg8 harg8 arg9 harg9 arg10 harg10 arg11 harg11 arg12 harg12 arg13 harg13 arg14 harg14 arg15 harg15 arg16 harg16 x0 x2 x3 x4 x5 x6 x7) (runO.sl.r_14 c i arg4 harg4 arg5 harg5 arg6 harg6 arg7 harg7 arg8 harg8 arg9 harg9 arg10 harg10 arg11 harg11 arg12 harg12 arg13 harg13 arg14 harg14 arg15 harg15 arg16 harg16 x0 x2 x3 x4 x5 x6 x7)
      (arg5.view.readAt (Elt F) (Rect.unit (s := S1x128) ![0, 0] S1x128.size inb_S1x128_S1x128_0_0).toLoadRect (harg5.unread x1)) := by
    unfold runO; rfl
  rw [e, ld_full]
  unfold runO.sl.r_13 runO.sl.r_14 outO
  rw [v25O, v30O]
  have e4 : arg4.view.readAt (Elt F) (Rect.unit (s := S4x64) ![0, 0] S4x64.size inb_S4x64_S4x64_0_0).toLoadRect (harg4.unread x0) = x0 := ld_full harg4 x0 _ _
  exact congrArg (fun z => k0_pay1 (k0_pay69 z _ _) (k0_pay70 z _ _) x1) e4

end Cert.KernelIdeal.Val

end
-- ==== Proof.KFrame.lean ====
/- The launch of the kernel with its output named: the proof data (every output block a pure function of the windows' blocks),
   the body's obligation, the run, and the frame. -/
module

public import proofs.«01_k».proof.Proof.KVal
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The table's word: the flag the host computed. -/
abbrev flagW (c : Dev nD) (xt0 : TbBuf0 (F := F) c tbM0_0) : BitVec 32 :=
  tbM0_0.view.readAt (Elt F) (Rect.unit (s := S1) ![0] S1.size inb_S1_S1_0).toLoadRect xt0 (Shape.Idx.first (numel1_S1.symm ▸ Nat.one_pos))

/-- The block the body stores, by the flag's word: the plain form when it is one, the online form otherwise. -/
def blkOut (i : grid0.Coords) (w : BitVec 32) (x0 : Vec F S4x64 .f32) (x1 : Vec F S1x128 .f32) (x2 : Vec F S512x512 .f32) (x3 : Vec F S1x1x512x128 .bf16) (x4 : Vec F S1x1x512x128 .bf16) (x5 : Vec F S1x1x4096x128 .bf16) (x6 : Vec F S1x1x4096x128 .bf16) (x7 : Vec F S1x1x4096x256 .bf16) : Vec F S1x512x128 .bf16 :=
  if w = 1#32 then Val.outP i x0 x1 x2 x3 x4 x5 x6 x7 else Val.outO i x0 x1 x2 x3 x4 x5 x6 x7

theorem cond0_0_iff (i : grid0.Coords) (w : BitVec 32) : cond0_0 i w ↔ w = 1#32 := by
  unfold cond0_0
  by_cases h : w = 1#32
  · subst h; decide +kernel
  · have e : (w == 1#32) = false := beq_eq_false_iff_ne.mpr h
    simp only [Scalar.cmpi, Scalar.extui, IntOp.cmpi, e, h]; decide +kernel

theorem cond0_1_iff (i : grid0.Coords) (w : BitVec 32) : cond0_1 i w ↔ ¬ w = 1#32 := by
  unfold cond0_1
  by_cases h : w = 1#32
  · subst h; decide +kernel
  · have e : (w != 1#32) = true := bne_iff_ne.mpr h
    simp only [Scalar.cmpi, Scalar.extui, IntOp.cmpi, e, h]; decide +kernel

/-- The proof data of the one pipeline on core `c`: the arrays as the region finds them (`V`); after the body at
    point `t` each input's buffer at its block and the output's at the block the body stores; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => blkOut (grid0.coords t) (flagW c (tbl m 0)) (iblk m hO c 0 t) (iblk m hO c 1 t) (iblk m hO c 2 t) (iblk m hO c 3 t) (iblk m hO c 4 t) (iblk m hO c 5 t) (iblk m hO c 6 t) (iblk m hO c 7 t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl

theorem after0_8 (hO : Ok m) (c : Dev nD) (t : Fin (cfgM m hO).N) : (dats m hO 0 c).after 8 t = blkOut (grid0.coords t) (flagW c (tbl m 0)) (iblk m hO c 0 t) (iblk m hO c 1 t) (iblk m hO c 2 t) (iblk m hO c 3 t) (iblk m hO c 4 t) (iblk m hO c 5 t) (iblk m hO c 6 t) (iblk m hO c 7 t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t))

set_option maxHeartbeats 4800000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8]
  rw [show (dats m hO 0 c).Φ t.castSucc = iprop(Pipeline.ΦA spec0 c ∗ Pipeline.ΦT pre0 (tbl m) c) from rfl, PhiT0_eq, PhiA0_eq]
  by_cases h : flagW c (tbl m 0) = 1#32
  · have hc0 := (cond0_0_iff (grid0.coords t) (flagW c (tbl m 0))).mpr h
    have hc1 : ¬ cond0_1 (grid0.coords t) (flagW c (tbl m 0)) := fun e => (cond0_1_iff _ _).mp e h
    have hv : blkOut (grid0.coords t) (flagW c (tbl m 0)) (iblk m hO c 0 t) (iblk m hO c 1 t) (iblk m hO c 2 t) (iblk m hO c 3 t) (iblk m hO c 4 t) (iblk m hO c 5 t) (iblk m hO c 6 t) (iblk m hO c 7 t) = (runP c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) hc0 hc1).1 :=
      (if_pos h).trans (Val.runP_val c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) hc0 hc1).symm
    rw [hv]
    iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runP c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) hc0 hc1).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    isplitl [HT0]; · iexact HT0
    iintro ⟨H0, H1, H2, H3, H4, H5, H6, H7, H8, HS0, HS1, HS2, HS3, HT0⟩
    isplitl [HS0 HS1 HS2 HS3 Hg HT0]
    · isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc1 := (cond0_1_iff (grid0.coords t) (flagW c (tbl m 0))).mpr h
    have hc0 : ¬ cond0_0 (grid0.coords t) (flagW c (tbl m 0)) := fun e => h ((cond0_0_iff _ _).mp e)
    have hv : blkOut (grid0.coords t) (flagW c (tbl m 0)) (iblk m hO c 0 t) (iblk m hO c 1 t) (iblk m hO c 2 t) (iblk m hO c 3 t) (iblk m hO c 4 t) (iblk m hO c 5 t) (iblk m hO c 6 t) (iblk m hO c 7 t) = (runO c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) hc0 hc1).1 :=
      (if_neg h).trans (Val.runO_val c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) hc0 hc1).symm
    rw [hv]
    iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runO c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) hc0 hc1).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    isplitl [HT0]; · iexact HT0
    iintro ⟨H0, H1, H2, H3, H4, H5, H6, H7, H8, HS0, HS1, HS2, HS3, HT0⟩
    isplitl [HS0 HS1 HS2 HS3 Hg HT0]
    · isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The run's final states: every array of the pipeline at its named contents, every other buffer as at the region's entry. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      (((h c).1 3).trans ((dats m hO 0 c).arrAt_in 3 rfl _)).trans ((A_eq m hO c 3).trans (V_main_arg1 m c)),
      (((h c).1 4).trans ((dats m hO 0 c).arrAt_in 4 rfl _)).trans ((A_eq m hO c 4).trans (V_main_arg2 m c)),
      (((h c).1 5).trans ((dats m hO 0 c).arrAt_in 5 rfl _)).trans ((A_eq m hO c 5).trans (V_main_arg3 m c)),
      (((h c).1 6).trans ((dats m hO 0 c).arrAt_in 6 rfl _)).trans ((A_eq m hO c 6).trans (V_main_arg4 m c)),
      (((h c).1 7).trans ((dats m hO 0 c).arrAt_in 7 rfl _)).trans ((A_eq m hO c 7).trans (V_main_arg5 m c)),
      (((h c).1 0).trans ((dats m hO 0 c).arrAt_in 0 rfl _)).trans ((A_eq m hO c 0).trans (V_main_arg6 m c)),
      ((h c).2 main_arg7 (by decide : main_arg7 ∈ Pipeline.restRefs sig spec0)).trans (V_main_arg7 m c)⟩) (run_main m ρ hO)

/-- The frame: the argument arrays end unchanged and the counters at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.KernelIdeal.Gen

end
-- ==== Proof.KOut.lean ====
/- The block the kernel stores: the difference of the two streams' attention, normed. -/
module

public import proofs.«01_k».proof.Proof.KAcc
public import proofs.«01_k».proof.Proof.KFrame

@[expose] public section
set_option maxRecDepth 16384
noncomputable section
namespace Cert.KernelIdeal.Val
open Idealize.ShloMosaic Idealize.ShloMosaic.TcCoe Idealize.SL.Sem
open Cert.KernelIdeal Cert.KernelIdeal.Gen Cert.Row

/-- A row divided by the root of its mean square, times its gain and the constant factor. -/
def normed (o : Fin 128 → EReal) (g : EReal) (e : Fin 128) : EReal :=
  o e * Ideal.rsqrt (Ideal.div (∑ d : Fin 128, o d * o d) (Ideal.ofBits .f32 0x43000000#32) + Ideal.ofBits .f32 0x358637BD#32) * g * Ideal.ofBits .f32 0x3F4CCCCD#32

/-- The difference of the two attentions of row `r` of block `t`, at column `e`. -/
def dif (t : ℕ) (S1 S2 w : ℕ → ℕ → ℝ) (lam : ℝ) (r e : ℕ) : ℝ :=
  att 4096 (vis t r) (S1 r) (w e) - lam * att 4096 (vis t r) (S2 r) (w e)

variable {q1 q2 : Vec Ideal S1x1x512x128 .bf16} {k1 k2 : Vec Ideal S1x1x4096x128 .bf16} {v : Vec Ideal S1x1x4096x256 .bf16} {x2 : Vec Ideal S512x512 .f32}
  {x0 : Vec Ideal S4x64 .f32} {x1 : Vec Ideal S1x128 .f32}
  {s1 s2 S1 S2 w : ℕ → ℕ → ℝ} {c1 c2 : ℕ → ℝ} {lam : ℝ}

/-- The scalar the second stream is multiplied by. -/
def Lam (x0 : Vec Ideal S4x64 .f32) (lam : ℝ) : Prop :=
  Ideal.exp (∑ d : Fin 64, x0 (ix2 0 d) * x0 (ix2 1 d)) - Ideal.exp (∑ d : Fin 64, x0 (ix2 2 d) * x0 (ix2 3 d)) + Ideal.ofBits .f32 0x3E4CCCCD#32 = (lam : EReal)

/-- The quotient of an accumulator's column by its column of weights. -/
theorem quot_at {a : FVec Ideal S512x256 .f32} {s S : ℕ → ℕ → ℝ} {c : ℕ → ℝ} (t : ℕ) (r : Fin 512) (hsh : ∀ j, s r.val j = S r.val j + c r.val) (hw : ∀ j, w 128 j = 1)
    (h : ∃ μ : ℝ, ∀ e : Fin 256, e.val < 129 → a (ix2 r e) = ((wsum 4096 (vis t r.val) (s r.val) μ (w e.val) : ℝ) : EReal)) (e : Fin 128) :
    Ideal.div (a (ix2 r ⟨e.val, by omega⟩)) (a (ix2 r 128)) = ((att 4096 (vis t r.val) (S r.val) (w e.val) : ℝ) : EReal) := by
  obtain ⟨μ, h⟩ := h
  rw [h _ (show e.val < 129 by omega), h 128 (by decide)]
  have h1 : w (128 : Fin 256).val = fun _ => 1 := funext hw
  rw [h1]
  exact quot hsh (show 0 < 4096 by decide) (show vis t r.val 0 by unfold vis; omega)

theorem pay69_val {a b : FVec Ideal S512x256 .f32} (t : ℕ) (r : Fin 512) (hs1 : ∀ j, s1 r.val j = S1 r.val j + c1 r.val) (hs2 : ∀ j, s2 r.val j = S2 r.val j + c2 r.val)
    (hw : ∀ j, w 128 j = 1) (hl : Lam x0 lam)
    (ha : ∃ μ : ℝ, ∀ e : Fin 256, e.val < 129 → a (ix2 r e) = ((wsum 4096 (vis t r.val) (s1 r.val) μ (w e.val) : ℝ) : EReal))
    (hb : ∃ μ : ℝ, ∀ e : Fin 256, e.val < 129 → b (ix2 r e) = ((wsum 4096 (vis t r.val) (s2 r.val) μ (w e.val) : ℝ) : EReal)) (e : Fin 128) :
    k0_pay69 x0 a b (ix2 r e) = ((dif t S1 S2 w lam r.val e.val : ℝ) : EReal) := by
  rw [pay69_at, quot_at t r hs1 hw ha, quot_at t r hs2 hw hb, show _ = _ from hl, ← EReal.coe_mul, ← EReal.coe_sub]
  rfl

theorem pay1_val {a b : FVec Ideal S512x256 .f32} (t : ℕ) (r : Fin 512) (hs1 : ∀ j, s1 r.val j = S1 r.val j + c1 r.val) (hs2 : ∀ j, s2 r.val j = S2 r.val j + c2 r.val)
    (hw : ∀ j, w 128 j = 1) (hl : Lam x0 lam)
    (ha : ∃ μ : ℝ, ∀ e : Fin 256, e.val < 129 → a (ix2 r e) = ((wsum 4096 (vis t r.val) (s1 r.val) μ (w e.val) : ℝ) : EReal))
    (hb : ∃ μ : ℝ, ∀ e : Fin 256, e.val < 129 → b (ix2 r e) = ((wsum 4096 (vis t r.val) (s2 r.val) μ (w e.val) : ℝ) : EReal)) (e : Fin 128) :
    k0_pay1 (k0_pay69 x0 a b) (k0_pay70 x0 a b) x1 (ix3 0 r e) = normed (fun d => ((dif t S1 S2 w lam r.val d.val : ℝ) : EReal)) (x1 (ix2 0 e)) e := by
  rw [pay1_at]
  simp only [pay69_val t r hs1 hs2 hw hl ha hb]
  rfl

/-- Both forms store the same block. -/
theorem blkOut_val (i : grid0.Coords) (fl : BitVec 32) (h1 : Sc q1 k1 s1) (h2 : Sc q2 k2 s2) (hv : Vl v w) (hb : Bi x2)
    (hs1 : ∀ r j, s1 r j = S1 r j + c1 r) (hs2 : ∀ r j, s2 r j = S2 r j + c2 r) (hw : ∀ j, w 128 j = 1) (hl : Lam x0 lam) (r : Fin 512) (e : Fin 128) :
    blkOut i fl x0 x1 x2 q1 q2 k1 k2 v (ix3 0 r e) = normed (fun d => ((dif (i 2).val S1 S2 w lam r.val d.val : ℝ) : EReal)) (x1 (ix2 0 e)) e := by
  unfold blkOut
  split_ifs
  · exact pay1_val _ r (hs1 _) (hs2 _) hw hl (accP1 i h1 hv hb r) (accP2 i h2 hv hb r) e
  · exact pay1_val _ r (hs1 _) (hs2 _) hw hl (accO1 i h1 hv hb r) (accO2 i h2 hv hb r) e

end Cert.KernelIdeal.Val
end
-- ==== Proof.RefVal.lean ====
/- The reference's steps read element by element over the extended reals. -/
module

public import proofs.«01_k».proof.Proof.Ref
public import proofs.«01_k».proof.Proof.KOut

@[expose] public section
set_option maxRecDepth 16384
noncomputable section
namespace Cert.ReferenceIdeal.Value
open Cert.ReferenceIdeal Cert.ReferenceIdeal.Gen Idealize.ShloMosaic Idealize.ShloMosaic.TcCoe Idealize.SL.Sem Idealize.ShloMosaic.StableHlo
open Cert.KernelIdeal.Val (top normed)

theorem chunkR_at : ∀ i : Fin 4096, chunkR (ix1 i) = BitVec.ofNat 32 (i.val / 64) := by
  decide +kernel

theorem sle_small : ∀ a b : Fin 64, IntOp.cmpi .sle (BitVec.ofNat 32 a.val) (BitVec.ofNat 32 b.val) = if a.val ≤ b.val then 1#1 else 0#1 := by
  decide +kernel

theorem maskR_at (r j : Fin 4096) : maskR (ix2 r j) = if j.val / 64 ≤ r.val / 64 then 1#1 else 0#1 := by
  have h : maskR (ix2 r j) = IntOp.cmpi .sle (chunkR (ix1 j)) (chunkR (ix1 r)) := by pointwise [maskR]
  rw [h, chunkR_at, chunkR_at]
  exact sle_small ⟨j.val / 64, by omega⟩ ⟨r.val / 64, by omega⟩

theorem scR_at (A1 A3 : FVec Ideal S8x4x4096x128 .bf16) (b : Fin 8) (h : Fin 4) (r j : Fin 4096) :
    scR A1 A3 (ix4 b h r j) = if j.val / 64 ≤ r.val / 64 then ∑ d : Fin 64, A1 (ix4 b h r ⟨d.val, by omega⟩) * A3 (ix4 b h j ⟨d.val, by omega⟩) else Ideal.ofBits .f32 0xFF800000#32 := by
  have h1 : scR A1 A3 (ix4 b h r j) = if maskR (ix2 r j) = 1#1 then ∑ d : Fin 64, A1 (ix4 b h r ⟨d.val, by omega⟩) * A3 (ix4 b h j ⟨d.val, by omega⟩) else Ideal.ofBits .f32 0xFF800000#32 := by
    pointwise [scR]
    rfl
  rw [h1, maskR_at]
  by_cases hc : j.val / 64 ≤ r.val / 64
  · rw [if_pos hc, if_pos hc, if_pos rfl]
  · rw [if_neg hc, if_neg hc, if_neg (by decide)]

theorem red_at (x : FVec Ideal S8x4x4096x4096 .f32) (b : Fin 8) (h : Fin 4) (r : Fin 4096) :
    Host.reduce FloatOps.maximumf x (constant S_ .f32 0xFF800000#32) reducesTo_S8x4x4096x4096_S8x4x4096_d3 h_S_ (ix3 b h r) =
      Finset.fold max (Ideal.ofBits FTy.f32 0xFF800000#32) (fun j => x (ix4 b h r j)) Finset.univ := by
  pointwise []

theorem max_at (y : FVec Ideal S8x4x4096 .f32) (b : Fin 8) (h : Fin 4) (r : Fin 4096) :
    maximumf (broadcastInDim S8x4x4096 ![] bcast_S_S8x4x4096 (constant S_ .f32 0xFF800000#32)) y (ix3 b h r) = max (Ideal.ofBits .f32 0xFF800000#32) (y (ix3 b h r)) := by
  pointwise []

theorem mxR_at (A1 A3 : FVec Ideal S8x4x4096x128 .bf16) (b : Fin 8) (h : Fin 4) (r : Fin 4096) :
    mxR A1 A3 (ix3 b h r) = max (Ideal.ofBits .f32 0xFF800000#32) (top fun j : Fin 4096 => scR A1 A3 (ix4 b h r j)) := by
  unfold mxR top
  rw [max_at, red_at]

theorem exR_at (A1 A3 : FVec Ideal S8x4x4096x128 .bf16) (b : Fin 8) (h : Fin 4) (r j : Fin 4096) :
    exR A1 A3 (ix4 b h r j) = Ideal.exp (scR A1 A3 (ix4 b h r j) - mxR A1 A3 (ix3 b h r)) := by
  pointwise [exR]

theorem prR_at (A1 A3 : FVec Ideal S8x4x4096x128 .bf16) (b : Fin 8) (h : Fin 4) (r j : Fin 4096) :
    prR A1 A3 (ix4 b h r j) = Ideal.div (exR A1 A3 (ix4 b h r j)) (∑ j' : Fin 4096, exR A1 A3 (ix4 b h r j')) := by
  pointwise [prR]

theorem lamR_at (x : FVec Ideal S4x64 .f32) : lamR x ix0 =
    Ideal.exp (∑ d : Fin 64, x (ix2 0 d) * x (ix2 1 d)) - Ideal.exp (∑ d : Fin 64, x (ix2 2 d) * x (ix2 3 d)) + Ideal.ofBits .f32 0x3E4CCCCD#32 := by
  pointwise [lamR]

theorem oR_at (A1 A2 A3 A4 : FVec Ideal S8x4x4096x128 .bf16) (A5 : FVec Ideal S8x4x4096x256 .bf16) (A6 : FVec Ideal S4x64 .f32) (b : Fin 8) (h : Fin 4) (r : Fin 4096) (e : Fin 128) :
    oR A1 A2 A3 A4 A5 A6 (ix4 b r h e) = ∑ j : Fin 4096, A5 (ix4 b h j ⟨e.val, by omega⟩) * (prR A1 A3 (ix4 b h r j) - lamR A6 ix0 * prR A2 A4 (ix4 b h r j)) := by
  pointwise [oR]

theorem outR_at (o : FVec Ideal S8x4096x4x128 .f32) (A7 : FVec Ideal S128 .f32) (b : Fin 8) (r : Fin 4096) (h : Fin 4) (e : Fin 128) :
    outR o A7 (ix3 b r ⟨128 * h.val + e.val, by omega⟩) = normed (fun d => o (ix4 b r h d)) (A7 (ix1 e)) e := by
  pointwise [outR, normed]

end Cert.ReferenceIdeal.Value
end
-- ==== Proof.PreVal.lean ====
/- What the precondition says of the arguments over the extended reals: the elements the claim needs are real numbers, and
   the columns past the head's own are the ones and zeros the projection packs. -/
module

public import proofs.«01_k».proof.Proof.Gen.Pre_packed
public import Idealize.ShloMosaic.Lib.Pointwise

@[expose] public section
set_option maxRecDepth 16384
noncomputable section
namespace Cert.Pre_packed
open Cert.Pre_packed Cert.Pre_packed.Gen Idealize.ShloMosaic

/-- An element whose absolute value is below infinity is a real number. -/
theorem real_of (x : EReal) (h : BitVec.ofBool (decide (max x (-x) < Ideal.ofBits .f32 0x7F800000#32)) = 1#1) : x = ((x.toReal : ℝ) : EReal) := by
  have ht : Ideal.ofBits .f32 0x7F800000#32 = ⊤ := by simp [Ideal.ofBits, Ideal.ieee]
  rw [ht] at h
  have hl : max x (-x) < ⊤ := by
    by_contra hn
    rw [decide_eq_false hn] at h
    exact absurd h (by decide)
  rw [max_lt_iff] at hl
  refine (EReal.coe_toReal hl.1.ne ?_).symm
  rintro rfl
  exact absurd hl.2 (by simp)

theorem eq_of (x y : EReal) (h : BitVec.ofBool (decide (x = y)) = 1#1) : x = y := by
  by_contra hn
  rw [decide_eq_false hn] at h
  exact absurd h (by decide)

/-- The arguments as the precondition leaves them. -/
structure Fine (A1 A2 A3 A4 : FVec Ideal S8x4x4096x128 .bf16) (A5 : FVec Ideal S8x4x4096x256 .bf16) (A6 : FVec Ideal S4x64 .f32) : Prop where
  r1 : ∀ (b : Fin 8) (h : Fin 4) (r : Fin 4096) (d : Fin 128), d.val < 65 → A1 (ix4 b h r d) = ((A1 (ix4 b h r d) : EReal).toReal : EReal)
  r2 : ∀ (b : Fin 8) (h : Fin 4) (r : Fin 4096) (d : Fin 128), d.val < 65 → A2 (ix4 b h r d) = ((A2 (ix4 b h r d) : EReal).toReal : EReal)
  r3 : ∀ (b : Fin 8) (h : Fin 4) (r : Fin 4096) (d : Fin 128), A3 (ix4 b h r d) = ((A3 (ix4 b h r d) : EReal).toReal : EReal)
  r4 : ∀ (b : Fin 8) (h : Fin 4) (r : Fin 4096) (d : Fin 128), A4 (ix4 b h r d) = ((A4 (ix4 b h r d) : EReal).toReal : EReal)
  r5 : ∀ (b : Fin 8) (h : Fin 4) (r : Fin 4096) (d : Fin 256), d.val < 129 → A5 (ix4 b h r d) = ((A5 (ix4 b h r d) : EReal).toReal : EReal)
  r6 : ∀ (a : Fin 4) (d : Fin 64), A6 (ix2 a d) = ((A6 (ix2 a d) : EReal).toReal : EReal)
  one3 : ∀ (b : Fin 8) (h : Fin 4) (r : Fin 4096), A3 (ix4 b h r 64) = (1 : EReal)
  one4 : ∀ (b : Fin 8) (h : Fin 4) (r : Fin 4096), A4 (ix4 b h r 64) = (1 : EReal)
  zero3 : ∀ (b : Fin 8) (h : Fin 4) (r : Fin 4096) (d : Fin 63), A3 (ix4 b h r ⟨65 + d.val, by omega⟩) = (0 : EReal)
  zero4 : ∀ (b : Fin 8) (h : Fin 4) (r : Fin 4096) (d : Fin 63), A4 (ix4 b h r ⟨65 + d.val, by omega⟩) = (0 : EReal)
  one5 : ∀ (b : Fin 8) (h : Fin 4) (r : Fin 4096), A5 (ix4 b h r 128) = (1 : EReal)

variable (A0 : IVec S1 32) (A1 A2 A3 A4 : FVec Ideal S8x4x4096x128 .bf16) (A5 : FVec Ideal S8x4x4096x256 .bf16) (A6 : FVec Ideal S4x64 .f32) (A7 : FVec Ideal S128 .f32)

theorem at_r1 (b : Fin 8) (h : Fin 4) (r : Fin 4096) (d : Fin 65) : (fn A0 A1 A2 A3 A4 A5 A6 A7).1 (ix4 b h r d) = BitVec.ofBool (decide (max (A1 (ix4 b h r ⟨d.val, by omega⟩) : EReal) (-(A1 (ix4 b h r ⟨d.val, by omega⟩) : EReal)) < Ideal.ofBits .f32 0x7F800000#32)) := by
  pointwise [fn, fn_part1, fn_part2]
  rfl

theorem at_r2 (b : Fin 8) (h : Fin 4) (r : Fin 4096) (d : Fin 65) : (fn A0 A1 A2 A3 A4 A5 A6 A7).2.1 (ix4 b h r d) = BitVec.ofBool (decide (max (A2 (ix4 b h r ⟨d.val, by omega⟩) : EReal) (-(A2 (ix4 b h r ⟨d.val, by omega⟩) : EReal)) < Ideal.ofBits .f32 0x7F800000#32)) := by
  pointwise [fn, fn_part1, fn_part2]
  rfl

theorem at_r3 (b : Fin 8) (h : Fin 4) (r : Fin 4096) (d : Fin 128) : (fn A0 A1 A2 A3 A4 A5 A6 A7).2.2.1 (ix4 b h r d) = BitVec.ofBool (decide (max (A3 (ix4 b h r d) : EReal) (-(A3 (ix4 b h r d) : EReal)) < Ideal.ofBits .f32 0x7F800000#32)) := by
  pointwise [fn, fn_part1, fn_part2]
  rfl

theorem at_r4 (b : Fin 8) (h : Fin 4) (r : Fin 4096) (d : Fin 128) : (fn A0 A1 A2 A3 A4 A5 A6 A7).2.2.2.1 (ix4 b h r d) = BitVec.ofBool (decide (max (A4 (ix4 b h r d) : EReal) (-(A4 (ix4 b h r d) : EReal)) < Ideal.ofBits .f32 0x7F800000#32)) := by
  pointwise [fn, fn_part1, fn_part2]
  rfl

theorem at_r5 (b : Fin 8) (h : Fin 4) (r : Fin 4096) (d : Fin 128) : (fn A0 A1 A2 A3 A4 A5 A6 A7).2.2.2.2.1 (ix4 b h r d) = BitVec.ofBool (decide (max (A5 (ix4 b h r ⟨d.val, by omega⟩) : EReal) (-(A5 (ix4 b h r ⟨d.val, by omega⟩) : EReal)) < Ideal.ofBits .f32 0x7F800000#32)) := by
  pointwise [fn, fn_part1, fn_part2]
  rfl

theorem at_r6 (a : Fin 4) (d : Fin 64) : (fn A0 A1 A2 A3 A4 A5 A6 A7).2.2.2.2.2.1 (ix2 a d) = BitVec.ofBool (decide (max (A6 (ix2 a d) : EReal) (-(A6 (ix2 a d) : EReal)) < Ideal.ofBits .f32 0x7F800000#32)) := by
  pointwise [fn, fn_part1, fn_part2]
  rfl

theorem at_one3 (b : Fin 8) (h : Fin 4) (r : Fin 4096) : (fn A0 A1 A2 A3 A4 A5 A6 A7).2.2.2.2.2.2.1 (ix4 b h r 0) = BitVec.ofBool (decide (A3 (ix4 b h r 64) = (1 : EReal))) := by
  pointwise [fn, fn_part1, fn_part2]

theorem at_one4 (b : Fin 8) (h : Fin 4) (r : Fin 4096) : (fn A0 A1 A2 A3 A4 A5 A6 A7).2.2.2.2.2.2.2.1 (ix4 b h r 0) = BitVec.ofBool (decide (A4 (ix4 b h r 64) = (1 : EReal))) := by
  pointwise [fn, fn_part1, fn_part2]

theorem at_zero3 (b : Fin 8) (h : Fin 4) (r : Fin 4096) (d : Fin 63) : (fn A0 A1 A2 A3 A4 A5 A6 A7).2.2.2.2.2.2.2.2.1 (ix4 b h r d) = BitVec.ofBool (decide (A3 (ix4 b h r ⟨65 + d.val, by omega⟩) = (0 : EReal))) := by
  pointwise [fn, fn_part1, fn_part2]

theorem at_zero4 (b : Fin 8) (h : Fin 4) (r : Fin 4096) (d : Fin 63) : (fn A0 A1 A2 A3 A4 A5 A6 A7).2.2.2.2.2.2.2.2.2.1 (ix4 b h r d) = BitVec.ofBool (decide (A4 (ix4 b h r ⟨65 + d.val, by omega⟩) = (0 : EReal))) := by
  pointwise [fn, fn_part1, fn_part2]

theorem at_one5 (b : Fin 8) (h : Fin 4) (r : Fin 4096) : (fn A0 A1 A2 A3 A4 A5 A6 A7).2.2.2.2.2.2.2.2.2.2 (ix4 b h r 0) = BitVec.ofBool (decide (A5 (ix4 b h r 128) = (1 : EReal))) := by
  pointwise [fn, fn_part1, fn_part2]

theorem fine (h0 : (fn A0 A1 A2 A3 A4 A5 A6 A7).1 = fun _ => 1#1)
    (h1 : (fn A0 A1 A2 A3 A4 A5 A6 A7).2.1 = fun _ => 1#1)
    (h2 : (fn A0 A1 A2 A3 A4 A5 A6 A7).2.2.1 = fun _ => 1#1)
    (h3 : (fn A0 A1 A2 A3 A4 A5 A6 A7).2.2.2.1 = fun _ => 1#1)
    (h4 : (fn A0 A1 A2 A3 A4 A5 A6 A7).2.2.2.2.1 = fun _ => 1#1)
    (h5 : (fn A0 A1 A2 A3 A4 A5 A6 A7).2.2.2.2.2.1 = fun _ => 1#1)
    (h6 : (fn A0 A1 A2 A3 A4 A5 A6 A7).2.2.2.2.2.2.1 = fun _ => 1#1)
    (h7 : (fn A0 A1 A2 A3 A4 A5 A6 A7).2.2.2.2.2.2.2.1 = fun _ => 1#1)
    (h8 : (fn A0 A1 A2 A3 A4 A5 A6 A7).2.2.2.2.2.2.2.2.1 = fun _ => 1#1)
    (h9 : (fn A0 A1 A2 A3 A4 A5 A6 A7).2.2.2.2.2.2.2.2.2.1 = fun _ => 1#1)
    (h10 : (fn A0 A1 A2 A3 A4 A5 A6 A7).2.2.2.2.2.2.2.2.2.2 = fun _ => 1#1) :
    Fine A1 A2 A3 A4 A5 A6 where
  r1 b h r d hd := real_of _ ((at_r1 A0 A1 A2 A3 A4 A5 A6 A7 b h r ⟨d.val, hd⟩).symm.trans (congrFun h0 (ix4 b h r ⟨d.val, hd⟩)))
  r2 b h r d hd := real_of _ ((at_r2 A0 A1 A2 A3 A4 A5 A6 A7 b h r ⟨d.val, hd⟩).symm.trans (congrFun h1 (ix4 b h r ⟨d.val, hd⟩)))
  r3 b h r d := real_of _ ((at_r3 A0 A1 A2 A3 A4 A5 A6 A7 b h r d).symm.trans (congrFun h2 (ix4 b h r d)))
  r4 b h r d := real_of _ ((at_r4 A0 A1 A2 A3 A4 A5 A6 A7 b h r d).symm.trans (congrFun h3 (ix4 b h r d)))
  r5 b h r d hd := by
    by_cases h128 : d.val < 128
    · exact real_of _ ((at_r5 A0 A1 A2 A3 A4 A5 A6 A7 b h r ⟨d.val, h128⟩).symm.trans (congrFun h4 (ix4 b h r ⟨d.val, h128⟩)))
    · obtain rfl : d = 128 := Fin.ext (show d.val = 128 by omega)
      have h1 : A5 (ix4 b h r 128) = (1 : EReal) := eq_of _ _ ((at_one5 A0 A1 A2 A3 A4 A5 A6 A7 b h r).symm.trans (congrFun h10 (ix4 b h r 0)))
      rw [h1, EReal.toReal_one, EReal.coe_one]
  r6 a d := real_of _ ((at_r6 A0 A1 A2 A3 A4 A5 A6 A7 a d).symm.trans (congrFun h5 (ix2 a d)))
  one3 b h r := eq_of _ _ ((at_one3 A0 A1 A2 A3 A4 A5 A6 A7 b h r).symm.trans (congrFun h6 (ix4 b h r 0)))
  one4 b h r := eq_of _ _ ((at_one4 A0 A1 A2 A3 A4 A5 A6 A7 b h r).symm.trans (congrFun h7 (ix4 b h r 0)))
  zero3 b h r d := eq_of _ _ ((at_zero3 A0 A1 A2 A3 A4 A5 A6 A7 b h r d).symm.trans (congrFun h8 (ix4 b h r d)))
  zero4 b h r d := eq_of _ _ ((at_zero4 A0 A1 A2 A3 A4 A5 A6 A7 b h r d).symm.trans (congrFun h9 (ix4 b h r d)))
  one5 b h r := eq_of _ _ ((at_one5 A0 A1 A2 A3 A4 A5 A6 A7 b h r).symm.trans (congrFun h10 (ix4 b h r 0)))

end Cert.Pre_packed
end
-- ==== Proof.Attn.lean ====
/- The reference's attention of arguments as the precondition leaves them: the difference of the two streams' weighted means of
   the values, as real numbers. -/
module

public import proofs.«01_k».proof.Proof.RefVal
public import proofs.«01_k».proof.Proof.PreVal

@[expose] public section
set_option maxRecDepth 16384
noncomputable section
namespace Cert.Attn
open Idealize.ShloMosaic Cert.ReferenceIdeal Cert.ReferenceIdeal.Value
open Cert.Row
open Cert.KernelIdeal.Val (top normed vis dif)
open Cert.Pre_packed (Fine)

/-- The softmax of a row of scores, a key that is not seen at negative infinity: its weighted sums are the attention. -/
theorem soft {N : ℕ} {p : ℕ → Prop} [DecidablePred p] {s : ℕ → ℝ} (X : Fin N → EReal) (hX : ∀ j, X j = if p j.val then ((s j.val : ℝ) : EReal) else ⊥) (h0 : 0 < N) (hp : p 0) :
    ∃ pr : ℕ → ℝ, (∀ j : Fin N, Ideal.div (Ideal.exp (X j - max (Ideal.ofBits .f32 0xFF800000#32) (top X))) (∑ j' : Fin N, Ideal.exp (X j' - max (Ideal.ofBits .f32 0xFF800000#32) (top X))) = ((pr j.val : ℝ) : EReal)) ∧
      ∀ v : ℕ → ℝ, ∑ j ∈ Finset.range N, v j * pr j = att N p s v := by
  have hbot : Ideal.ofBits .f32 0xFF800000#32 = ⊥ := by simp [Ideal.ofBits, Ideal.ieee]
  have hS : ∀ j : Fin N, X j = if p (0 + j.val) then ((s (0 + j.val) : ℝ) : EReal) else ⊥ := fun j => by simp only [Nat.zero_add]; exact hX j
  have hle : ((s 0 : ℝ) : EReal) ≤ top X := by
    have h1 : X ⟨0, h0⟩ ≤ top X := by
      unfold top
      exact (Finset.le_fold_max _).mpr (Or.inr ⟨⟨0, h0⟩, Finset.mem_univ _, le_refl _⟩)
    rw [hX, if_pos hp] at h1
    exact h1
  obtain ⟨μ, hμ⟩ := max_real hS (s 0)
  rw [max_eq_right hle] at hμ
  have hM : max (Ideal.ofBits .f32 0xFF800000#32) (top X) = (μ : EReal) := by
    rw [hbot, max_eq_right bot_le, hμ]
  rw [hM]
  have he : ∀ j : Fin N, Ideal.exp (X j - (μ : EReal)) = (((if p j.val then Real.exp (s j.val - μ) else 0 : ℝ)) : EReal) := fun j => by
    rw [hX]; split_ifs
    · exact exp_sub_coe _ _
    · rw [bot_sub_coe, EReal.coe_zero]
  have hL : ∑ j' : Fin N, Ideal.exp (X j' - (μ : EReal)) = ((wsum N p s μ fun _ => 1 : ℝ) : EReal) := by
    simp only [he]
    rw [coe_sum, wsum, Finset.sum_range]
    simp only [mul_one]
  have hpos := wsum_pos (s := s) h0 hp μ
  refine ⟨fun j => (if p j then Real.exp (s j - μ) else 0) / wsum N p s μ fun _ => 1, fun j => ?_, fun v => ?_⟩
  · rw [hL, he, div_real _ _ hpos.ne']
  · have h1 : ∑ j ∈ Finset.range N, v j * ((if p j then Real.exp (s j - μ) else 0) / wsum N p s μ fun _ => 1) = wsum N p s μ v / wsum N p s μ fun _ => 1 := by
      generalize (wsum N p s μ fun _ => 1) = L
      rw [wsum, Finset.sum_div]
      refine Finset.sum_congr rfl fun j _ => ?_
      split_ifs <;> ring
    rw [h1, att, wsum_shift (v := v) (s := s) 0 μ (fun j => (add_zero _).symm), wsum_shift (v := fun _ => 1) (s := s) 0 μ (fun j => (add_zero _).symm),
      mul_div_mul_left _ _ (Real.exp_pos _).ne']

/-- Position `n` of a sequence. -/
def pos (n : ℕ) : Fin 4096 := ⟨n % 4096, Nat.mod_lt _ (by decide)⟩

theorem pos_of (n : ℕ) (h : n < 4096) : pos n = ⟨n, h⟩ := Fin.ext (Nat.mod_eq_of_lt h)

variable (A B A1 A2 A3 A4 : FVec Ideal S8x4x4096x128 .bf16) (A5 : FVec Ideal S8x4x4096x256 .bf16) (A6 : FVec Ideal S4x64 .f32) (A7 : FVec Ideal S128 .f32) (b : Fin 8) (h : Fin 4) (t : ℕ)

/-- The scores of the queries of block `t` over the first `n` columns. -/
def sc (n : ℕ) (hn : n ≤ 128) : ℕ → ℕ → ℝ := fun r j =>
  ∑ d : Fin n, (A (ix4 b h (pos (512 * t + r)) ⟨d.val, by omega⟩) : EReal).toReal * (B (ix4 b h (pos j) ⟨d.val, by omega⟩) : EReal).toReal

/-- What a query's column past the head's own adds to all of its scores. -/
def shift : ℕ → ℝ := fun r => (A (ix4 b h (pos (512 * t + r)) 64) : EReal).toReal

/-- The values' columns. -/
def vals : ℕ → ℕ → ℝ := fun e j => (A5 (ix4 b h (pos j) ⟨e % 256, Nat.mod_lt _ (by decide)⟩) : EReal).toReal

/-- The scores over all the columns are those over the head's own, shifted. -/
theorem sc_shift (h1 : ∀ r : Fin 4096, B (ix4 b h r 64) = (1 : EReal)) (h0 : ∀ (r : Fin 4096) (d : Fin 63), B (ix4 b h r ⟨65 + d.val, by omega⟩) = (0 : EReal)) (r j : ℕ) :
    sc A B b h t 128 le_rfl r j = sc A B b h t 64 (by decide) r j + shift A b h t r := by
  unfold sc shift
  rw [Fin.sum_univ_add (a := 64) (b := 64) (fun d : Fin (64 + 64) => (A (ix4 b h (pos (512 * t + r)) ⟨d.val, by omega⟩) : EReal).toReal * (B (ix4 b h (pos j) ⟨d.val, by omega⟩) : EReal).toReal)]
  refine congrArg₂ (· + ·) rfl ?_
  rw [Fin.sum_univ_succ (n := 63)]
  have hz : ∑ d : Fin 63, (A (ix4 b h (pos (512 * t + r)) ⟨(Fin.natAdd 64 d.succ).val, by omega⟩) : EReal).toReal * (B (ix4 b h (pos j) ⟨(Fin.natAdd 64 d.succ).val, by omega⟩) : EReal).toReal = 0 := by
    refine Finset.sum_eq_zero fun d _ => ?_
    have hd : (⟨(Fin.natAdd 64 d.succ).val, by omega⟩ : Fin 128) = ⟨65 + d.val, by omega⟩ := Fin.ext (by simp; omega)
    rw [hd, h0, EReal.toReal_zero, mul_zero]
  refine (congrArg₂ (· + ·) ?_ hz).trans (add_zero _)
  have h64 : (⟨(Fin.natAdd 64 (0 : Fin 64)).val, by decide⟩ : Fin 128) = 64 := rfl
  show (A (ix4 b h (pos (512 * t + r)) 64) : EReal).toReal * (B (ix4 b h (pos j) 64) : EReal).toReal = _
  rw [h1, EReal.toReal_one, mul_one]

theorem vals_one (h1 : ∀ r : Fin 4096, A5 (ix4 b h r 128) = (1 : EReal)) (j : ℕ) : vals A5 b h 128 j = 1 := by
  unfold vals
  rw [show A5 (ix4 b h (pos j) ⟨128 % 256, Nat.mod_lt _ (by decide)⟩) = (1 : EReal) from h1 (pos j), EReal.toReal_one]

/-- Products of rows are real numbers: what is not known of a query meets a zero of the keys. -/
theorem dot_real (n : ℕ) (hn : n ≤ 128) (hA : ∀ (r : Fin 4096) (d : Fin 128), d.val < 65 → A (ix4 b h r d) = ((A (ix4 b h r d) : EReal).toReal : EReal))
    (hB : ∀ (r : Fin 4096) (d : Fin 128), B (ix4 b h r d) = ((B (ix4 b h r d) : EReal).toReal : EReal))
    (h0 : ∀ (r : Fin 4096) (d : Fin 63), B (ix4 b h r ⟨65 + d.val, by omega⟩) = (0 : EReal)) (r j : ℕ) (hr : 512 * t + r < 4096) (hj : j < 4096) :
    (∑ d : Fin n, (A (ix4 b h ⟨512 * t + r, hr⟩ ⟨d.val, by omega⟩) : EReal) * B (ix4 b h ⟨j, hj⟩ ⟨d.val, by omega⟩)) = ((sc A B b h t n hn r j : ℝ) : EReal) := by
  unfold sc
  rw [← coe_sum, pos_of _ hr, pos_of _ hj]
  refine Finset.sum_congr rfl fun d _ => ?_
  by_cases hd : d.val < 65
  · rw [EReal.coe_mul, ← hA _ _ hd, ← hB]
  · have hz : B (ix4 b h ⟨j, hj⟩ ⟨d.val, by omega⟩) = (0 : EReal) :=
      (congrArg (fun z : Fin 128 => B (ix4 b h ⟨j, hj⟩ z)) (Fin.ext (show d.val = 65 + (d.val - 65) by omega))).trans (h0 ⟨j, hj⟩ ⟨d.val - 65, by omega⟩)
    rw [hz, EReal.toReal_zero, mul_zero, mul_zero, EReal.coe_zero]

variable {A1 A2 A3 A4 A5 A6}

/-- The scalar of the second stream is a real number. -/
theorem lam_real (hf : Fine A1 A2 A3 A4 A5 A6) : lamR A6 ix0 = ((lamR A6 ix0 : EReal).toReal : EReal) := by
  have hs : ∀ a c : Fin 4, ∃ x : ℝ, ∑ d : Fin 64, (A6 (ix2 a d) : EReal) * A6 (ix2 c d) = (x : EReal) := fun a c =>
    ⟨∑ d : Fin 64, (A6 (ix2 a d) : EReal).toReal * (A6 (ix2 c d) : EReal).toReal, by
      rw [← coe_sum]
      refine Finset.sum_congr rfl fun d _ => ?_
      rw [EReal.coe_mul, ← hf.r6, ← hf.r6]⟩
  obtain ⟨x, hx⟩ := hs 0 1
  obtain ⟨y, hy⟩ := hs 2 3
  have hl : ∃ z : ℝ, Ideal.ofBits .f32 0x3E4CCCCD#32 = (z : EReal) := by
    simp only [Ideal.ofBits, Ideal.ieee]
    rw [if_neg (by decide), if_neg (by decide)]
    exact ⟨_, rfl⟩
  obtain ⟨z, hz⟩ := hl
  have he : lamR A6 ix0 = ((Real.exp x - Real.exp y + z : ℝ) : EReal) := by
    rw [lamR_at, hx, hy, hz, EReal.coe_add, EReal.coe_sub]
    rfl
  rw [he, EReal.toReal_coe]

/-- The reference's attention. -/
theorem ref_o (hf : Fine A1 A2 A3 A4 A5 A6) (ht : t < 8) (r : Fin 512) (e : Fin 128) :
    oR A1 A2 A3 A4 A5 A6 (ix4 b ⟨512 * t + r.val, by omega⟩ h e) =
      ((dif t (sc A1 A3 b h t 64 (by decide)) (sc A2 A4 b h t 64 (by decide)) (vals A5 b h) (lamR A6 ix0 : EReal).toReal r.val e.val : ℝ) : EReal) := by
  have hR : 512 * t + r.val < 4096 := by omega
  have hbot : Ideal.ofBits .f32 0xFF800000#32 = ⊥ := by simp [Ideal.ofBits, Ideal.ieee]
  have hX1 : ∀ j : Fin 4096, scR A1 A3 (ix4 b h ⟨512 * t + r.val, hR⟩ j) = if vis t r.val j.val then ((sc A1 A3 b h t 64 (by decide) r.val j.val : ℝ) : EReal) else ⊥ := fun j => by
    rw [scR_at, hbot, ← dot_real A1 A3 b h t 64 (by decide) (hf.r1 b h) (hf.r3 b h) (hf.zero3 b h) r.val j.val hR j.isLt]
    rfl
  have hX2 : ∀ j : Fin 4096, scR A2 A4 (ix4 b h ⟨512 * t + r.val, hR⟩ j) = if vis t r.val j.val then ((sc A2 A4 b h t 64 (by decide) r.val j.val : ℝ) : EReal) else ⊥ := fun j => by
    rw [scR_at, hbot, ← dot_real A2 A4 b h t 64 (by decide) (hf.r2 b h) (hf.r4 b h) (hf.zero4 b h) r.val j.val hR j.isLt]
    rfl
  have hv0 : vis t r.val 0 := by unfold vis; omega
  obtain ⟨p1, hp1, ha1⟩ := soft _ hX1 (by decide) hv0
  obtain ⟨p2, hp2, ha2⟩ := soft _ hX2 (by decide) hv0
  rw [oR_at]
  simp only [prR_at, exR_at, mxR_at, hp1, hp2]
  rw [lam_real hf]
  have hj : ∀ j : Fin 4096, (A5 (ix4 b h j ⟨e.val, by omega⟩) : EReal) * (((p1 j.val : ℝ) : EReal) - ((lamR A6 ix0 : EReal).toReal : EReal) * ((p2 j.val : ℝ) : EReal)) =
      ((vals A5 b h e.val j.val * p1 j.val - (lamR A6 ix0 : EReal).toReal * (vals A5 b h e.val j.val * p2 j.val) : ℝ) : EReal) := fun j => by
    have hv : A5 (ix4 b h j ⟨e.val, by omega⟩) = ((vals A5 b h e.val j.val : ℝ) : EReal) := by
      unfold vals
      rw [pos_of _ j.isLt, hf.r5 _ _ _ _ (show e.val < 129 by omega)]
      exact congrArg (fun z : Fin 256 => ((A5 (ix4 b h j z) : EReal).toReal : EReal)) (Fin.ext (Nat.mod_eq_of_lt (by omega)).symm)
    rw [hv, ← EReal.coe_mul, ← EReal.coe_sub, ← EReal.coe_mul]
    congr 1; ring
  rw [Finset.sum_congr rfl fun j _ => hj j, coe_sum, ← Finset.sum_range (fun j => vals A5 b h e.val j * p1 j - (lamR A6 ix0 : EReal).toReal * (vals A5 b h e.val j * p2 j)),
    Finset.sum_sub_distrib, ← Finset.mul_sum, ha1, ha2, EReal.toReal_coe]
  rfl

end Cert.Attn
end
-- ==== Proof.KArr.lean ====
/- The kernel's output array: the windows' blocks as parts of the arguments, the two buffers @main computes before the launch, and
   the array the write-backs leave, equal to the reference's. -/
module

public import proofs.«01_k».proof.Proof.Attn

@[expose] public section
set_option maxRecDepth 16384
noncomputable section
namespace Cert.KernelIdeal.Gen
open Idealize.ShloMosaic Idealize.ShloMosaic.TcCoe
open Pipeline (Dat Window)

variable (m : (ℓ : Loc nD τ sig) → Buf (Elt Ideal) ℓ) (hO : Ok m)

/-- A table, all zero: no index map reads it. -/
def adm0 : (pcfg0 (F := Ideal)).Adm := ⟨fun | ⟨0, _⟩ => fun _ => (0 : BitVec 32), trivial⟩

/-- The grid point's batch, head and query tile. -/
def bAt (t : Fin grid0.N) : Fin 8 := grid0.coords t 0
def hAt (t : Fin grid0.N) : Fin 4 := grid0.coords t 1
def iAt (t : Fin grid0.N) : Fin 8 := grid0.coords t 2

/-! ## Where each window's block lies -/

theorem idx0' : ∀ t : Fin grid0.N, ((cfg0 adm0).win 0).index t = ![0, 0] := by decide +kernel
theorem idx1' : ∀ t : Fin grid0.N, ((cfg0 adm0).win 1).index t = ![0, 0] := by decide +kernel
theorem idx2' : ∀ t : Fin grid0.N, ((cfg0 adm0).win 2).index t = ![0, 0] := by decide +kernel
theorem idx3' : ∀ t : Fin grid0.N, ((cfg0 adm0).win 3).index t = ![(bAt t).val, (hAt t).val, (iAt t).val, 0] := by decide +kernel
theorem idx4' : ∀ t : Fin grid0.N, ((cfg0 adm0).win 4).index t = ![(bAt t).val, (hAt t).val, (iAt t).val, 0] := by decide +kernel
theorem idx5' : ∀ t : Fin grid0.N, ((cfg0 adm0).win 5).index t = ![(bAt t).val, (hAt t).val, 0, 0] := by decide +kernel
theorem idx6' : ∀ t : Fin grid0.N, ((cfg0 adm0).win 6).index t = ![(bAt t).val, (hAt t).val, 0, 0] := by decide +kernel
theorem idx7' : ∀ t : Fin grid0.N, ((cfg0 adm0).win 7).index t = ![(bAt t).val, (hAt t).val, 0, 0] := by decide +kernel
theorem idx8' : ∀ t : Fin grid0.N, ((cfg0 adm0).win 8).index t = ![(bAt t).val, (iAt t).val, (hAt t).val] := by decide +kernel
theorem cov8' : ((cfg0 adm0).win 8).Covers := by decide +kernel

theorem cov8 : ((cfgM m hO).win 8).Covers := cov8'

/-! ## What the blocks hold -/

theorem q1_at (c : Dev nD) (t : Fin grid0.N) (r : Fin 512) (d : Fin 128) :
    iblk m hO c 3 t (ix4 0 0 r d) = m ((c : Thread nD τ).loc main_arg1) (ix4 (bAt t) (hAt t) ⟨512 * (iAt t).val + r.val, by have := (iAt t).isLt; omega⟩ d) := by
  show V m c main_arg1 ((((cfgM m hO).win 3).rect t).emb (ix4 0 0 r d)) = _
  rw [V_main_arg1]
  refine congrArg _ (funext fun a => Fin.ext ?_)
  refine (Window.rect_emb_val ((cfgM m hO).win 3) t (ix4 0 0 r d) a rfl).trans ?_
  rw [show ((cfgM m hO).win 3).index t = ![(bAt t).val, (hAt t).val, (iAt t).val, 0] from idx3' t]
  fin_cases a
  · show (bAt t).val * 1 + 0 = (bAt t).val
    omega
  · show (hAt t).val * 1 + 0 = (hAt t).val
    omega
  · show (iAt t).val * 512 + r.val = 512 * (iAt t).val + r.val
    omega
  · show 0 * 128 + d.val = d.val
    omega

theorem q2_at (c : Dev nD) (t : Fin grid0.N) (r : Fin 512) (d : Fin 128) :
    iblk m hO c 4 t (ix4 0 0 r d) = m ((c : Thread nD τ).loc main_arg2) (ix4 (bAt t) (hAt t) ⟨512 * (iAt t).val + r.val, by have := (iAt t).isLt; omega⟩ d) := by
  show V m c main_arg2 ((((cfgM m hO).win 4).rect t).emb (ix4 0 0 r d)) = _
  rw [V_main_arg2]
  refine congrArg _ (funext fun a => Fin.ext ?_)
  refine (Window.rect_emb_val ((cfgM m hO).win 4) t (ix4 0 0 r d) a rfl).trans ?_
  rw [show ((cfgM m hO).win 4).index t = ![(bAt t).val, (hAt t).val, (iAt t).val, 0] from idx4' t]
  fin_cases a
  · show (bAt t).val * 1 + 0 = (bAt t).val
    omega
  · show (hAt t).val * 1 + 0 = (hAt t).val
    omega
  · show (iAt t).val * 512 + r.val = 512 * (iAt t).val + r.val
    omega
  · show 0 * 128 + d.val = d.val
    omega

theorem k1_at (c : Dev nD) (t : Fin grid0.N) (j : Fin 4096) (d : Fin 128) :
    iblk m hO c 5 t (ix4 0 0 j d) = m ((c : Thread nD τ).loc main_arg3) (ix4 (bAt t) (hAt t) j d) := by
  show V m c main_arg3 ((((cfgM m hO).win 5).rect t).emb (ix4 0 0 j d)) = _
  rw [V_main_arg3]
  refine congrArg _ (funext fun a => Fin.ext ?_)
  refine (Window.rect_emb_val ((cfgM m hO).win 5) t (ix4 0 0 j d) a rfl).trans ?_
  rw [show ((cfgM m hO).win 5).index t = ![(bAt t).val, (hAt t).val, 0, 0] from idx5' t]
  fin_cases a
  · show (bAt t).val * 1 + 0 = (bAt t).val
    omega
  · show (hAt t).val * 1 + 0 = (hAt t).val
    omega
  · show 0 * 4096 + j.val = j.val
    omega
  · show 0 * 128 + d.val = d.val
    omega

theorem k2_at (c : Dev nD) (t : Fin grid0.N) (j : Fin 4096) (d : Fin 128) :
    iblk m hO c 6 t (ix4 0 0 j d) = m ((c : Thread nD τ).loc main_arg4) (ix4 (bAt t) (hAt t) j d) := by
  show V m c main_arg4 ((((cfgM m hO).win 6).rect t).emb (ix4 0 0 j d)) = _
  rw [V_main_arg4]
  refine congrArg _ (funext fun a => Fin.ext ?_)
  refine (Window.rect_emb_val ((cfgM m hO).win 6) t (ix4 0 0 j d) a rfl).trans ?_
  rw [show ((cfgM m hO).win 6).index t = ![(bAt t).val, (hAt t).val, 0, 0] from idx6' t]
  fin_cases a
  · show (bAt t).val * 1 + 0 = (bAt t).val
    omega
  · show (hAt t).val * 1 + 0 = (hAt t).val
    omega
  · show 0 * 4096 + j.val = j.val
    omega
  · show 0 * 128 + d.val = d.val
    omega

theorem v_at (c : Dev nD) (t : Fin grid0.N) (j : Fin 4096) (d : Fin 256) :
    iblk m hO c 7 t (ix4 0 0 j d) = m ((c : Thread nD τ).loc main_arg5) (ix4 (bAt t) (hAt t) j d) := by
  show V m c main_arg5 ((((cfgM m hO).win 7).rect t).emb (ix4 0 0 j d)) = _
  rw [V_main_arg5]
  refine congrArg _ (funext fun a => Fin.ext ?_)
  refine (Window.rect_emb_val ((cfgM m hO).win 7) t (ix4 0 0 j d) a rfl).trans ?_
  rw [show ((cfgM m hO).win 7).index t = ![(bAt t).val, (hAt t).val, 0, 0] from idx7' t]
  fin_cases a
  · show (bAt t).val * 1 + 0 = (bAt t).val
    omega
  · show (hAt t).val * 1 + 0 = (hAt t).val
    omega
  · show 0 * 4096 + j.val = j.val
    omega
  · show 0 * 256 + d.val = d.val
    omega

theorem lam_at (c : Dev nD) (t : Fin grid0.N) (a : Fin 4) (d : Fin 64) :
    iblk m hO c 0 t (ix2 a d) = m ((c : Thread nD τ).loc main_arg6) (ix2 a d) := by
  show V m c main_arg6 ((((cfgM m hO).win 0).rect t).emb (ix2 a d)) = _
  rw [V_main_arg6]
  refine congrArg _ (funext fun x => Fin.ext ?_)
  refine (Window.rect_emb_val ((cfgM m hO).win 0) t (ix2 a d) x rfl).trans ?_
  rw [show ((cfgM m hO).win 0).index t = ![0, 0] from idx0' t]
  fin_cases x
  · show 0 * 4 + a.val = a.val
    omega
  · show 0 * 64 + d.val = d.val
    omega

/-- An index divided by the chunk's length, as @main computes it. -/
theorem chunk_at : ∀ i : Fin 512, IntOp.divsi ArithUnit.host (BitVec.ofNat 32 i.val) 64#32 = BitVec.ofNat 32 (i.val / 64) := by
  decide +kernel

theorem sle_chunk : ∀ a b : Fin 8, IntOp.cmpi .sle (BitVec.ofNat 32 a.val) (BitVec.ofNat 32 b.val) = if a.val ≤ b.val then 1#1 else 0#1 := by
  decide +kernel

theorem bias_at (c : Dev nD) (r s : Fin 512) : V m c main_v10 (ix2 r s) = if s.val / 64 ≤ r.val / 64 then (0 : EReal) else ⊥ := by
  entry_read
  pointwise
  rw [chunk_at, chunk_at, sle_chunk ⟨s.val / 64, by omega⟩ ⟨r.val / 64, by omega⟩]
  have hbot : Ideal.ofBits .f32 0xFF800000#32 = ⊥ := by simp [Ideal.ofBits, Ideal.ieee]
  by_cases hc : s.val / 64 ≤ r.val / 64
  · rw [if_pos hc, if_pos hc]
    rfl
  · rw [if_neg hc, if_neg hc]
    exact hbot

theorem gain_at (c : Dev nD) (e : Fin 128) : V m c main_v11 (ix2 0 e) = m ((c : Thread nD τ).loc main_arg7) (ix1 e) := by
  entry_read
  pointwise

theorem bias_blk (c : Dev nD) (t : Fin grid0.N) : Val.Bi (iblk m hO c 2 t) := by
  intro r s
  refine Eq.trans ?_ (bias_at m c r s)
  show V m c main_v10 ((((cfgM m hO).win 2).rect t).emb (ix2 r s)) = _
  refine congrArg _ (funext fun a => Fin.ext ?_)
  refine (Window.rect_emb_val ((cfgM m hO).win 2) t (ix2 r s) a rfl).trans ?_
  rw [show ((cfgM m hO).win 2).index t = ![0, 0] from idx2' t]
  fin_cases a
  · show 0 * 512 + r.val = r.val
    omega
  · show 0 * 512 + s.val = s.val
    omega

theorem gain_blk (c : Dev nD) (t : Fin grid0.N) (e : Fin 128) : iblk m hO c 1 t (ix2 0 e) = m ((c : Thread nD τ).loc main_arg7) (ix1 e) := by
  refine Eq.trans ?_ (gain_at m c e)
  show V m c main_v11 ((((cfgM m hO).win 1).rect t).emb (ix2 0 e)) = _
  refine congrArg _ (funext fun a => Fin.ext ?_)
  refine (Window.rect_emb_val ((cfgM m hO).win 1) t (ix2 0 e) a rfl).trans ?_
  rw [show ((cfgM m hO).win 1).index t = ![0, 0] from idx1' t]
  fin_cases a
  · show 0 * 1 + 0 = 0
    omega
  · show 0 * 128 + e.val = e.val
    omega

/-! ## The array -/

open Cert.Pre_packed (Fine)
open Cert.ReferenceIdeal.Value (oR outR lamR lamR_at outR_at)
open Cert.Attn (sc shift vals)

/-- The reference's result of the launch memory's arguments. -/
def want (c : Dev nD) : FVec Ideal S8x4096x512 .bf16 :=
  outR (oR (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6))) (m ((c : Thread nD τ).loc main_arg7))

/-- The arguments a device holds are as the precondition leaves them. -/
def FineAt (c : Dev nD) : Prop :=
  Fine (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6))

/-- What a grid point leaves in its output block, at an element of the block. -/
theorem point (c : Dev nD) (hf : FineAt m c) (t : Fin grid0.N) (fl : BitVec 32) (r : Fin 512) (e : Fin 128) :
    blkOut (grid0.coords t) fl (iblk m hO c 0 t) (iblk m hO c 1 t) (iblk m hO c 2 t) (iblk m hO c 3 t) (iblk m hO c 4 t) (iblk m hO c 5 t) (iblk m hO c 6 t) (iblk m hO c 7 t) (ix3 0 r e) =
      want m c (ix3 (bAt t) ⟨512 * (iAt t).val + r.val, by have := (iAt t).isLt; omega⟩ ⟨128 * (hAt t).val + e.val, by have := (hAt t).isLt; omega⟩) := by
  have hi := (iAt t).isLt
  have h1 : Val.Sc (iblk m hO c 3 t) (iblk m hO c 5 t) (sc (m ((c : Thread nD τ).loc main_arg1)) (m ((c : Thread nD τ).loc main_arg3)) (bAt t) (hAt t) (iAt t).val 128 le_rfl) := by
    intro r j
    refine (Finset.sum_congr rfl fun d _ => ?_).trans (Attn.dot_real _ _ (bAt t) (hAt t) (iAt t).val 128 le_rfl (hf.r1 _ _) (hf.r3 _ _) (hf.zero3 _ _) r.val j.val (by omega) j.isLt)
    rw [q1_at, k1_at]
  have h2 : Val.Sc (iblk m hO c 4 t) (iblk m hO c 6 t) (sc (m ((c : Thread nD τ).loc main_arg2)) (m ((c : Thread nD τ).loc main_arg4)) (bAt t) (hAt t) (iAt t).val 128 le_rfl) := by
    intro r j
    refine (Finset.sum_congr rfl fun d _ => ?_).trans (Attn.dot_real _ _ (bAt t) (hAt t) (iAt t).val 128 le_rfl (hf.r2 _ _) (hf.r4 _ _) (hf.zero4 _ _) r.val j.val (by omega) j.isLt)
    rw [q2_at, k2_at]
  have hv : Val.Vl (iblk m hO c 7 t) (vals (m ((c : Thread nD τ).loc main_arg5)) (bAt t) (hAt t)) := by
    intro j e he
    rw [v_at, hf.r5 _ _ _ _ he]
    unfold vals
    rw [Attn.pos_of _ j.isLt]
    have he : (⟨e.val % 256, Nat.mod_lt _ (by decide)⟩ : Fin 256) = e := Fin.ext (Nat.mod_eq_of_lt e.isLt)
    rw [he]
  have hl : Val.Lam (iblk m hO c 0 t) (lamR (F := Ideal) (m ((c : Thread nD τ).loc main_arg6)) Idealize.ShloMosaic.ix0 : EReal).toReal := by
    unfold Val.Lam
    rw [← Attn.lam_real hf, lamR_at]
    simp only [lam_at]
  refine (Val.blkOut_val (grid0.coords t) fl h1 h2 hv (bias_blk m hO c t) (Attn.sc_shift _ _ _ _ _ (hf.one3 _ _) (hf.zero3 _ _)) (Attn.sc_shift _ _ _ _ _ (hf.one4 _ _) (hf.zero4 _ _))
    (Attn.vals_one _ _ _ (hf.one5 _ _)) hl r e).trans ?_
  unfold want
  rw [outR_at, gain_blk]
  refine congrArg (fun o => Val.normed o _ e) (funext fun d => ?_)
  exact (Attn.ref_o (bAt t) (hAt t) (iAt t).val hf hi r d).symm

/-- Where an element of the output block lies in the array. -/
theorem out_emb (t : Fin grid0.N) (r : Fin 512) (e : Fin 128) :
    (((cfgM m hO).win 8).rect t).emb (ix3 0 r e) = (ix3 (bAt t) ⟨512 * (iAt t).val + r.val, by have := (iAt t).isLt; omega⟩ ⟨128 * (hAt t).val + e.val, by have := (hAt t).isLt; omega⟩ : S8x4096x512.Idx) := by
  refine funext fun a => Fin.ext ?_
  refine (Window.rect_emb_val ((cfgM m hO).win 8) t (ix3 0 r e) a rfl).trans ?_
  rw [show ((cfgM m hO).win 8).index t = ![(bAt t).val, (iAt t).val, (hAt t).val] from idx8' t]
  fin_cases a
  · show (bAt t).val * 1 + 0 = (bAt t).val
    omega
  · show (iAt t).val * 512 + r.val = 512 * (iAt t).val + r.val
    omega
  · show (hAt t).val * 128 + e.val = 128 * (hAt t).val + e.val
    omega

/-- An index of the output block by its coordinates. -/
theorem out_idx (y : S1x512x128.Idx) : ∃ (r : Fin 512) (e : Fin 128), y = ix3 0 r e := by
  refine ⟨⟨(y 1).val, (y 1).isLt⟩, ⟨(y 2).val, (y 2).isLt⟩, funext fun a => ?_⟩
  fin_cases a
  · exact Fin.ext (Nat.lt_one_iff.mp (y 0).isLt)
  · rfl
  · rfl

/-- The array after the run is the reference's. -/
theorem final (c : Dev nD) (hf : FineAt m c) : (dats m hO 0 c).arrAt 8 (cfgM m hO).N = want m c := by
  refine (dats m hO 0 c).arrAt_eq_of_covers 8 _ (cov8 m hO) fun t _ y => ?_
  show (dats m hO 0 c).after 8 t y = want m c ((((cfgM m hO).win 8).rect t).emb y)
  rw [after0_8]
  obtain ⟨r, e, rfl⟩ := out_idx y
  exact (point m hO c hf t _ r e).trans (congrArg (want m c) (out_emb m hO t r e).symm)

end Cert.KernelIdeal.Gen
-- ==== Proof.MGather.lean ====
/- Lookups by an array of indices, read at an element: from a list, from the rows of a matrix, from the matrices of a stack. -/
module

public import Idealize.ShloMosaic.Lib.Pointwise

@[expose] public section

namespace Cert.Lookup

open Idealize.ShloMosaic

variable {α : Type} {N B R C w : ℕ}

/-- The position the lookup reads: the index read signed, clamped into the axis. -/
abbrev pos (N : ℕ) (hN : 0 < N) {w : ℕ} (x : BitVec w) : Fin N := ⟨min x.toInt.toNat (N - 1), by omega⟩

abbrev dims1 (N B : ℕ) (wf : GatherDims.WF ⟨1, ![N]⟩ ⟨2, ![B, 1]⟩ ⟨1, ![B]⟩ [] [0] [] [0] [] 1 ![1]) : GatherDims ⟨1, ![N]⟩ ⟨2, ![B, 1]⟩ ⟨1, ![B]⟩ where
  offsetDims := []
  collapsedSliceDims := [0]
  operandBatchingDims := []
  startIndicesBatchingDims := []
  startIndexMap := [0]
  indexVectorDim := 1
  sliceSizes := ![1]
  wf := wf

abbrev dims2 (N C B : ℕ) (wf : GatherDims.WF ⟨2, ![N, C]⟩ ⟨2, ![B, 1]⟩ ⟨2, ![B, C]⟩ [1] [0] [] [0] [] 1 ![1, C]) : GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

abbrev dims3 (N R C B : ℕ) (wf : GatherDims.WF ⟨3, ![N, R, C]⟩ ⟨2, ![B, 1]⟩ ⟨3, ![B, R, C]⟩ [1, 2] [0] [] [0] [] 1 ![1, R, C]) : GatherDims ⟨3, ![N, R, C]⟩ ⟨2, ![B, 1]⟩ ⟨3, ![B, R, C]⟩ where
  offsetDims := [1, 2]
  collapsedSliceDims := [0]
  operandBatchingDims := []
  startIndicesBatchingDims := []
  startIndexMap := [0]
  indexVectorDim := 1
  sliceSizes := ![1, R, C]
  wf := wf

/-- From a list. -/
theorem take1 (hN : 0 < N) (wf) (x : (⟨1, ![N]⟩ : Shape).Idx → α) (idx : IVec ⟨2, ![B, 1]⟩ w) (b : Fin B) :
    Host.gather (dims1 N B wf) x idx (ix1 b) = x (ix1 (pos N hN (idx (ix2 b 0)))) := by
  unfold Host.gather
  congr 1
  funext a
  obtain rfl : a = 0 := Subsingleton.elim _ _
  refine Fin.ext ?_
  show (dims1 N B wf).start (ix1 b) idx 0 + (dims1 N B wf).batchCoord (ix1 b) 0 + (dims1 N B wf).offCoord (ix1 b) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (dims1 N B wf).startIndexMap from List.mem_singleton.mpr rfl)]
  refine congrArg (fun z => min (BitVec.toInt (idx z)).toNat (N - 1)) (funext fun b' => Fin.ext ?_)
  match b' with
  | ⟨0, _⟩ => rfl
  | ⟨1, _⟩ => rfl

/-- From the rows of a matrix. -/
theorem take2 (hN : 0 < N) (wf) (x : (⟨2, ![N, C]⟩ : Shape).Idx → α) (idx : IVec ⟨2, ![B, 1]⟩ w) (b : Fin B) (j : Fin C) :
    Host.gather (dims2 N C B wf) x idx (ix2 b j) = x (ix2 (pos N hN (idx (ix2 b 0))) j) := by
  unfold Host.gather
  congr 1
  funext a
  refine Fin.ext ?_
  show (dims2 N C B wf).start (ix2 b j) idx a + (dims2 N C B wf).batchCoord (ix2 b j) a + (dims2 N C B wf).offCoord (ix2 b j) a = _
  rw [GatherDims.batchCoord_eq_zero _ _ _ List.not_mem_nil]
  fin_cases a
  · show (dims2 N C B wf).start (ix2 b j) idx 0 + 0 + (dims2 N C B wf).offCoord (ix2 b j) 0 = _
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 N C B wf).startIndexMap from List.mem_singleton.mpr rfl)]
    refine congrArg (fun z => min (BitVec.toInt (idx z)).toNat (N - 1)) (funext fun b' => Fin.ext ?_)
    match b' with
    | ⟨0, _⟩ => rfl
    | ⟨1, _⟩ => rfl
  · show (dims2 N C B wf).start (ix2 b j) idx 1 + 0 + (dims2 N C B wf).offCoord (ix2 b j) 1 = j.val
    unfold GatherDims.start
    rw [dif_neg (show (1 : Fin 2) ∉ (dims2 N C B wf).startIndexMap from fun h => absurd (List.mem_singleton.mp h) (show ¬ (1 : Fin 2) = 0 by decide))]
    simp only [Nat.zero_add]
    rfl

/-- From the matrices of a stack. -/
theorem take3 (hN : 0 < N) (wf) (x : (⟨3, ![N, R, C]⟩ : Shape).Idx → α) (idx : IVec ⟨2, ![B, 1]⟩ w) (b : Fin B) (r : Fin R) (j : Fin C) :
    Host.gather (dims3 N R C B wf) x idx (ix3 b r j) = x (ix3 (pos N hN (idx (ix2 b 0))) r j) := by
  unfold Host.gather
  congr 1
  funext a
  refine Fin.ext ?_
  show (dims3 N R C B wf).start (ix3 b r j) idx a + (dims3 N R C B wf).batchCoord (ix3 b r j) a + (dims3 N R C B wf).offCoord (ix3 b r j) a = _
  rw [GatherDims.batchCoord_eq_zero _ _ _ List.not_mem_nil]
  fin_cases a
  · show (dims3 N R C B wf).start (ix3 b r j) idx 0 + 0 + (dims3 N R C B wf).offCoord (ix3 b r j) 0 = _
    rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (dims3 N R C B wf).startIndexMap from List.mem_singleton.mpr rfl)]
    refine congrArg (fun z => min (BitVec.toInt (idx z)).toNat (N - 1)) (funext fun b' => Fin.ext ?_)
    match b' with
    | ⟨0, _⟩ => rfl
    | ⟨1, _⟩ => rfl
  · show (dims3 N R C B wf).start (ix3 b r j) idx 1 + 0 + (dims3 N R C B wf).offCoord (ix3 b r j) 1 = r.val
    unfold GatherDims.start
    rw [dif_neg (show (1 : Fin 3) ∉ (dims3 N R C B wf).startIndexMap from fun h => absurd (List.mem_singleton.mp h) (show ¬ (1 : Fin 3) = 0 by decide))]
    simp only [Nat.zero_add]
    rfl
  · show (dims3 N R C B wf).start (ix3 b r j) idx 2 + 0 + (dims3 N R C B wf).offCoord (ix3 b r j) 2 = j.val
    unfold GatherDims.start
    rw [dif_neg (show (2 : Fin 3) ∉ (dims3 N R C B wf).startIndexMap from fun h => absurd (List.mem_singleton.mp h) (show ¬ (2 : Fin 3) = 0 by decide))]
    simp only [Nat.zero_add]
    rfl

end Cert.Lookup

end
-- ==== Proof.MLast.lean ====
/- The block a launch reads for a block beyond the count: the last counted one. Facts of words alone. -/
module

public import proofs.«01_k».proof.Proof.MGather
public import proofs.«01_k».proof.Proof.Gen.Pre_experts_exist

@[expose] public section

noncomputable section

namespace Cert.Lookup

open Idealize.ShloMosaic

/-- The block's number capped at the last counted block's, and at zero when nothing is counted. -/
def lastW (i : ℕ) (n : BitVec 32) : BitVec 32 := IntOp.maxsi (IntOp.minsi (BitVec.ofNat 32 i) (n - 1#32)) 0#32

theorem maxsi_toInt (a b : BitVec 32) : (IntOp.maxsi a b).toInt = max a.toInt b.toInt := by
  unfold IntOp.maxsi
  by_cases h : b.toInt < a.toInt
  · rw [if_pos (by simp [BitVec.slt, h])]; omega
  · rw [if_neg (by simp [BitVec.slt]; omega)]; omega

theorem minsi_toInt (a b : BitVec 32) : (IntOp.minsi a b).toInt = min a.toInt b.toInt := by
  unfold IntOp.minsi
  by_cases h : a.toInt < b.toInt
  · rw [if_pos (by simp [BitVec.slt, h])]; omega
  · rw [if_neg (by simp [BitVec.slt]; omega)]; omega

/-- A small number's word reads back as the number. -/
theorem ofNat_toInt (i : ℕ) (h : i < 160) : (BitVec.ofNat 32 i).toInt = (i : ℤ) := by
  rw [BitVec.toInt_eq_toNat_of_lt (by rw [BitVec.toNat_ofNat]; omega), BitVec.toNat_ofNat]; omega

theorem lastW_toInt (i : ℕ) (h : i < 160) (n : BitVec 32) : (lastW i n).toInt = max (min (i : ℤ) (n - 1#32).toInt) 0 := by
  unfold lastW
  rw [maxsi_toInt, minsi_toInt, ofNat_toInt i h]; rfl

/-- It is a block's number, not beyond the block itself. -/
theorem lastW_le (i : ℕ) (h : i < 160) (n : BitVec 32) : (lastW i n).toNat ≤ i := by
  have e := lastW_toInt i h n
  have hb : 0 ≤ (lastW i n).toInt ∧ (lastW i n).toInt ≤ i := by omega
  have := BitVec.toInt_eq_toNat_cond (lastW i n)
  have := (lastW i n).isLt
  split at * <;> omega

/-- A counted block's is its own. -/
theorem lastW_used (i : ℕ) (h : i < 160) (n : BitVec 32) (hn : (i : ℤ) < n.toInt) : (lastW i n).toNat = i := by
  have e := lastW_toInt i h n
  have hs : (n - 1#32).toInt = n.toInt - 1 := by
    have h1 : n.toInt < 2147483648 := by have := BitVec.toInt_lt (x := n); simpa using this
    rw [BitVec.toInt_sub, show (1#32 : BitVec 32).toInt = 1 from rfl]
    refine Int.bmod_eq_of_le ?_ ?_ <;> omega
  have hb : (lastW i n).toInt = i := by omega
  have := BitVec.toInt_eq_toNat_cond (lastW i n)
  have := (lastW i n).isLt
  split at * <;> omega

/-- A word that is not negative reads signed as its number. -/
theorem toInt_of_small (x : BitVec 32) (k : ℕ) (hk : k < 2147483648) (h : x.toNat < k) : x.toInt = (x.toNat : ℤ) :=
  BitVec.toInt_eq_toNat_of_lt (by omega)

/-- An index taken modulo the axis when negative stays itself when it is not negative. -/
theorem wrap (x : BitVec 32) (n : BitVec 32) (h : 0 ≤ x.toInt) :
    (if IntOp.cmpi .slt x 0#32 = 1#1 then x + n else x) = x := by
  rw [if_neg]
  have h' : ¬ x.toInt < 0 := by omega
  simp [IntOp.cmpi, BitVec.slt, h']

/-- A small word's position is its number. -/
theorem pos_val (N : ℕ) (hN : 0 < N) (hs : N ≤ 2147483648) (x : BitVec 32) (h : x.toNat < N) : (pos N hN x).val = x.toNat := by
  have e : x.toInt = (x.toNat : ℤ) := BitVec.toInt_eq_toNat_of_lt (by omega)
  show min x.toInt.toNat (N - 1) = _
  rw [e]; omega

/-- The last block that is read: the last counted one, and the first when nothing is counted. -/
def topW (n : BitVec 32) : BitVec 32 := IntOp.maxsi (n - 1#32) 0#32

/-- A block read for another one is not beyond the last that is read. -/
theorem lastW_top (i : ℕ) (h : i < 160) (n : BitVec 32) : ((lastW i n).toNat : ℤ) ≤ (topW n).toInt := by
  have hl := lastW_le i h n
  rw [← toInt_of_small (lastW i n) 160 (by decide) (by omega), lastW_toInt i h, topW, maxsi_toInt]
  have : (0#32 : BitVec 32).toInt = 0 := rfl
  omega

/-- The precondition at a block that is read: its expert is one of the thirty-two. -/
theorem small_of_pre {F : FTy → Type} [FloatOps F] (x0 x1 x2 x3 x4 x5 x6 x7 x8)
    (h : Cert.Pre_experts_exist.fn (F := F) x0 x1 x2 x3 x4 x5 x6 x7 x8 = fun _ => 1#1) (i : Fin 160) (hi : (i.val : ℤ) ≤ (topW (x2 (ix1 0))).toInt) :
    (x1 (ix1 i)).toNat < 32 := by
  have e : IntOp.ori (IntOp.cmpi .sgt (BitVec.ofNat 32 i.val) (topW (x2 (ix1 0)))) (IntOp.andi (IntOp.cmpi .sge (x1 (ix1 i)) 0#32) (IntOp.cmpi .slt (x1 (ix1 i)) 32#32)) = 1#1 := by
    have := congrFun h (ix1 i)
    revert this
    pointwise [Cert.Pre_experts_exist.fn]
    exact id
  have hn : IntOp.cmpi .sgt (BitVec.ofNat 32 i.val) (topW (x2 (ix1 0))) = 0#1 := by
    have : ¬ (topW (x2 (ix1 0))).toInt < (BitVec.ofNat 32 i.val).toInt := by rw [ofNat_toInt i.val i.isLt]; omega
    simp [IntOp.cmpi, BitVec.slt, this]
  rw [hn] at e
  generalize x1 (ix1 i) = x at *
  have hx : 0 ≤ x.toInt ∧ x.toInt < 32 := by
    by_cases h0 : 0 ≤ x.toInt <;> by_cases h1 : x.toInt < 32
    · exact ⟨h0, h1⟩
    all_goals simp [IntOp.ori, IntOp.andi, IntOp.cmpi, BitVec.slt, BitVec.sle, h0, h1] at e
  have := BitVec.toInt_eq_toNat_cond x
  have := x.isLt
  split at * <;> omega

end Cert.Lookup

end
-- ==== Proof.MPoints.lean ====
/- What the runs of the experts' call share: the buffers' contents before the call, the two tables, the windows' blocks, the
   branch conditions, the staging and scratch memrefs. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Kit
public import Idealize.ShloMosaic.Lib.Ring
public import Idealize.ShloMosaic.Lib.Pointwise
public import Idealize.ShloMosaic.Lib.Tactic
public import Idealize.ShloMosaic.Lib.WordCmp

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the call -/

/-- Core `c`'s buffers when the call is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main is its host operations, then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer no host operation writes is found as it was launched. -/
theorem V_kept (c : Dev nD) (b : Ref sig .tc)
    (hb : b ∉ [main_v0, main_v1, main_c, main_v2, main_v3, main_v4, main_c_0, main_v5, main_v6, main_c_1, main_v7, main_v8, main_c_2, main_v9, main_v10, main_v11, main_v12, main_v13, main_v14, main_v15, main_v16]) :
    V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.reshape_writes, Finset.mem_singleton]
    simp only [List.mem_cons, List.not_mem_nil, or_false, not_or] at hb
    obtain ⟨h0, h1, h2, h3, h4, h5, h6, h7, h8, h9, h10, h11, h12, h13, h14, h15, h16, h17, h18, h19, h20⟩ := hb
    repeat' apply And.intro
    all_goals first
      | exact StableHlo.devRef_ne_of_ne h0 | exact StableHlo.devRef_ne_of_ne h1 | exact StableHlo.devRef_ne_of_ne h2
      | exact StableHlo.devRef_ne_of_ne h3 | exact StableHlo.devRef_ne_of_ne h4 | exact StableHlo.devRef_ne_of_ne h5
      | exact StableHlo.devRef_ne_of_ne h6 | exact StableHlo.devRef_ne_of_ne h7 | exact StableHlo.devRef_ne_of_ne h8
      | exact StableHlo.devRef_ne_of_ne h9 | exact StableHlo.devRef_ne_of_ne h10 | exact StableHlo.devRef_ne_of_ne h11
      | exact StableHlo.devRef_ne_of_ne h12 | exact StableHlo.devRef_ne_of_ne h13 | exact StableHlo.devRef_ne_of_ne h14
      | exact StableHlo.devRef_ne_of_ne h15 | exact StableHlo.devRef_ne_of_ne h16 | exact StableHlo.devRef_ne_of_ne h17
      | exact StableHlo.devRef_ne_of_ne h18 | exact StableHlo.devRef_ne_of_ne h19 | exact StableHlo.devRef_ne_of_ne h20))

/-! ## The tables -/

/-- The tables' contents when the call is entered (there is one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every block the tables name lies in its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables as the body is handed them. -/
abbrev tbM0_0 : Memref sig .tc .smem S160 .i32 := Memref.whole main_v13
abbrev htbM0_0 : tbM0_0.IsWhole := Memref.isWhole_whole _
abbrev tbM0_1 : Memref sig .tc .smem S1 .i32 := Memref.whole main_arg2
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The halves of the tables the body holds, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [bigSep_univ_eq_bigSepL [(0 : Fin 2), (1 : Fin 2)] (by decide) (by decide)]
  rfl

/-! ## The windows' blocks -/

/-- Window `w`'s block at point `t`, read off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The body's branch conditions -/

/-- The block is in use and its expert is another than the block's before: the body loads the expert's weights. -/
abbrev cond1 (i : grid0.Coords) (v0 v4 v8 : BitVec 32) : Prop :=
  (Scalar.cmpi .ne (Scalar.extui (Scalar.andi (Scalar.cmpi .slt (BitVec.ofNat 32 (i 0).val) v0) (Scalar.ori (Scalar.cmpi .eq (BitVec.ofNat 32 (i 0).val) 0#32) (Scalar.cmpi .ne v4 v8)))) 0#32) = 1#1

theorem ofBool_iff : ∀ b : Bool, BitVec.ofBool b = 1#1 ↔ b = true := by decide

theorem bit_ne : ∀ b : BitVec 1, Scalar.cmpi .ne (Scalar.extui b : BitVec 32) 0#32 = b := by decide +kernel

theorem cond2_eq (i : grid0.Coords) (v0 : BitVec 32) : k0_cond2 i v0 = Scalar.cmpi .slt (BitVec.ofNat 32 (i 0).val) v0 := by
  unfold k0_cond2; exact bit_ne _

theorem cond3_eq (i : grid0.Coords) (v0 : BitVec 32) : k0_cond3 i v0 = Scalar.xori (Scalar.cmpi .slt (BitVec.ofNat 32 (i 0).val) v0) 1#1 := by
  unfold k0_cond3; exact bit_ne _

theorem cond1_iff (i : grid0.Coords) (v0 v4 v8 : BitVec 32) : cond1 i v0 v4 v8 ↔ k0_cond2 i v0 = 1#1 ∧ (BitVec.ofNat 32 (i 0).val = 0#32 ∨ v4 ≠ v8) := by
  unfold cond1
  rw [cond2_eq, bit_ne]
  have key : ∀ a b d : BitVec 1, Scalar.andi a (Scalar.ori b d) = 1#1 ↔ a = 1#1 ∧ (b = 1#1 ∨ d = 1#1) := by decide +kernel
  rw [key]
  have h1 : Scalar.cmpi .eq (BitVec.ofNat 32 (i 0).val) 0#32 = 1#1 ↔ BitVec.ofNat 32 (i 0).val = 0#32 := by
    exact (ofBool_iff _).trans beq_iff_eq
  have h2 : Scalar.cmpi .ne v4 v8 = 1#1 ↔ v4 ≠ v8 := by
    exact (ofBool_iff _).trans bne_iff_ne
  rw [h1, h2]

theorem cond3_iff (i : grid0.Coords) (v0 : BitVec 32) : k0_cond3 i v0 = 1#1 ↔ ¬ k0_cond2 i v0 = 1#1 := by
  rw [cond2_eq, cond3_eq]
  have key : ∀ a : BitVec 1, Scalar.xori a 1#1 = 1#1 ↔ ¬ a = 1#1 := by decide +kernel
  exact key _

theorem slt_iff (a b : BitVec 32) : Scalar.cmpi .slt a b = 1#1 ↔ a.toInt < b.toInt := by
  by_cases h : a.toInt < b.toInt <;> simp [Scalar.cmpi, IntOp.cmpi, BitVec.slt, h]

/-- A block is in use when its number is below the count. -/
theorem used_iff (i : grid0.Coords) (v0 : BitVec 32) : k0_cond2 i v0 = 1#1 ↔ ((i 0).val : ℤ) < v0.toInt := by
  rw [cond2_eq, slt_iff]
  have hi : (i 0).val < 160 := (i 0).isLt
  rw [show (BitVec.ofNat 32 (i 0).val).toInt = ((i 0).val : ℤ) from by
    rw [BitVec.toInt_eq_toNat_of_lt (by rw [BitVec.toNat_ofNat]; omega), BitVec.toNat_ofNat]; omega]

/-- At every point the body stores the output block, in the one branch or the other. -/
theorem live (pf : pre0.Contents (Elt F)) (i : grid0.Coords) : idle0 pf 7 i = false := by
  show (!(k0_cond2 i (pf.atD 1 ![0]) == 1#1) && !(k0_cond3 i (pf.atD 1 ![0]) == 1#1)) = false
  by_cases h : k0_cond2 i (pf.atD 1 ![0]) = 1#1
  · rw [h]; rfl
  · rw [(cond3_iff _ _).mpr h]; simp

/-! ## The memrefs -/

abbrev ms0_0 (hO : Ok m) (t : Fin (cfgM m hO).N) : Memref sig .tc .vmem S1024x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1024x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x1024 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1024x1024 .f32 := spec0_7.stage ((cfgM m hO).slots t 7)
abbrev hs0_7 (hO : Ok m) (t : Fin (cfgM m hO).N) : (ms0_7 m hO t).IsWhole := hstage0_7 (((cfgM m hO).slots t 7).cast nbuf0_7)

/-- The scratch operands: the expert's three weights, kept from point to point. -/
abbrev scM0_0 : Memref sig .tc .vmem S1024x1024 .bf16 := Memref.whole cc0_scratch0
abbrev scM0_1 : Memref sig .tc .vmem S1024x1024 .bf16 := Memref.whole cc0_scratch1
abbrev scM0_2 : Memref sig .tc .vmem S1024x1024 .bf16 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The kernel body at point `t`, on what the pipeline calls it with. -/
abbrev bodyAt0 (a : (pcfg0 (F := F)).Adm) (t : Fin (cfg0 a).N) : Prog (TpuEff nD τ sig (Elt F) Λ₀ .tc) PUnit :=
  cc0__moe_kernel (grid0.coords t) (Memref.whole main_v13) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _)

/-! ## The blocks of the windows, and the tables' words -/

/-- The count of blocks in use, as the body reads it. -/
abbrev usedW (c : Dev nD) (xt : TbBuf0 (F := F) c tbM0_1) : BitVec 32 :=
  tbM0_1.view.readAt (Elt F) (Rect.unit (s := S1) ![0] S1.size inb_S1_S1_0).toLoadRect xt (Shape.Idx.first (numel1_S1.symm ▸ Nat.one_pos))
/-- The expert of the block, and of the block before. -/
abbrev expW (c : Dev nD) (i : grid0.Coords) (xt : TbBuf0 (F := F) c tbM0_0) : BitVec 32 :=
  tbM0_0.view.readAt (Elt F) (Rect.unit (s := S160) (k0_off1 i) S1.size (k0_off1_inb i)).toLoadRect xt (Shape.Idx.first (numel1_S1.symm ▸ Nat.one_pos))
abbrev prevW (c : Dev nD) (i : grid0.Coords) (xt : TbBuf0 (F := F) c tbM0_0) : BitVec 32 :=
  tbM0_0.view.readAt (Elt F) (Rect.unit (s := S160) (k0_off2 i) S1.size (k0_off2_inb i)).toLoadRect xt (Shape.Idx.first (numel1_S1.symm ▸ Nat.one_pos))

theorem off1_eq : ∀ i : grid0.Coords, k0_off1 i 0 = (i 0).val := by decide +kernel
theorem off2_eq : ∀ i : grid0.Coords, k0_off2 i 0 = (i 0).val - 1 := by decide +kernel

theorem expW_eq (c : Dev nD) (i : grid0.Coords) (xt : TbBuf0 (F := F) c tbM0_0) : expW c i xt = xt (ix1 ⟨(i 0).val, (i 0).isLt⟩) := by
  refine congrArg xt (funext fun a => Fin.ext ?_)
  fin_cases a
  show k0_off1 i 0 + 1 * 0 = (i 0).val
  rw [off1_eq]; omega

theorem prevW_eq (c : Dev nD) (i : grid0.Coords) (xt : TbBuf0 (F := F) c tbM0_0) : prevW c i xt = xt (ix1 ⟨(i 0).val - 1, by have h : (i 0).val < 160 := (i 0).isLt; omega⟩) := by
  refine congrArg xt (funext fun a => Fin.ext ?_)
  fin_cases a
  show k0_off2 i 0 + 1 * 0 = (i 0).val - 1
  rw [off2_eq]; omega

/-! ## Where each window's block lies -/

theorem wi1 (hO : Ok m) (t : Fin (cfgM m hO).N) : ((cfgM m hO).win 1).index t = ![(expW 0 (grid0.coords t) (tbl m 0)).toNat, 0, 0] := rfl
theorem wi2 (hO : Ok m) (t : Fin (cfgM m hO).N) : ((cfgM m hO).win 2).index t = ![(expW 0 (grid0.coords t) (tbl m 0)).toNat, 0, 0] := rfl
theorem wi3 (hO : Ok m) (t : Fin (cfgM m hO).N) : ((cfgM m hO).win 3).index t = ![(expW 0 (grid0.coords t) (tbl m 0)).toNat, 0, 0] := rfl
theorem wi4 (hO : Ok m) (t : Fin (cfgM m hO).N) : ((cfgM m hO).win 4).index t = ![(expW 0 (grid0.coords t) (tbl m 0)).toNat, 0, 0] := rfl
theorem wi5 (hO : Ok m) (t : Fin (cfgM m hO).N) : ((cfgM m hO).win 5).index t = ![(expW 0 (grid0.coords t) (tbl m 0)).toNat, 0, 0] := rfl
theorem wi6 (hO : Ok m) (t : Fin (cfgM m hO).N) : ((cfgM m hO).win 6).index t = ![(expW 0 (grid0.coords t) (tbl m 0)).toNat, 0, 0] := rfl

/-- Two blocks of one expert hold the same weights. -/
theorem w1_congr (hO : Ok m) (c : Dev nD) (s t : Fin (cfgM m hO).N) (h : expW 0 (grid0.coords s) (tbl m 0) = expW 0 (grid0.coords t) (tbl m 0)) :
    (iblk m hO c 1 s : Vec F S1x1024x1024 .f32) = iblk m hO c 1 t := by
  funext j
  refine congrArg (V m c main_arg3) (funext fun a => Fin.ext ?_)
  refine (Window.rect_emb_val ((cfgM m hO).win 1) s j a rfl).trans (Eq.trans ?_ (Window.rect_emb_val ((cfgM m hO).win 1) t j a rfl).symm)
  rw [wi1 m hO s, wi1 m hO t, h]
theorem w3_congr (hO : Ok m) (c : Dev nD) (s t : Fin (cfgM m hO).N) (h : expW 0 (grid0.coords s) (tbl m 0) = expW 0 (grid0.coords t) (tbl m 0)) :
    (iblk m hO c 3 s : Vec F S1x1024x1024 .f32) = iblk m hO c 3 t := by
  funext j
  refine congrArg (V m c main_arg5) (funext fun a => Fin.ext ?_)
  refine (Window.rect_emb_val ((cfgM m hO).win 3) s j a rfl).trans (Eq.trans ?_ (Window.rect_emb_val ((cfgM m hO).win 3) t j a rfl).symm)
  rw [wi3 m hO s, wi3 m hO t, h]
theorem w5_congr (hO : Ok m) (c : Dev nD) (s t : Fin (cfgM m hO).N) (h : expW 0 (grid0.coords s) (tbl m 0) = expW 0 (grid0.coords t) (tbl m 0)) :
    (iblk m hO c 5 s : Vec F S1x1024x1024 .f32) = iblk m hO c 5 t := by
  funext j
  refine congrArg (V m c main_arg7) (funext fun a => Fin.ext ?_)
  refine (Window.rect_emb_val ((cfgM m hO).win 5) s j a rfl).trans (Eq.trans ?_ (Window.rect_emb_val ((cfgM m hO).win 5) t j a rfl).symm)
  rw [wi5 m hO s, wi5 m hO t, h]

end Cert.Kernel2Ideal.Gen

end
-- ==== Proof.MRuns.lean ====
/- The runs of the experts' body: with new weights to load, with the weights kept, and for a block out of use. -/
module

public import proofs.«01_k».proof.Proof.MPoints
public import proofs.«01_k».proof.Proof.Whole

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a block in use leaves: the expert's gated product of the rows, from the weights as the scratch buffers hold them. -/
def moeBlk (x0 : Vec F S1024x1024 .f32) (s0 : Vec F S1024x1024 .bf16) (x2 : Vec F S1x1x1024 .f32) (s1 : Vec F S1024x1024 .bf16) (x4 : Vec F S1x1x1024 .f32) (s2 : Vec F S1024x1024 .bf16) (x6 : Vec F S1x1x1024 .f32) : Vec F S1024x1024 .f32 :=
  k0_pay4 (k0_pay6 x0 s0 x2 s1 x4 s2) x6

set_option maxHeartbeats 4000000 in
/-- A block in use with another expert than the block before: the body loads the expert's weights and computes with them. -/
theorem runN (c : Dev nD) (i : grid0.Coords) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S1024x1024 .f32) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (s0 s1 s2 : Vec F S1024x1024 .bf16) (xt0 : TbBuf0 (F := F) c tbM0_0) (xt1 : TbBuf0 (F := F) c tbM0_1)
    (hc1 : cond1 i (usedW c xt1) (expW c i xt0) (prevW c i xt0)) (hc2 : k0_cond2 i (usedW c xt1) = 1#1) (hc3 : ¬ k0_cond3 i (usedW c xt1) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare s0 ∗ owns (c : Thread nD τ) arg12 fullShare s1 ∗ owns (c : Thread nD τ) arg13 fullShare s2 ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (moeBlk x0 (k0_pay1 x1) x2 (k0_pay2 x3) x4 (k0_pay3 x5) x6) ∗ owns (c : Thread nD τ) arg11 fullShare (k0_pay1 x1) ∗ owns (c : Thread nD τ) arg12 fullShare (k0_pay2 x3) ∗ owns (c : Thread nD τ) arg13 fullShare (k0_pay3 x5) ∗ tbPt0 c tbM0_0 xt0 ∗ tbPt0 c tbM0_1 xt1) -∗ K ⟨⟩))
      ⊢ wp frame (wpE (defs₀ (F := F)) Variants.none c none) E (cc0__moe_kernel i tbM0_0 htbM0_0 tbM0_1 htbM0_1 arg3 harg3 arg4 harg4 arg5 harg5 arg6 harg6 arg7 harg7 arg8 harg8 arg9 harg9 arg10 harg10 arg11 harg11 arg12 harg12 arg13 harg13) K := by
  simp only [cc0__moe_kernel_eq_skeleton]; unfold cc0__moe_kernel_skel
  simp only [k0_part1_eq_skeleton]; try unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  obtain rfl := harg11.eq_unread hfs0; obtain rfl := harg12.eq_unread hfs1; obtain rfl := harg13.eq_unread hfs2
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    refine (View.read_writes_full arg10.view f7 _ _ _).trans ?_
    have e0 : runN.sl.v21 c arg4 harg4 arg11 x1 = k0_pay1 x1 :=
      (View.readAt_full arg11.view _ _).trans ((View.read_writes_full arg11.view _ _ _ _).trans (congrArg k0_pay1 (ld_full (F := F) harg4 x1 _ _)))
    have e1 : runN.sl.v27 c arg6 harg6 arg12 x3 = k0_pay2 x3 :=
      (View.readAt_full arg12.view _ _).trans ((View.read_writes_full arg12.view _ _ _ _).trans (congrArg k0_pay2 (ld_full (F := F) harg6 x3 _ _)))
    have e2 : runN.sl.v51 c arg8 harg8 arg13 x5 = k0_pay3 x5 :=
      (View.readAt_full arg13.view _ _).trans ((View.read_writes_full arg13.view _ _ _ _).trans (congrArg k0_pay3 (ld_full (F := F) harg8 x5 _ _)))
    unfold moeBlk
    rw [ld_full (F := F) harg3, e0, ld_full (F := F) harg5, e1, ld_full (F := F) harg7, e2]
    exact congrArg (k0_pay4 _) (ld_full (F := F) harg9 x6 _ _)
  isplitl [HS0]
  · iexists _; isplitr; swap; · iexact HS0
    ipureintro
    refine (View.read_writes_full arg11.view _ _ _ _).trans ?_
    exact congrArg k0_pay1 (ld_full (F := F) harg4 x1 _ _)
  isplitl [HS1]
  · iexists _; isplitr; swap; · iexact HS1
    ipureintro
    refine (View.read_writes_full arg12.view _ _ _ _).trans ?_
    exact congrArg k0_pay2 (ld_full (F := F) harg6 x3 _ _)
  isplitl [HS2]
  · iexists _; isplitr; swap; · iexact HS2
    ipureintro
    refine (View.read_writes_full arg13.view _ _ _ _).trans ?_
    exact congrArg k0_pay3 (ld_full (F := F) harg8 x5 _ _)
  isplitl [HT0]
  · iexact HT0
  iexact HT1

set_option maxHeartbeats 4000000 in
/-- A block in use with the expert of the block before: the body computes with the weights kept. -/
theorem runK (c : Dev nD) (i : grid0.Coords) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S1024x1024 .f32) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (s0 s1 s2 : Vec F S1024x1024 .bf16) (xt0 : TbBuf0 (F := F) c tbM0_0) (xt1 : TbBuf0 (F := F) c tbM0_1)
    (hc1 : ¬ cond1 i (usedW c xt1) (expW c i xt0) (prevW c i xt0)) (hc2 : k0_cond2 i (usedW c xt1) = 1#1) (hc3 : ¬ k0_cond3 i (usedW c xt1) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare s0 ∗ owns (c : Thread nD τ) arg12 fullShare s1 ∗ owns (c : Thread nD τ) arg13 fullShare s2 ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (moeBlk x0 s0 x2 s1 x4 s2 x6) ∗ owns (c : Thread nD τ) arg11 fullShare s0 ∗ owns (c : Thread nD τ) arg12 fullShare s1 ∗ owns (c : Thread nD τ) arg13 fullShare s2 ∗ tbPt0 c tbM0_0 xt0 ∗ tbPt0 c tbM0_1 xt1) -∗ K ⟨⟩))
      ⊢ wp frame (wpE (defs₀ (F := F)) Variants.none c none) E (cc0__moe_kernel i tbM0_0 htbM0_0 tbM0_1 htbM0_1 arg3 harg3 arg4 harg4 arg5 harg5 arg6 harg6 arg7 harg7 arg8 harg8 arg9 harg9 arg10 harg10 arg11 harg11 arg12 harg12 arg13 harg13) K := by
  simp only [cc0__moe_kernel_eq_skeleton]; unfold cc0__moe_kernel_skel
  simp only [k0_part1_eq_skeleton]; try unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  obtain rfl := harg11.eq_unread hfs0; obtain rfl := harg12.eq_unread hfs1; obtain rfl := harg13.eq_unread hfs2
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    refine (View.read_writes_full arg10.view f7 _ _ _).trans ?_
    unfold moeBlk
    rw [ld_full (F := F) harg3, ld_full (F := F) harg11, ld_full (F := F) harg5, ld_full (F := F) harg12, ld_full (F := F) harg7, ld_full (F := F) harg13]
    exact congrArg (k0_pay4 _) (ld_full (F := F) harg9 x6 _ _)
  isplitl [HS0]
  · iexists _; isplitr; · ipureintro; exact harg11.read_unread _
    iexact HS0
  isplitl [HS1]
  · iexists _; isplitr; · ipureintro; exact harg12.read_unread _
    iexact HS1
  isplitl [HS2]
  · iexists _; isplitr; · ipureintro; exact harg13.read_unread _
    iexact HS2
  isplitl [HT0]
  · iexact HT0
  iexact HT1

set_option maxHeartbeats 4000000 in
/-- A block out of use: the body stores zeros. -/
theorem runZ (c : Dev nD) (i : grid0.Coords) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S1024x1024 .f32) (x1 : Vec F S1x1024x1024 .f32) (x2 : Vec F S1x1x1024 .f32) (x3 : Vec F S1x1024x1024 .f32) (x4 : Vec F S1x1x1024 .f32) (x5 : Vec F S1x1024x1024 .f32) (x6 : Vec F S1x1x1024 .f32) (s0 s1 s2 : Vec F S1024x1024 .bf16) (xt0 : TbBuf0 (F := F) c tbM0_0) (xt1 : TbBuf0 (F := F) c tbM0_1)
    (hc1 : ¬ cond1 i (usedW c xt1) (expW c i xt0) (prevW c i xt0)) (hc2 : ¬ k0_cond2 i (usedW c xt1) = 1#1) (hc3 : k0_cond3 i (usedW c xt1) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare s0 ∗ owns (c : Thread nD τ) arg12 fullShare s1 ∗ owns (c : Thread nD τ) arg13 fullShare s2 ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (k0_pay5 (F := F)) ∗ owns (c : Thread nD τ) arg11 fullShare s0 ∗ owns (c : Thread nD τ) arg12 fullShare s1 ∗ owns (c : Thread nD τ) arg13 fullShare s2 ∗ tbPt0 c tbM0_0 xt0 ∗ tbPt0 c tbM0_1 xt1) -∗ K ⟨⟩))
      ⊢ wp frame (wpE (defs₀ (F := F)) Variants.none c none) E (cc0__moe_kernel i tbM0_0 htbM0_0 tbM0_1 htbM0_1 arg3 harg3 arg4 harg4 arg5 harg5 arg6 harg6 arg7 harg7 arg8 harg8 arg9 harg9 arg10 harg10 arg11 harg11 arg12 harg12 arg13 harg13) K := by
  simp only [cc0__moe_kernel_eq_skeleton]; unfold cc0__moe_kernel_skel
  simp only [k0_part1_eq_skeleton]; try unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  obtain rfl := harg11.eq_unread hfs0; obtain rfl := harg12.eq_unread hfs1; obtain rfl := harg13.eq_unread hfs2
  sl_exec (disch := first | sl_exact hc1 | sl_exact hc2 | sl_exact hc3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; swap; · iexact H7
    ipureintro
    refine (View.read_writes_full arg10.view f7 _ _ _).trans ?_
    rfl
  isplitl [HS0]
  · iexists _; isplitr; · ipureintro; exact harg11.read_unread _
    iexact HS0
  isplitl [HS1]
  · iexists _; isplitr; · ipureintro; exact harg12.read_unread _
    iexact HS1
  isplitl [HS2]
  · iexists _; isplitr; · ipureintro; exact harg13.read_unread _
    iexact HS2
  isplitl [HT0]
  · iexact HT0
  iexact HT1

end Cert.Kernel2Ideal.Gen

end
-- ==== Proof.MFrame.lean ====
/- The launch of the experts' call with its output named: the scratch buffers hold the expert's weights from point to point, every
   output block is a pure function of the windows' blocks, and the run and the frame follow. -/
module

public import proofs.«01_k».proof.Proof.MRuns
public import Idealize.ShloMosaic.Lib.Claim

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The library's obligation of the body, from the windows one by one -/

/-- The body's triple, window by window, is the library's obligation: at every point the output's buffer is written. -/
theorem obligation_of (a : (pcfg0 (F := F)).Adm) (c : Dev nD) (dat : Dat τ (Elt F) Unit ℕ (UR sig nD τ) ℕ (cfg0 a) c)
    (h : ∀ t, iprop(dat.Φ t.castSucc ∗ dat.owesAt () t.castSucc
        ∗ (∃ d, owns (c : Thread nD τ) (spec0_0.stage ((cfg0 a).slots t 0)) fullShare (dat.before 0 t d))
        ∗ (∃ d, owns (c : Thread nD τ) (spec0_1.stage ((cfg0 a).slots t 1)) fullShare (dat.before 1 t d))
        ∗ (∃ d, owns (c : Thread nD τ) (spec0_2.stage ((cfg0 a).slots t 2)) fullShare (dat.before 2 t d))
        ∗ (∃ d, owns (c : Thread nD τ) (spec0_3.stage ((cfg0 a).slots t 3)) fullShare (dat.before 3 t d))
        ∗ (∃ d, owns (c : Thread nD τ) (spec0_4.stage ((cfg0 a).slots t 4)) fullShare (dat.before 4 t d))
        ∗ (∃ d, owns (c : Thread nD τ) (spec0_5.stage ((cfg0 a).slots t 5)) fullShare (dat.before 5 t d))
        ∗ (∃ d, owns (c : Thread nD τ) (spec0_6.stage ((cfg0 a).slots t 6)) fullShare (dat.before 6 t d))
        ∗ (∃ d, owns (c : Thread nD τ) (spec0_7.stage ((cfg0 a).slots t 7)) fullShare (dat.before 7 t d)))
      ⊢ wp frame (wpE (defs₀ (F := F)) Variants.none c none) Set.univ (bodyAt0 a t) (fun _ => iprop(dat.Φ t.succ ∗ dat.owesAt () t.succ
        ∗ owns (c : Thread nD τ) (spec0_0.stage ((cfg0 a).slots t 0)) fullShare (dat.after 0 t)
        ∗ owns (c : Thread nD τ) (spec0_1.stage ((cfg0 a).slots t 1)) fullShare (dat.after 1 t)
        ∗ owns (c : Thread nD τ) (spec0_2.stage ((cfg0 a).slots t 2)) fullShare (dat.after 2 t)
        ∗ owns (c : Thread nD τ) (spec0_3.stage ((cfg0 a).slots t 3)) fullShare (dat.after 3 t)
        ∗ owns (c : Thread nD τ) (spec0_4.stage ((cfg0 a).slots t 4)) fullShare (dat.after 4 t)
        ∗ owns (c : Thread nD τ) (spec0_5.stage ((cfg0 a).slots t 5)) fullShare (dat.after 5 t)
        ∗ owns (c : Thread nD τ) (spec0_6.stage ((cfg0 a).slots t 6)) fullShare (dat.after 6 t)
        ∗ owns (c : Thread nD τ) (spec0_7.stage ((cfg0 a).slots t 7)) fullShare (dat.after 7 t)))) :
    BodyObligation dat (defs₀ (F := F)) Variants.none () Set.univ := fun t => by
  rw [bigSep_W0, bigSep_W0]
  have hd : defs₀ (F := F) .tc (cfg0 a).body ((cfg0 a).bodyArgs t ((cfg0 a).slots t)) = bodyAt0 a t := by
    unfold defs₀; rw [Defs.onTc_tc]
  rw [hd]
  have hl : (cfg0 a).idle (7 : Fin 8) ((cfg0 a).grid.coords t) = false := live a.1 _
  rw [hl]
  exact h t

variable (m : (ℓ : Loc nD τ sig) → Buf (Elt F) ℓ) (ρ : Dev nD → PrngReg)

/-- Block `t` is in use. -/
abbrev used (hO : Ok m) (t : Fin (cfgM m hO).N) : Prop := k0_cond2 (grid0.coords t) (usedW 0 (tbl m 1)) = 1#1

/-- What the body leaves in block `t` of the output: the expert's product of the rows when the block is in use, zeros otherwise. -/
def outBlk (hO : Ok m) (c : Dev nD) (t : Fin (cfgM m hO).N) : Vec F S1024x1024 .f32 :=
  if used m hO t then moeBlk (iblk m hO c 0 t) (k0_pay1 (iblk m hO c 1 t)) (iblk m hO c 2 t) (k0_pay2 (iblk m hO c 3 t)) (iblk m hO c 4 t) (k0_pay3 (iblk m hO c 5 t)) (iblk m hO c 6 t)
  else k0_pay5

/-- Before point `t` the scratch buffers hold the weights of the block before, when that block is in use. -/
def Good (hO : Ok m) (c : Dev nD) (t : ℕ) (d0 d1 d2 : Vec F S1024x1024 .bf16) : Prop :=
  ∀ s : Fin (cfgM m hO).N, s.val + 1 = t → used m hO s → d0 = k0_pay1 (iblk m hO c 1 s) ∧ d1 = k0_pay2 (iblk m hO c 3 s) ∧ d2 = k0_pay3 (iblk m hO c 5 s)

theorem coords_val : ∀ t : Fin 160, (grid0.coords t 0).val = t.val := by decide +kernel

/-- A block in use whose weights are not loaded: the block before is in use and has the same expert. -/
theorem before_same (hO : Ok m) (t : Fin (cfgM m hO).N) (hu : used m hO t) (h : ¬ cond1 (grid0.coords t) (usedW 0 (tbl m 1)) (expW 0 (grid0.coords t) (tbl m 0)) (prevW 0 (grid0.coords t) (tbl m 0))) :
    ∃ s : Fin (cfgM m hO).N, s.val + 1 = t.val ∧ used m hO s ∧ expW 0 (grid0.coords s) (tbl m 0) = expW 0 (grid0.coords t) (tbl m 0) := by
  have e : (grid0.coords t 0).val = t.val := coords_val t
  rw [cond1_iff] at h
  have h0 : ¬ BitVec.ofNat 32 (grid0.coords t 0).val = 0#32 := fun z => h ⟨hu, Or.inl z⟩
  have h1 : expW 0 (grid0.coords t) (tbl m 0) = prevW 0 (grid0.coords t) (tbl m 0) := by
    by_contra z; exact h ⟨hu, Or.inr z⟩
  have hz : t.val ≠ 0 := fun z => h0 (by rw [e, z])
  have ht : t.val < 160 := t.isLt
  have es : (grid0.coords (⟨t.val - 1, by omega⟩ : Fin 160) 0).val = t.val - 1 := coords_val _
  refine ⟨(⟨t.val - 1, by omega⟩ : Fin 160), by show t.val - 1 + 1 = t.val; omega, ?_, ?_⟩
  · have hu' := (used_iff _ _).mp hu
    refine (used_iff _ _).mpr ?_
    rw [es]; rw [e] at hu'; omega
  · refine (expW_eq 0 _ _).trans (Eq.trans ?_ (h1.trans (prevW_eq 0 _ _)).symm)
    refine congrArg (tbl m 0) (congrArg ix1 (Fin.ext ?_))
    show (grid0.coords (⟨t.val - 1, by omega⟩ : Fin 160) 0).val = (grid0.coords t 0).val - 1
    rw [es, e]

/-! ## The pipeline's proof data -/

/-- The scratch buffers and the generator register before point `t`. -/
def PhiS (hO : Ok m) (c : Dev nD) (t : ℕ) : sProp 𝕄 :=
  iprop((∃ d0, ∃ d1, ∃ d2, ⌜Good m hO c t d0 d1 d2⌝ ∗ owns (c : Thread nD τ) scM0_0 fullShare d0 ∗ owns (c : Thread nD τ) scM0_1 fullShare d1 ∗ owns (c : Thread nD τ) scM0_2 fullShare d2) ∗ (∃ r, prngReg c r))

/-- The proof data of the pipeline on core `c`: the arrays as the call finds them, every input's buffer left at its block, the
    output's at `outBlk`, and the scratch buffers' weights carried from point to point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outBlk m hO c t
  Φ t := iprop(PhiS m hO c t.val ∗ Pipeline.ΦT pre0 (tbl m) c)
  q _ := fullShare
  owed _ := 0

/-- The proof data's arrays are the contents at the call. -/
theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = outBlk m hO c t := by dsimp only [dats]; try rfl

/-! Each input's staging buffer holds its block at every point. -/

theorem before0_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (hO : Ok m) (c : Dev nD) (t : Fin (cfgM m hO).N) (d) : (dats m hO 0 c).before 6 t d = iblk m hO c 6 t :=
  ((dats m hO 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

/-! ## The body obligation, at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 4800000 in
/-- The body at any point: with new weights, with the weights kept, or out of use. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  obtain rfl : c = 0 := Subsingleton.elim _ _
  generalize hc : (0 : Dev nD) = c
  unfold bodyPre bodyPost bodyAt0
  simp only [before0_0, before0_1, before0_2, before0_3, before0_4, before0_5, before0_6]
  rw [show (dats m hO 0 c).owesAt () t.succ = (dats m hO 0 c).owesAt () t.castSucc from rfl,
    after0_0, after0_1, after0_2, after0_3, after0_4, after0_5, after0_6, after0_7]
  rw [show (dats m hO 0 c).Φ t.castSucc = iprop(PhiS m hO c t.val ∗ Pipeline.ΦT pre0 (tbl m) c) from rfl,
    show (dats m hO 0 c).Φ t.succ = iprop(PhiS m hO c (t.val + 1) ∗ Pipeline.ΦT pre0 (tbl m) c) from rfl, PhiT0_eq]
  unfold PhiS
  iintro ⟨⟨⟨⟨%e0, %e1, %e2, %hg, HS0, HS1, HS2⟩, Hg⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hc3 : ∀ w, k0_cond3 (grid0.coords t) w = 1#1 ↔ ¬ k0_cond2 (grid0.coords t) w = 1#1 := cond3_iff _
  by_cases hu : used m hO t
  · have hu' : k0_cond2 (grid0.coords t) (usedW c (tbl m 1)) = 1#1 := by rw [← hc]; exact hu
    have hn : ¬ k0_cond3 (grid0.coords t) (usedW c (tbl m 1)) = 1#1 := fun h => (hc3 _).mp h hu'
    by_cases h1 : cond1 (grid0.coords t) (usedW c (tbl m 1)) (expW c (grid0.coords t) (tbl m 0)) (prevW c (grid0.coords t) (tbl m 0))
    · have hv : outBlk m hO c t = _ := if_pos hu
      rw [hv]
      iapply (runN c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) e0 e1 e2 (tbl m 0) (tbl m 1) h1 hu' hn Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HT0]; · iexact HT0
      isplitl [HT1]; · iexact HT1
      iintro ⟨H0, H1, H2, H3, H4, H5, H6, H7, HS0, HS1, HS2, HT0, HT1⟩
      isplitl [HS0 HS1 HS2 Hg HT0 HT1]
      · isplitl [HS0 HS1 HS2 Hg]
        · isplitl [HS0 HS1 HS2]
          · iexists (k0_pay1 (iblk m hO c 1 t)); iexists (k0_pay2 (iblk m hO c 3 t)); iexists (k0_pay3 (iblk m hO c 5 t))
            isplitr
            · ipureintro; exact fun s hs _ => by obtain rfl : s = t := Fin.ext (by omega); exact ⟨rfl, rfl, rfl⟩
            isplitl [HS0]
            · iexact HS0
            isplitl [HS1]
            · iexact HS1
            iexact HS2
          iexact Hg
        isplitl [HT0]
        · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · obtain ⟨s, hst, hus, hse⟩ := before_same m hO t hu (by rw [← hc] at h1; exact h1)
      obtain ⟨g0, g1, g2⟩ := hg s hst hus
      have g0 : e0 = k0_pay1 (iblk m hO c 1 t) := g0.trans (congrArg k0_pay1 (w1_congr m hO c s t hse))
      have g1 : e1 = k0_pay2 (iblk m hO c 3 t) := g1.trans (congrArg k0_pay2 (w3_congr m hO c s t hse))
      have g2 : e2 = k0_pay3 (iblk m hO c 5 t) := g2.trans (congrArg k0_pay3 (w5_congr m hO c s t hse))
      have hv : outBlk m hO c t = moeBlk (iblk m hO c 0 t) e0 (iblk m hO c 2 t) e1 (iblk m hO c 4 t) e2 (iblk m hO c 6 t) := by
        rw [g0, g1, g2]; exact if_pos hu
      rw [hv]
      iapply (runK c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) e0 e1 e2 (tbl m 0) (tbl m 1) h1 hu' hn Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HT0]; · iexact HT0
      isplitl [HT1]; · iexact HT1
      iintro ⟨H0, H1, H2, H3, H4, H5, H6, H7, HS0, HS1, HS2, HT0, HT1⟩
      isplitl [HS0 HS1 HS2 Hg HT0 HT1]
      · isplitl [HS0 HS1 HS2 Hg]
        · isplitl [HS0 HS1 HS2]
          · iexists e0; iexists e1; iexists e2
            isplitr
            · ipureintro; exact fun s hs _ => by obtain rfl : s = t := Fin.ext (by omega); exact ⟨g0, g1, g2⟩
            isplitl [HS0]
            · iexact HS0
            isplitl [HS1]
            · iexact HS1
            iexact HS2
          iexact Hg
        isplitl [HT0]
        · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hu' : ¬ k0_cond2 (grid0.coords t) (usedW c (tbl m 1)) = 1#1 := by rw [← hc]; exact hu
    have h1 : ¬ cond1 (grid0.coords t) (usedW c (tbl m 1)) (expW c (grid0.coords t) (tbl m 0)) (prevW c (grid0.coords t) (tbl m 0)) :=
      fun h => hu' ((cond1_iff _ _ _ _).mp h).1
    have hv : outBlk m hO c t = _ := if_neg hu
    rw [hv]
    iapply (runZ c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) (iblk m hO c 6 t) e0 e1 e2 (tbl m 0) (tbl m 1) h1 hu' ((hc3 _).mpr hu') Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HT0]; · iexact HT0
    isplitl [HT1]; · iexact HT1
    iintro ⟨H0, H1, H2, H3, H4, H5, H6, H7, HS0, HS1, HS2, HT0, HT1⟩
    isplitl [HS0 HS1 HS2 Hg HT0 HT1]
    · isplitl [HS0 HS1 HS2 Hg]
      · isplitl [HS0 HS1 HS2]
        · iexists e0; iexists e1; iexists e2
          isplitr
          · ipureintro; exact fun s hs h => by obtain rfl : s = t := Fin.ext (by omega); exact absurd h hu
          isplitl [HS0]
          · iexact HS0
          isplitl [HS1]
          · iexact HS1
          iexact HS2
        iexact Hg
      isplitl [HT0]
      · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation (hO : Ok m) (c : Dev nD) : BodyObligation (dats (F := F) m hO 0 c) (defs₀ (F := F)) Variants.none () Set.univ :=
  obligation_of (adm m hO) c (dats (F := F) m hO 0 c) fun t => sound_body m hO c t

/-! ## The run and the frame -/

/-- What the call hands over is the invariant before the first point. -/
theorem hin (hO : Ok m) (c : Dev nD) : iprop(Pipeline.ΦA spec0 c ∗ Pipeline.ΦT pre0 (tbl m) c) ⊢ (dats m hO 0 c).Φ 0 := by
  show _ ⊢ iprop(PhiS m hO c 0 ∗ Pipeline.ΦT pre0 (tbl m) c)
  rw [PhiA0_eq]; unfold PhiS
  iintro ⟨⟨⟨⟨%e0, HS0⟩, ⟨%e1, HS1⟩, ⟨%e2, HS2⟩⟩, Hg⟩, HT⟩
  isplitr [HT]
  · isplitr [Hg]
    · iexists e0; iexists e1; iexists e2
      isplitr
      · ipureintro; exact fun s hs _ => absurd hs (Nat.succ_ne_zero _)
      isplitl [HS0]
      · iexact HS0
      isplitl [HS1]
      · iexact HS1
      iexact HS2
    iexact Hg
  iexact HT

/-- The invariant after the last point gives the scratch buffers back. -/
theorem hout (hO : Ok m) (c : Dev nD) : (dats m hO 0 c).Φ (Fin.last (cfgM m hO).N) ⊢ Pipeline.ΦA spec0 c := by
  show iprop(PhiS m hO c (cfgM m hO).N ∗ Pipeline.ΦT pre0 (tbl m) c) ⊢ _
  rw [PhiA0_eq]; unfold PhiS
  iintro ⟨⟨⟨%e0, %e1, %e2, -, HS0, HS1, HS2⟩, Hg⟩, -⟩
  isplitr [Hg]
  · isplitl [HS0]
    · iexists _; iexact HS0
    isplitl [HS1]
    · iexists _; iexact HS1
    iexists _; iexact HS2
  iexact Hg

-- the run's implicit arguments are found by unifying its conclusion with this one, which takes unfolding plain
-- definitions in a metavariable's type
set_option backward.isDefEq.respectTransparency.types false in
/-- The run: every array of the call at its named contents, every other buffer as the call found it, every counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

/-- The run without the counters. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(((h c).1 0).trans ((dats m hO 0 c).arrAt_in 0 rfl _)).trans ((A_eq m hO c 0).trans (V_kept m c main_arg0 (by decide))),
      ((h c).2 main_arg1 (by decide : main_arg1 ∈ Pipeline.restRefs sig spec0)).trans (V_kept m c main_arg1 (by decide)),
      ((h c).2 main_arg2 (by decide : main_arg2 ∈ Pipeline.restRefs sig spec0)).trans (V_kept m c main_arg2 (by decide)),
      (((h c).1 1).trans ((dats m hO 0 c).arrAt_in 1 rfl _)).trans ((A_eq m hO c 1).trans (V_kept m c main_arg3 (by decide))),
      ((h c).2 main_arg4 (by decide : main_arg4 ∈ Pipeline.restRefs sig spec0)).trans (V_kept m c main_arg4 (by decide)),
      (((h c).1 3).trans ((dats m hO 0 c).arrAt_in 3 rfl _)).trans ((A_eq m hO c 3).trans (V_kept m c main_arg5 (by decide))),
      ((h c).2 main_arg6 (by decide : main_arg6 ∈ Pipeline.restRefs sig spec0)).trans (V_kept m c main_arg6 (by decide)),
      (((h c).1 5).trans ((dats m hO 0 c).arrAt_in 5 rfl _)).trans ((A_eq m hO c 5).trans (V_kept m c main_arg7 (by decide))),
      ((h c).2 main_arg8 (by decide : main_arg8 ∈ Pipeline.restRefs sig spec0)).trans (V_kept m c main_arg8 (by decide))⟩) (run_main m ρ hO)

/-- The frame: the argument arrays end unchanged and the counters at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.Kernel2Ideal.Gen

end
-- ==== Proof.MPre.lean ====
/- The tables' words from the arguments, and the blocks they name in their arrays when the expert of every block that is read exists. -/
module

public import proofs.«01_k».proof.Proof.MFrame
public import proofs.«01_k».proof.Proof.MLast

@[expose] public section

set_option maxRecDepth 16384

noncomputable section

namespace Cert.Kernel2Ideal.Gen

open Idealize.ShloMosaic Idealize.ShloMosaic.TcCoe
open Cert.Lookup (lastW)

variable {F : FTy → Type} [FloatOps F]
variable (m : (ℓ : Loc nD τ sig) → Buf (Elt F) ℓ)

/-- The count of blocks in use. -/
def cnt (c : Dev nD) : BitVec 32 := m ((c : Thread nD τ).loc main_arg2) (ix1 0)
/-- The block whose rows and expert the launch reads for a block. -/
def lastAt (c : Dev nD) (i : Fin 160) : Fin 160 :=
  ⟨(lastW i.val (cnt m c)).toNat, lt_of_le_of_lt (Cert.Lookup.lastW_le i.val i.isLt _) i.isLt⟩

theorem lastAt_used (c : Dev nD) (i : Fin 160) (h : (i.val : ℤ) < (cnt m c).toInt) : lastAt m c i = i :=
  Fin.ext (Cert.Lookup.lastW_used i.val i.isLt _ h)

/-- The expert table's word of a block: the argument's word of the block read for it. -/
theorem word_at (c : Dev nD) (i : Fin 160) : V m c main_v13 (ix1 i) = m ((c : Thread nD τ).loc main_arg1) (ix1 (lastAt m c i)) := by
  entry_read
  refine (Cert.Lookup.take1 (by decide) _ _ _ i).trans ?_
  refine congrArg (fun k => m ((c : Thread nD τ).loc main_arg1) (ix1 k)) (Fin.ext ?_)
  have hL := Cert.Lookup.lastW_le i.val i.isLt (cnt m c)
  have hi := i.isLt
  have h0 : 0 ≤ (lastW i.val (cnt m c)).toInt := by rw [Cert.Lookup.lastW_toInt i.val i.isLt]; omega
  refine Eq.trans ?_ (Cert.Lookup.pos_val 160 (by decide) (by decide) (lastW i.val (cnt m c)) (by omega))
  refine congrArg (fun x => (Cert.Lookup.pos 160 (by decide) x).val) ?_
  refine Eq.trans ?_ (Cert.Lookup.wrap (lastW i.val (cnt m c)) 160#32 h0)
  pointwise
  rfl

/-- The tables as the launch finds them. -/
theorem tbl_used (c : Dev nD) : usedW c (tbl m 1) = cnt m 0 := by
  refine Eq.trans (congrArg (V m 0 main_arg2) (funext fun a => Fin.ext ?_)) (congrFun (V_kept m 0 main_arg2 (by decide)) (ix1 0))
  fin_cases a
  rfl

theorem tbl_exp (c : Dev nD) (i : grid0.Coords) : expW c i (tbl m 0) = m (((0 : Dev nD) : Thread nD τ).loc main_arg1) (ix1 (lastAt m 0 ⟨(i 0).val, (i 0).isLt⟩)) := by
  refine (expW_eq c i _).trans ?_
  exact word_at m 0 _

/-- The rows' block of a window at a word and a count inside the arrays. -/
theorem ok_of {pf : pre0.Contents (Elt F)}
    (h0 : ∀ i : grid0.Coords, (lastW (i 0).val (usedW 0 (pf 1))).toNat < 160) (h1 : ∀ i : grid0.Coords, (expW 0 i (pf 0)).toNat < 32) : ok0 pf := by
  refine ⟨fun i => ⟨?_, Or.inl rfl⟩, fun i => ⟨?_, Or.inl rfl⟩, fun i => ⟨?_, Or.inl rfl⟩, fun i => ⟨?_, Or.inl rfl⟩, fun i => ⟨?_, Or.inl rfl⟩, fun i => ⟨?_, Or.inl rfl⟩, fun i => ⟨?_, Or.inl rfl⟩⟩
  · intro a
    have h := h0 i
    fin_cases a
    · show ((lastW (i 0).val (usedW 0 (pf 1))).toNat + 1) * 1024 ≤ 163840
      omega
    · show (0 + 1) * 1024 ≤ 1024
      omega
  all_goals
    intro a
    have h := h1 i
    fin_cases a
    · show ((expW 0 i (pf 0)).toNat + 1) * 1 ≤ 32
      omega
    · first
        | (show (0 + 1) * 1024 ≤ 1024; omega)
        | (show (0 + 1) * 1 ≤ 1; omega)
    · show (0 + 1) * 1024 ≤ 1024
      omega

/-- When the expert of every block that is read exists, so does the one of the block read for any block. -/
theorem last_small (h : ∀ i : Fin 160, (i.val : ℤ) ≤ (Cert.Lookup.topW (cnt m 0)).toInt → (m (((0 : Dev nD) : Thread nD τ).loc main_arg1) (ix1 i)).toNat < 32)
    (i : Fin 160) : (m (((0 : Dev nD) : Thread nD τ).loc main_arg1) (ix1 (lastAt m 0 i))).toNat < 32 :=
  h _ (Cert.Lookup.lastW_top i.val i.isLt _)

/-- The experts of the blocks that are read exist, so every block the launch names lies in its array. -/
theorem ok_of_small (h : ∀ i : Fin 160, (m (((0 : Dev nD) : Thread nD τ).loc main_arg1) (ix1 (lastAt m 0 i))).toNat < 32) : Ok m := by
  refine ok_of (fun i => ?_) (fun i => ?_)
  · rw [tbl_used m 0]
    exact lt_of_le_of_lt (Cert.Lookup.lastW_le _ (i 0).isLt _) (i 0).isLt
  · rw [tbl_exp m 0 i]
    exact h _

end Cert.Kernel2Ideal.Gen

end
-- ==== Proof.MSwi.lean ====
/- An expert's block as plain arithmetic over the extended reals, and the kernel's block read as it. -/
module

public import proofs.«01_k».proof.Proof.MRuns
public import Idealize.ShloMosaic.Lib.Pointwise

@[expose] public section
set_option maxRecDepth 16384
noncomputable section

namespace Cert.Lookup
open Idealize.ShloMosaic

/-- The gated activation of a gate and an up value: the gate capped, its sigmoid by the scaled exponential, the up value clipped. -/
def act (g u : EReal) : EReal :=
  min g (Ideal.ofBits .f32 0x40E00000#32) * Ideal.div (Ideal.ofBits .f32 0x3F800000#32) (Ideal.ofBits .f32 0x3F800000#32 + Ideal.exp (Ideal.ofBits .f32 0xBFD9DB23#32 * min g (Ideal.ofBits .f32 0x40E00000#32)))
    * (min (Ideal.ofBits .f32 0x40E00000#32) (max (Ideal.ofBits .f32 0xC0E00000#32) u) + Ideal.ofBits .f32 0x3F800000#32)

/-- A row times one column of a weight, plus the column's bias. -/
def lin (x w : Fin 1024 → EReal) (b : EReal) : EReal := (∑ d : Fin 1024, x d * w d) + b

/-- An expert's output of a row, at one column. -/
def expert (x : Fin 1024 → EReal) (wg : Fin 1024 → Fin 1024 → EReal) (bg : Fin 1024 → EReal) (wu : Fin 1024 → Fin 1024 → EReal) (bu : Fin 1024 → EReal)
    (wd : Fin 1024 → Fin 1024 → EReal) (bd : Fin 1024 → EReal) (e : Fin 1024) : EReal :=
  lin (fun f => act (lin x (fun d => wg d f) (bg f)) (lin x (fun d => wu d f) (bu f))) (fun f => wd f e) (bd e)

theorem expert_congr {x x' : Fin 1024 → EReal} {wg wg' wu wu' wd wd' : Fin 1024 → Fin 1024 → EReal} {bg bg' bu bu' bd bd' : Fin 1024 → EReal}
    (h0 : ∀ d, x d = x' d) (h1 : ∀ d f, wg d f = wg' d f) (h2 : ∀ f, bg f = bg' f) (h3 : ∀ d f, wu d f = wu' d f) (h4 : ∀ f, bu f = bu' f)
    (h5 : ∀ f e, wd f e = wd' f e) (h6 : ∀ e, bd e = bd' e) (e : Fin 1024) : expert x wg bg wu bu wd bd e = expert x' wg' bg' wu' bu' wd' bd' e := by
  rw [funext h0, funext₂ h1, funext h2, funext₂ h3, funext h4, funext₂ h5, funext h6]

end Cert.Lookup

namespace Cert.Kernel2Ideal.Gen
open Idealize.ShloMosaic Idealize.ShloMosaic.TcCoe Idealize.SL.Sem
open Cert.Lookup (act lin expert)

/-- The kernel's block at an element. -/
theorem moe_at (x0 : Vec Ideal S1024x1024 .f32) (x1 x3 x5 : Vec Ideal S1x1024x1024 .f32) (x2 x4 x6 : Vec Ideal S1x1x1024 .f32) (r e : Fin 1024) :
    moeBlk x0 (k0_pay1 x1) x2 (k0_pay2 x3) x4 (k0_pay3 x5) x6 (ix2 r e) =
      expert (fun d => x0 (ix2 r d)) (fun d f => x1 (ix3 0 d f)) (fun f => x2 (ix3 0 0 f)) (fun d f => x3 (ix3 0 d f)) (fun f => x4 (ix3 0 0 f))
        (fun f e => x5 (ix3 0 f e)) (fun e => x6 (ix3 0 0 e)) e := by
  pointwise [moeBlk, k0_pay1, k0_pay2, k0_pay3, k0_pay4, k0_pay6, expert, lin, act]

/-- A block beyond the count is zero. -/
theorem zero_at (r e : Fin 1024) : (k0_pay5 : FVec Ideal S1024x1024 .f32) (ix2 r e) = Ideal.ofBits .f32 0x00000000#32 := by
  pointwise [k0_pay5]

end Cert.Kernel2Ideal.Gen
end
-- ==== Proof.MRef.lean ====
/- The experts' reference named step by step and read at an index. -/
module

public import proofs.«01_k».proof.Proof.Gen.Reference2Ideal.Run
public import proofs.«01_k».proof.Proof.MLast
public import proofs.«01_k».proof.Proof.MSwi
public import Idealize.ShloMosaic.Lib.StackMember

@[expose] public section
set_option maxRecDepth 16384
noncomputable section
namespace Cert.Reference2Ideal.Value
open Cert.Reference2Ideal Cert.Reference2Ideal.Gen Idealize.ShloMosaic Idealize.ShloMosaic.TcCoe Idealize.SL.Sem Idealize.ShloMosaic.StableHlo

variable {F : FTy → Type} [FloatOps F]

/-- The expert of each block, as the lookups take it. -/
def idxR (A1 : IVec S160 32) : IVec S160x1 32 :=
  broadcastInDim S160x1 ![0] bcast_S160_S160x1_0 (select (cmpi .slt A1 (broadcastInDim S160 ![] bcast_S_S160 (constantI S_ 32 0#32))) (addi A1 (broadcastInDim S160 ![] bcast_S_S160 (constantI S_ 32 32#32))) A1)

/-- Each block times its expert's weight. -/
def dotR (X : FVec F S160x1024x1024 .f32) (A1 : IVec S160 32) (W : FVec F S32x1024x1024 .f32) : FVec F S160x1024x1024 .f32 :=
  Host.dotGeneral dot_S160x1024x1024_S160x1024x1024_S160x1024x1024_2_1_1_2_0_0 none X (Host.gather gather_S32x1024x1024_S160x1_S160x1024x1024_12_0_n_n_0_1_110241024 W (idxR A1))

/-- Its expert's bias, on every row of the block. -/
def biasR (A1 : IVec S160 32) (b : FVec F S32x1024 .f32) : FVec F S160x1024x1024 .f32 :=
  broadcastInDim S160x1024x1024 ![0, 1, 2] bcast_S160x1x1024_S160x1024x1024_0_1_2 (broadcastInDim S160x1x1024 ![0, 2] bcast_S160x1024_S160x1x1024_0_2 (Host.gather gather_S32x1024_S160x1_S160x1024_1_0_n_n_0_1_11024 b (idxR A1)))

/-- The gated activation. -/
def actR (G U : FVec F S160x1024x1024 .f32) : FVec F S160x1024x1024 .f32 :=
  mulf (mulf (minimumf G (broadcastInDim S160x1024x1024 ![] bcast_S_S160x1024x1024 (constant S_ .f32 0x40E00000#32))) (Host.divf (broadcastInDim S160x1024x1024 ![] bcast_S_S160x1024x1024 (constant S_ .f32 0x3F800000#32)) (addf (broadcastInDim S160x1024x1024 ![] bcast_S_S160x1024x1024 (constant S_ .f32 0x3F800000#32)) (Host.exp (Host.negf (mulf (broadcastInDim S160x1024x1024 ![] bcast_S_S160x1024x1024 (constant S_ .f32 0x3FD9DB23#32)) (minimumf G (broadcastInDim S160x1024x1024 ![] bcast_S_S160x1024x1024 (constant S_ .f32 0x40E00000#32)))))))))
    (addf (minimumf (broadcastInDim S160x1024x1024 ![] bcast_S_S160x1024x1024 (id (constant S_ .f32 0x40E00000#32))) (maximumf (broadcastInDim S160x1024x1024 ![] bcast_S_S160x1024x1024 (id (constant S_ .f32 0xC0E00000#32))) U)) (broadcastInDim S160x1024x1024 ![] bcast_S_S160x1024x1024 (constant S_ .f32 0x3F800000#32)))

/-- The rows by blocks. -/
def rowsR (A0 : FVec F S163840x1024 .f32) : FVec F S160x1024x1024 .f32 := shapeCast _ A0 shapeCasts_S163840x1024_S160x1024x1024

/-- The blocks below the count, and zero beyond it. -/
def keepR (A2 : IVec S1 32) (Y : FVec F S160x1024x1024 .f32) : FVec F S163840x1024 .f32 :=
  shapeCast _ (select (broadcastInDim S160x1024x1024 ![0, 1, 2] bcast_S160x1x1_S160x1024x1024_0_1_2 (broadcastInDim S160x1x1 ![0] bcast_S160_S160x1x1_0 (cmpi .slt (iotaInDim S160 32 0) (broadcastInDim S160 ![] bcast_S_S160 (shapeCast _ A2 shapeCasts_S1_S_))))) Y (broadcastInDim S160x1024x1024 ![] bcast_S_S160x1024x1024 (id (constant S_ .f32 0x00000000#32)))) shapeCasts_S160x1024x1024_S163840x1024

/-- The experts' outputs. -/
def outR (A0 : FVec F S163840x1024 .f32) (A1 : IVec S160 32) (A2 : IVec S1 32) (A3 : FVec F S32x1024x1024 .f32) (A4 : FVec F S32x1024 .f32) (A5 : FVec F S32x1024x1024 .f32) (A6 : FVec F S32x1024 .f32) (A7 : FVec F S32x1024x1024 .f32) (A8 : FVec F S32x1024 .f32) : FVec F S163840x1024 .f32 :=
  keepR A2 (addf (dotR (actR (addf (dotR (rowsR A0) A1 A3) (biasR A1 A4)) (addf (dotR (rowsR A0) A1 A5) (biasR A1 A6))) A1 A7) (biasR A1 A8))

set_option maxHeartbeats 4000000 in
theorem res_eq (m : (ℓ : Loc nD τ sig) → Buf (Elt F) ℓ) (c : Dev nD) : res_main_v76 m c =
    outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) := rfl

/-! ## Read at an index -/

open Cert.Lookup (act lin expert pos)

theorem idxR_at (A1 : IVec S160 32) (b : Fin 160) (h : (A1 (ix1 b)).toNat < 32) : (pos 32 (by decide) (idxR A1 (ix2 b 0))).val = (A1 (ix1 b)).toNat := by
  have h0 : 0 ≤ (A1 (ix1 b)).toInt := by rw [Cert.Lookup.toInt_of_small _ 32 (by decide) h]; omega
  refine Eq.trans (congrArg (fun x => (pos 32 (by decide) x).val) ?_) (Cert.Lookup.pos_val 32 (by decide) (by decide) (A1 (ix1 b)) h)
  refine Eq.trans ?_ (Cert.Lookup.wrap (A1 (ix1 b)) 32#32 h0)
  pointwise [idxR]
  try rfl

theorem dotR_at (X : FVec Ideal S160x1024x1024 .f32) (A1 : IVec S160 32) (W : FVec Ideal S32x1024x1024 .f32) (b : Fin 160) (r f : Fin 1024) (h : (A1 (ix1 b)).toNat < 32) :
    dotR X A1 W (ix3 b r f) = ∑ d : Fin 1024, X (ix3 b r d) * W (ix3 ⟨(A1 (ix1 b)).toNat, h⟩ d f) := by
  refine (StackMember.dotGeneral_stack_apply _ none X _ b r f).trans (Finset.sum_congr rfl fun d _ => congrArg (X (ix3 b r d) * ·) ?_)
  refine (Cert.Lookup.take3 (by decide) _ W (idxR A1) b d f).trans ?_
  exact congrArg (fun k => W (ix3 k d f)) (Fin.ext (idxR_at A1 b h))

theorem biasR_at (A1 : IVec S160 32) (y : FVec Ideal S32x1024 .f32) (b : Fin 160) (r f : Fin 1024) (h : (A1 (ix1 b)).toNat < 32) :
    biasR A1 y (ix3 b r f) = y (ix2 ⟨(A1 (ix1 b)).toNat, h⟩ f) := by
  have e : biasR A1 y (ix3 b r f) = Host.gather gather_S32x1024_S160x1_S160x1024_1_0_n_n_0_1_11024 y (idxR A1) (ix2 b f) := by pointwise [biasR]
  refine e.trans ((Cert.Lookup.take2 (by decide) _ y (idxR A1) b f).trans ?_)
  exact congrArg (fun k => y (ix2 k f)) (Fin.ext (idxR_at A1 b h))

/-- The scale's two words are each other's negative. -/
theorem scale_neg (g : EReal) : -(Ideal.ofBits .f32 0x3FD9DB23#32 * g) = Ideal.ofBits .f32 0xBFD9DB23#32 * g := by
  have e : Ideal.ofBits .f32 0xBFD9DB23#32 = -Ideal.ofBits .f32 0x3FD9DB23#32 := by
    simp [Ideal.ofBits, Ideal.ieee]
  rw [e, EReal.neg_mul]

theorem actR_at (G U : FVec Ideal S160x1024x1024 .f32) (b : Fin 160) (r f : Fin 1024) : actR G U (ix3 b r f) = act (G (ix3 b r f)) (U (ix3 b r f)) := by
  unfold act
  rw [← scale_neg]
  pointwise [actR]
  rfl

theorem rowsR_at (A0 : FVec Ideal S163840x1024 .f32) (b : Fin 160) (r d : Fin 1024) : rowsR A0 (ix3 b r d) = A0 (ix2 ⟨1024 * b.val + r.val, by omega⟩ d) := by
  pointwise [rowsR]
  exact congrArg (fun k => A0 (ix2 k d)) (Fin.ext (by show b.val * 1024 + r.val = 1024 * b.val + r.val; omega))

theorem keepR_at (A2 : IVec S1 32) (Y : FVec Ideal S160x1024x1024 .f32) (b : Fin 160) (r d : Fin 1024) :
    keepR A2 Y (ix2 ⟨1024 * b.val + r.val, by omega⟩ d) = if IntOp.cmpi .slt (BitVec.ofNat 32 b.val) (A2 (ix1 0)) = 1#1 then Y (ix3 b r d) else Ideal.ofBits .f32 0x00000000#32 := by
  rw [Ideal.ofBits_zero_f32]
  pointwise [keepR]
  rw [show id (constant (F := Ideal) S_ .f32 0#32) ix0 = (0 : EReal) from Ideal.ofBits_zero_f32]
  rfl

/-- The reference's array at a row of a block that is not counted. -/
theorem outR_zero (A0 : FVec Ideal S163840x1024 .f32) (A1 : IVec S160 32) (A2 : IVec S1 32) (A3 : FVec Ideal S32x1024x1024 .f32) (A4 : FVec Ideal S32x1024 .f32) (A5 : FVec Ideal S32x1024x1024 .f32) (A6 : FVec Ideal S32x1024 .f32) (A7 : FVec Ideal S32x1024x1024 .f32) (A8 : FVec Ideal S32x1024 .f32)
    (b : Fin 160) (r e : Fin 1024) (h : ¬ IntOp.cmpi .slt (BitVec.ofNat 32 b.val) (A2 (ix1 0)) = 1#1) :
    outR A0 A1 A2 A3 A4 A5 A6 A7 A8 (ix2 ⟨1024 * b.val + r.val, by omega⟩ e) = Ideal.ofBits .f32 0x00000000#32 := by
  unfold outR
  rw [keepR_at, if_neg h]

/-- The reference's array at a row of a block whose expert exists. -/
theorem outR_at (A0 : FVec Ideal S163840x1024 .f32) (A1 : IVec S160 32) (A2 : IVec S1 32) (A3 : FVec Ideal S32x1024x1024 .f32) (A4 : FVec Ideal S32x1024 .f32) (A5 : FVec Ideal S32x1024x1024 .f32) (A6 : FVec Ideal S32x1024 .f32) (A7 : FVec Ideal S32x1024x1024 .f32) (A8 : FVec Ideal S32x1024 .f32)
    (b : Fin 160) (r e : Fin 1024) (h : (A1 (ix1 b)).toNat < 32) :
    outR A0 A1 A2 A3 A4 A5 A6 A7 A8 (ix2 ⟨1024 * b.val + r.val, by omega⟩ e) =
      if IntOp.cmpi .slt (BitVec.ofNat 32 b.val) (A2 (ix1 0)) = 1#1 then
        expert (fun d => A0 (ix2 ⟨1024 * b.val + r.val, by omega⟩ d)) (fun d f => A3 (ix3 ⟨(A1 (ix1 b)).toNat, h⟩ d f)) (fun f => A4 (ix2 ⟨(A1 (ix1 b)).toNat, h⟩ f))
          (fun d f => A5 (ix3 ⟨(A1 (ix1 b)).toNat, h⟩ d f)) (fun f => A6 (ix2 ⟨(A1 (ix1 b)).toNat, h⟩ f)) (fun f e => A7 (ix3 ⟨(A1 (ix1 b)).toNat, h⟩ f e)) (fun e => A8 (ix2 ⟨(A1 (ix1 b)).toNat, h⟩ e)) e
      else Ideal.ofBits .f32 0x00000000#32 := by
  unfold outR
  rw [keepR_at]
  refine congrArg (fun z => if IntOp.cmpi .slt (BitVec.ofNat 32 b.val) (A2 (ix1 0)) = 1#1 then z else Ideal.ofBits .f32 0x00000000#32) ?_
  have hl : ∀ (X : FVec Ideal S160x1024x1024 .f32) W y (r f : Fin 1024), addf (dotR X A1 W) (biasR A1 y) (ix3 b r f) = lin (fun d => X (ix3 b r d)) (fun d => W (ix3 ⟨(A1 (ix1 b)).toNat, h⟩ d f)) (y (ix2 ⟨(A1 (ix1 b)).toNat, h⟩ f)) := by
    intro X W y r f
    show dotR X A1 W (ix3 b r f) + biasR A1 y (ix3 b r f) = _
    rw [dotR_at X A1 W b r f h, biasR_at A1 y b r f h]
    rfl
  rw [hl]
  unfold expert
  refine congrArg (fun x => lin x _ _) (funext fun f => ?_)
  rw [actR_at, hl, hl]
  simp only [rowsR_at]

end Cert.Reference2Ideal.Value
end
-- ==== Proof.MArr.lean ====
/- The experts' output array: the windows' blocks as parts of the arguments, and the array the write-backs leave, equal to the
   reference's when the expert of every block that is read exists. -/
module

public import proofs.«01_k».proof.Proof.MPre
public import proofs.«01_k».proof.Proof.MSwi
public import proofs.«01_k».proof.Proof.MRef
public import Idealize.ShloMosaic.Lib.Pipeline.ValueKit
public import Idealize.ShloMosaic.Lib.Pipeline.Covers

@[expose] public section
set_option maxRecDepth 16384
noncomputable section
namespace Cert.Kernel2Ideal.Gen
open Idealize.ShloMosaic Idealize.ShloMosaic.TcCoe
open Pipeline (Dat Window)
open Cert.Lookup (lastW expert)

variable (m : (ℓ : Loc nD τ sig) → Buf (Elt Ideal) ℓ) (hO : Ok m)

/-! ## Where each window's block lies -/

/-- A grid point's block. -/
def blkAt (t : Fin (cfgM m hO).N) : Fin 160 := ⟨t.val, t.isLt⟩
/-- The expert whose weights the launch reads there. -/
def expAt (t : Fin (cfgM m hO).N) : ℕ := (m (((0 : Dev nD) : Thread nD τ).loc main_arg1) (ix1 (lastAt m 0 (blkAt m hO t)))).toNat

theorem blk_eq (t : Fin (cfgM m hO).N) : (⟨(grid0.coords t 0).val, (grid0.coords t 0).isLt⟩ : Fin 160) = blkAt m hO t := Fin.ext (coords_val t)

theorem row_index (t : Fin (cfgM m hO).N) : ((cfgM m hO).win 0).index t = ![(lastAt m 0 (blkAt m hO t)).val, 0] := by
  have h : ((cfgM m hO).win 0).index t = ![(lastW (grid0.coords t 0).val (usedW 0 (tbl m 1))).toNat, 0] := rfl
  rw [h, tbl_used m 0, ← blk_eq]
  rfl

theorem exp_word (t : Fin (cfgM m hO).N) : (expW 0 (grid0.coords t) (tbl m 0)).toNat = expAt m hO t := by
  rw [tbl_exp m 0 (grid0.coords t), blk_eq]
  rfl

theorem out_index : ∀ t : Fin grid0.N, cc0_transform_7 (grid0.coords t) = ![t.val, 0] := by decide +kernel

theorem used_cnt (t : Fin (cfgM m hO).N) : used m hO t ↔ IntOp.cmpi .slt (BitVec.ofNat 32 (blkAt m hO t).val) (m (((0 : Dev nD) : Thread nD τ).loc main_arg2) (ix1 0)) = 1#1 := by
  unfold used
  rw [tbl_used m 0, cond2_eq, ← blk_eq]
  rfl

/-- A block in use is read for itself. -/
theorem last_self (t : Fin (cfgM m hO).N) (h : used m hO t) : lastAt m 0 (blkAt m hO t) = blkAt m hO t := by
  refine lastAt_used m 0 _ ?_
  have h' := (used_iff (grid0.coords t) _).mp h
  rw [tbl_used m 0] at h'
  rw [← blk_eq]
  exact h'

/-! ## What the blocks hold -/

theorem x_at (t : Fin (cfgM m hO).N) (r d : Fin 1024) :
    iblk m hO 0 0 t (ix2 r d) = m (((0 : Dev nD) : Thread nD τ).loc main_arg0) (ix2 ⟨1024 * (lastAt m 0 (blkAt m hO t)).val + r.val, by have := (lastAt m 0 (blkAt m hO t)).isLt; omega⟩ d) := by
  show V m 0 main_arg0 ((((cfgM m hO).win 0).rect t).emb (ix2 r d)) = _
  rw [V_kept m 0 main_arg0 (by decide)]
  refine congrArg _ (funext fun a => Fin.ext ?_)
  refine (Window.rect_emb_val ((cfgM m hO).win 0) t (ix2 r d) a rfl).trans ?_
  rw [row_index]
  fin_cases a
  · show (lastAt m 0 (blkAt m hO t)).val * 1024 + r.val = 1024 * (lastAt m 0 (blkAt m hO t)).val + r.val
    omega
  · show 0 * 1024 + d.val = d.val
    omega

variable (hw : ∀ i : Fin 160, (m (((0 : Dev nD) : Thread nD τ).loc main_arg1) (ix1 (lastAt m 0 i))).toNat < 32)

theorem w1_at (t : Fin (cfgM m hO).N) (d f : Fin 1024) :
    iblk m hO 0 1 t (ix3 0 d f) = m (((0 : Dev nD) : Thread nD τ).loc main_arg3) (ix3 ⟨expAt m hO t, hw _⟩ d f) := by
  show V m 0 main_arg3 ((((cfgM m hO).win 1).rect t).emb (ix3 0 d f)) = _
  rw [V_kept m 0 main_arg3 (by decide)]
  refine congrArg _ (funext fun a => Fin.ext ?_)
  refine (Window.rect_emb_val ((cfgM m hO).win 1) t (ix3 0 d f) a rfl).trans ?_
  rw [wi1, exp_word]
  fin_cases a
  · show expAt m hO t * 1 + 0 = expAt m hO t
    omega
  · show 0 * 1024 + d.val = d.val
    omega
  · show 0 * 1024 + f.val = f.val
    omega

theorem w3_at (t : Fin (cfgM m hO).N) (d f : Fin 1024) :
    iblk m hO 0 3 t (ix3 0 d f) = m (((0 : Dev nD) : Thread nD τ).loc main_arg5) (ix3 ⟨expAt m hO t, hw _⟩ d f) := by
  show V m 0 main_arg5 ((((cfgM m hO).win 3).rect t).emb (ix3 0 d f)) = _
  rw [V_kept m 0 main_arg5 (by decide)]
  refine congrArg _ (funext fun a => Fin.ext ?_)
  refine (Window.rect_emb_val ((cfgM m hO).win 3) t (ix3 0 d f) a rfl).trans ?_
  rw [wi3, exp_word]
  fin_cases a
  · show expAt m hO t * 1 + 0 = expAt m hO t
    omega
  · show 0 * 1024 + d.val = d.val
    omega
  · show 0 * 1024 + f.val = f.val
    omega

theorem w5_at (t : Fin (cfgM m hO).N) (d f : Fin 1024) :
    iblk m hO 0 5 t (ix3 0 d f) = m (((0 : Dev nD) : Thread nD τ).loc main_arg7) (ix3 ⟨expAt m hO t, hw _⟩ d f) := by
  show V m 0 main_arg7 ((((cfgM m hO).win 5).rect t).emb (ix3 0 d f)) = _
  rw [V_kept m 0 main_arg7 (by decide)]
  refine congrArg _ (funext fun a => Fin.ext ?_)
  refine (Window.rect_emb_val ((cfgM m hO).win 5) t (ix3 0 d f) a rfl).trans ?_
  rw [wi5, exp_word]
  fin_cases a
  · show expAt m hO t * 1 + 0 = expAt m hO t
    omega
  · show 0 * 1024 + d.val = d.val
    omega
  · show 0 * 1024 + f.val = f.val
    omega

theorem v14_at (e : Fin 32) (f : Fin 1024) : V m 0 main_v14 (ix3 e 0 f) = m (((0 : Dev nD) : Thread nD τ).loc main_arg4) (ix2 e f) := by
  entry_read
  pointwise

theorem w2_at (t : Fin (cfgM m hO).N) (f : Fin 1024) :
    iblk m hO 0 2 t (ix3 0 0 f) = m (((0 : Dev nD) : Thread nD τ).loc main_arg4) (ix2 ⟨expAt m hO t, hw _⟩ f) := by
  refine Eq.trans ?_ (v14_at m ⟨expAt m hO t, hw _⟩ f)
  show V m 0 main_v14 ((((cfgM m hO).win 2).rect t).emb (ix3 0 0 f)) = _
  refine congrArg _ (funext fun a => Fin.ext ?_)
  refine (Window.rect_emb_val ((cfgM m hO).win 2) t (ix3 0 0 f) a rfl).trans ?_
  rw [wi2, exp_word]
  fin_cases a
  · show expAt m hO t * 1 + 0 = expAt m hO t
    omega
  · show 0 * 1 + 0 = 0
    omega
  · show 0 * 1024 + f.val = f.val
    omega

theorem v15_at (e : Fin 32) (f : Fin 1024) : V m 0 main_v15 (ix3 e 0 f) = m (((0 : Dev nD) : Thread nD τ).loc main_arg6) (ix2 e f) := by
  entry_read
  pointwise

theorem w4_at (t : Fin (cfgM m hO).N) (f : Fin 1024) :
    iblk m hO 0 4 t (ix3 0 0 f) = m (((0 : Dev nD) : Thread nD τ).loc main_arg6) (ix2 ⟨expAt m hO t, hw _⟩ f) := by
  refine Eq.trans ?_ (v15_at m ⟨expAt m hO t, hw _⟩ f)
  show V m 0 main_v15 ((((cfgM m hO).win 4).rect t).emb (ix3 0 0 f)) = _
  refine congrArg _ (funext fun a => Fin.ext ?_)
  refine (Window.rect_emb_val ((cfgM m hO).win 4) t (ix3 0 0 f) a rfl).trans ?_
  rw [wi4, exp_word]
  fin_cases a
  · show expAt m hO t * 1 + 0 = expAt m hO t
    omega
  · show 0 * 1 + 0 = 0
    omega
  · show 0 * 1024 + f.val = f.val
    omega

theorem v16_at (e : Fin 32) (f : Fin 1024) : V m 0 main_v16 (ix3 e 0 f) = m (((0 : Dev nD) : Thread nD τ).loc main_arg8) (ix2 e f) := by
  entry_read
  pointwise

theorem w6_at (t : Fin (cfgM m hO).N) (f : Fin 1024) :
    iblk m hO 0 6 t (ix3 0 0 f) = m (((0 : Dev nD) : Thread nD τ).loc main_arg8) (ix2 ⟨expAt m hO t, hw _⟩ f) := by
  refine Eq.trans ?_ (v16_at m ⟨expAt m hO t, hw _⟩ f)
  show V m 0 main_v16 ((((cfgM m hO).win 6).rect t).emb (ix3 0 0 f)) = _
  refine congrArg _ (funext fun a => Fin.ext ?_)
  refine (Window.rect_emb_val ((cfgM m hO).win 6) t (ix3 0 0 f) a rfl).trans ?_
  rw [wi6, exp_word]
  fin_cases a
  · show expAt m hO t * 1 + 0 = expAt m hO t
    omega
  · show 0 * 1 + 0 = 0
    omega
  · show 0 * 1024 + f.val = f.val
    omega

/-! ## The array -/

open Cert.Reference2Ideal.Value (outR outR_at outR_zero)

/-- The reference's result of the launch memory's arguments. -/
def want (c : Dev nD) : FVec Ideal S163840x1024 .f32 :=
  outR (F := Ideal) (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))

include hw in
/-- What a grid point leaves in its output block, at an element of the block. -/
theorem point (t : Fin (cfgM m hO).N) (r e : Fin 1024) :
    outBlk m hO 0 t (ix2 r e) = want m 0 (ix2 ⟨1024 * (blkAt m hO t).val + r.val, by have := (blkAt m hO t).isLt; omega⟩ e) := by
  unfold want
  unfold outBlk
  by_cases hu : used m hO t
  · have hl := last_self m hO t hu
    have hb : (m (((0 : Dev nD) : Thread nD τ).loc main_arg1) (ix1 (blkAt m hO t))).toNat < 32 := by
      have h := hw (blkAt m hO t)
      rwa [hl] at h
    rw [outR_at _ _ _ _ _ _ _ _ _ (blkAt m hO t) r e hb, if_pos hu, if_pos ((used_cnt m hO t).mp hu)]
    have hx : ∀ d, iblk m hO 0 0 t (ix2 r d) = m (((0 : Dev nD) : Thread nD τ).loc main_arg0) (ix2 ⟨1024 * (blkAt m hO t).val + r.val, by have := (blkAt m hO t).isLt; omega⟩ d) := by
      intro d
      rw [x_at]
      exact congrArg (fun k => m (((0 : Dev nD) : Thread nD τ).loc main_arg0) (ix2 k d)) (Fin.ext (congrArg (fun k : Fin 160 => 1024 * k.val + r.val) hl))
    have he : (⟨expAt m hO t, hw _⟩ : Fin 32) = ⟨(m (((0 : Dev nD) : Thread nD τ).loc main_arg1) (ix1 (blkAt m hO t))).toNat, hb⟩ := Fin.ext (by
      show (m (((0 : Dev nD) : Thread nD τ).loc main_arg1) (ix1 (lastAt m 0 (blkAt m hO t)))).toNat = _
      rw [hl])
    exact (moe_at (iblk m hO 0 0 t) (iblk m hO 0 1 t) (iblk m hO 0 3 t) (iblk m hO 0 5 t) (iblk m hO 0 2 t) (iblk m hO 0 4 t) (iblk m hO 0 6 t) r e).trans
      (Cert.Lookup.expert_congr hx (fun d f => (w1_at m hO hw t d f).trans (congrArg (fun k => m (((0 : Dev nD) : Thread nD τ).loc main_arg3) (ix3 k d f)) he))
        (fun f => (w2_at m hO hw t f).trans (congrArg (fun k => m (((0 : Dev nD) : Thread nD τ).loc main_arg4) (ix2 k f)) he))
        (fun d f => (w3_at m hO hw t d f).trans (congrArg (fun k => m (((0 : Dev nD) : Thread nD τ).loc main_arg5) (ix3 k d f)) he))
        (fun f => (w4_at m hO hw t f).trans (congrArg (fun k => m (((0 : Dev nD) : Thread nD τ).loc main_arg6) (ix2 k f)) he))
        (fun d f => (w5_at m hO hw t d f).trans (congrArg (fun k => m (((0 : Dev nD) : Thread nD τ).loc main_arg7) (ix3 k d f)) he))
        (fun f => (w6_at m hO hw t f).trans (congrArg (fun k => m (((0 : Dev nD) : Thread nD τ).loc main_arg8) (ix2 k f)) he)) e)
  · rw [outR_zero _ _ _ _ _ _ _ _ _ (blkAt m hO t) r e (fun h => hu ((used_cnt m hO t).mpr h)), if_neg hu, zero_at]

/-- Where an element of the output block lies in the array. -/
theorem out_emb (t : Fin (cfgM m hO).N) (r e : Fin 1024) :
    (((cfgM m hO).win 7).rect t).emb (ix2 r e) = (ix2 ⟨1024 * (blkAt m hO t).val + r.val, by have := (blkAt m hO t).isLt; omega⟩ e : S163840x1024.Idx) := by
  refine funext fun a => Fin.ext ?_
  refine (Window.rect_emb_val ((cfgM m hO).win 7) t (ix2 r e) a rfl).trans ?_
  rw [show ((cfgM m hO).win 7).index t = ![t.val, 0] from out_index t]
  fin_cases a
  · show t.val * 1024 + r.val = 1024 * t.val + r.val
    omega
  · show 0 * 1024 + e.val = e.val
    omega

/-- An index of the output block by its coordinates. -/
theorem out_idx (y : S1024x1024.Idx) : ∃ (r e : Fin 1024), y = ix2 r e := by
  refine ⟨⟨(y 0).val, (y 0).isLt⟩, ⟨(y 1).val, (y 1).isLt⟩, funext fun a => ?_⟩
  fin_cases a <;> rfl

/-- The output blocks fill the array. -/
theorem cov : ((cfgM m hO).win 7).Covers := by
  refine Window.covers_of_index_surj _ rfl (show ∀ a, 0 < S1024x1024.size a by decide) fun β => ?_
  have h0 : (β (0 : Fin 2)).val < 160 := lt_of_lt_of_eq (show (β (0 : Fin 2)).val < (S163840x1024.size 0 + S1024x1024.size 0 - 1) / S1024x1024.size 0 from (β (0 : Fin 2)).isLt) (by decide)
  have h1 : (β (1 : Fin 2)).val < 1 := lt_of_lt_of_eq (show (β (1 : Fin 2)).val < (S163840x1024.size 1 + S1024x1024.size 1 - 1) / S1024x1024.size 1 from (β (1 : Fin 2)).isLt) (by decide)
  refine ⟨⟨(β (0 : Fin 2)).val, h0⟩, fun a => ?_⟩
  rw [show ((cfgM m hO).win 7).index ⟨(β (0 : Fin 2)).val, h0⟩ = ![(β (0 : Fin 2)).val, 0] from out_index ⟨(β (0 : Fin 2)).val, h0⟩]
  fin_cases a
  · rfl
  · show 0 = (β (1 : Fin 2)).val
    omega

include hw in
/-- The array after the run is the reference's. -/
theorem final : (dats m hO 0 0).arrAt 7 (cfgM m hO).N = want m 0 := by
  refine (dats m hO 0 0).arrAt_eq_of_covers 7 _ (cov m hO) fun t _ y => ?_
  show (dats m hO 0 0).after 7 t y = want m 0 ((((cfgM m hO).win 7).rect t).emb y)
  rw [after0_7]
  obtain ⟨r, e, rfl⟩ := out_idx y
  exact (point m hO hw t r e).trans (congrArg (want m 0) (out_emb m hO t r e).symm)

end Cert.Kernel2Ideal.Gen
end
-- ==== Proof.lean ====
module

public import proofs.«01_k».proof.Defs
public import proofs.«01_k».proof.Proof.Gen.Kernel
public import proofs.«01_k».proof.Proof.BFrame
public import proofs.«01_k».proof.Proof.Gen.KernelIdeal
public import proofs.«01_k».proof.Proof.Gen.ReferenceIdeal
public import proofs.«01_k».proof.Proof.Gen.ReferenceIdeal.Run
public import proofs.«01_k».proof.Proof.Gen.Pre_packed
public import proofs.«01_k».proof.Proof.KArr
public import proofs.«01_k».proof.Proof.NPre
public import proofs.«01_k».proof.Proof.MArr
public import proofs.«01_k».proof.Proof.Gen.Reference2Ideal.Run
public import proofs.«01_k».proof.Proof.Gen.Pre_experts_exist
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The reference leaves its arguments as they were, and it has no semaphore. -/
theorem frame_ref : Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩)
    (Cert.ReferenceIdeal.Value.run (F := Ideal) m g)

/-- Under the precondition every device's arguments are as the attention's proof wants them. -/
theorem fineAt (m : (ℓ : Loc Cert.KernelIdeal.nD Cert.KernelIdeal.τ Cert.KernelIdeal.sig) → Buf (Elt Ideal) ℓ)
    (hpre : Cert.Pre_KernelIdeal_packed (hPre_packed := Cert.Pre_packed.Gen.facts) m) (c : Dev Cert.KernelIdeal.nD) : Cert.KernelIdeal.Gen.FineAt m c := by
  obtain ⟨h0, h1, h2, h3, h4, h5, h6, h7, h8, h9, h10⟩ := hpre c
  exact Cert.Pre_packed.fine _ _ _ _ _ _ _ _ h0 h1 h2 h3 h4 h5 h6 h7 h8 h9 h10

/-- The idealized kernel's result is the reference's. -/
theorem algebraic : Cert.algebraic_KernelIdeal_ReferenceIdeal_pre_packed (hKernelIdeal := Cert.KernelIdeal.Gen.facts)
    (hReferenceIdeal := Cert.ReferenceIdeal.Gen.facts) (hPre_packed := Cert.Pre_packed.Gen.facts) := by
  intro m g m' g' hpre hagree
  refine ⟨fun c => Cert.KernelIdeal.Gen.want m c, ?_, ?_⟩
  · refine (θ_run (Cert.KernelIdeal.defs (F := Ideal)) _ _).mono (fun r h c => ?_)
      (θ_run_and (Cert.KernelIdeal.Gen.run_main (F := Ideal) m g trivial) (Cert.KernelIdeal.Gen.unchanged (F := Ideal) m g trivial))
    exact ⟨((h.1 c).1 8).trans (Cert.KernelIdeal.Gen.final m trivial c (fineAt m hpre c)), h.2 c⟩
  · refine (θ_run (Cert.ReferenceIdeal.defs (F := Ideal)) _ _).mono (fun r h c => ⟨(h c).1.trans ?_, (h c).2⟩)
      (Cert.ReferenceIdeal.Value.run (F := Ideal) m' g')
    rw [Cert.ReferenceIdeal.Value.res_eq]
    unfold Cert.KernelIdeal.Gen.want
    obtain ⟨_, h1, h2, h3, h4, h5, h6, h7⟩ := hagree c
    rw [h1, h2, h3, h4, h5, h6, h7]

/-- The experts' reference leaves its arguments as they were, and it has no semaphore. -/
theorem frame_ref2 : Cert.quiescent_Reference2Ideal (hReference2Ideal := Cert.Reference2Ideal.Gen.facts) := fun m g _ =>
  (θ_run (Cert.Reference2Ideal.defs (F := Ideal)) _ _).mono
    (fun r h => ⟨fun c => (h c).2, sem_eq_zero_of_no_sems (by decide) r.2⟩)
    (Cert.Reference2Ideal.Value.run (F := Ideal) m g)

/-- Under the precondition every block the experts' launch names lies in its array. -/
theorem ok_kernel2 (m : (ℓ : Loc Cert.Kernel2.nD Cert.Kernel2.τ Cert.Kernel2.sig) → Buf (Elt Bits) ℓ)
    (hpre : Cert.Pre_Kernel2 (hPre_experts_exist := Cert.Pre_experts_exist.Gen.facts) m) : Cert.Kernel2.Gen.Ok m :=
  Cert.Kernel2.Gen.ok_of_small m (Cert.Kernel2.Gen.last_small m (Cert.Lookup.small_of_pre _ _ _ _ _ _ _ _ _ (hpre 0)))

theorem ok_kernel2_ideal (m : (ℓ : Loc Cert.Kernel2Ideal.nD Cert.Kernel2Ideal.τ Cert.Kernel2Ideal.sig) → Buf (Elt Ideal) ℓ)
    (hpre : Cert.Pre_Kernel2Ideal (hPre_experts_exist := Cert.Pre_experts_exist.Gen.facts) m) : Cert.Kernel2Ideal.Gen.Ok m :=
  Cert.Kernel2Ideal.Gen.ok_of_small m (Cert.Kernel2Ideal.Gen.last_small m (Cert.Lookup.small_of_pre _ _ _ _ _ _ _ _ _ (hpre 0)))

/-- The idealized experts' call has the reference's result. -/
theorem algebraic2 : Cert.algebraic_Kernel2Ideal_Reference2Ideal (hKernel2Ideal := Cert.Kernel2Ideal.Gen.facts)
    (hReference2Ideal := Cert.Reference2Ideal.Gen.facts) (hPre_experts_exist := Cert.Pre_experts_exist.Gen.facts) := by
  intro m g m' g' hpre hagree
  have hO := ok_kernel2_ideal m hpre
  have hw := Cert.Kernel2Ideal.Gen.last_small m (Cert.Lookup.small_of_pre _ _ _ _ _ _ _ _ _ (hpre 0))
  refine ⟨fun c => Cert.Kernel2Ideal.Gen.want m c, ?_, ?_⟩
  · refine (θ_run (Cert.Kernel2Ideal.defs (F := Ideal)) _ _).mono (fun r h c => ?_)
      (θ_run_and (Cert.Kernel2Ideal.Gen.run_main (F := Ideal) m g hO) (Cert.Kernel2Ideal.Gen.unchanged (F := Ideal) m g hO))
    obtain rfl : c = 0 := Subsingleton.elim _ _
    exact ⟨((h.1 0).1 7).trans (Cert.Kernel2Ideal.Gen.final m hO hw), h.2 0⟩
  · refine (θ_run (Cert.Reference2Ideal.defs (F := Ideal)) _ _).mono (fun r h c => ⟨(h c).1.trans ?_, (h c).2⟩)
      (Cert.Reference2Ideal.Value.run (F := Ideal) m' g')
    rw [Cert.Reference2Ideal.Value.res_eq]
    unfold Cert.Kernel2Ideal.Gen.want
    obtain ⟨h0, h1, h2, h3, h4, h5, h6, h7, h8⟩ := hagree c
    rw [h0, h1, h2, h3, h4, h5, h6, h7, h8]

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Pre_packed.Gen.facts, Cert.Pre_experts_exist.Gen.facts,
  fun m g _ => Cert.Kernel.Gen.frame m g trivial,
  fun m g _ => Cert.KernelIdeal.Gen.frame m g trivial,
  fun m g _ => Cert.KernelIdeal.Gen.frame m g trivial,
  frame_ref,
  fun m g _ => frame_ref m g trivial,
  fun m g hpre => Cert.Kernel2.Gen.frame m g (ok_kernel2 m hpre),
  fun m g hpre => Cert.Kernel2Ideal.Gen.frame m g (ok_kernel2_ideal m hpre),
  frame_ref2,
  fun m g _ => frame_ref2 m g trivial,
  trivial,
  algebraic,
  trivial,
  algebraic2⟩

end Cert.Proof

end
